-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![256, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x256x512 : Shape := ⟨3, ![3, 256, 512]⟩
abbrev S3x512x256 : Shape := ⟨3, ![3, 512, 256]⟩
abbrev S2x256x512 : Shape := ⟨3, ![2, 256, 512]⟩
abbrev S2 : Shape := ⟨1, ![2]⟩
abbrev S3 : Shape := ⟨1, ![3]⟩
abbrev S4x4x64x128 : Shape := ⟨4, ![4, 4, 64, 128]⟩
abbrev S4x3x64x128 : Shape := ⟨4, ![4, 3, 64, 128]⟩
abbrev S4x3 : Shape := ⟨2, ![4, 3]⟩
abbrev S1 : Shape := ⟨1, ![1]⟩
abbrev S_ : Shape := ⟨0, ![]⟩
abbrev S1x512x256 : Shape := ⟨3, ![1, 512, 256]⟩
abbrev S1x256x512 : Shape := ⟨3, ![1, 256, 512]⟩
abbrev S64x256 : Shape := ⟨2, ![64, 256]⟩
abbrev S64x512 : Shape := ⟨2, ![64, 512]⟩
abbrev S64x128 : Shape := ⟨2, ![64, 128]⟩
abbrev S1x1x64x128 : Shape := ⟨4, ![1, 1, 64, 128]⟩
abbrev S1x1 : Shape := ⟨2, ![1, 1]⟩

abbrev nBuf : Space → Nat
  | .hbm => 8
  | .vmem => 10
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S256x256, .f32⟩
  | .local _ .vmem, ⟨3, _⟩ => ⟨S3x256x512, .bf16⟩
  | .local _ .vmem, ⟨4, _⟩ => ⟨S3x512x256, .bf16⟩
  | .local _ .vmem, ⟨5, _⟩ => ⟨S2x256x512, .f32⟩
  | .local _ .vmem, ⟨6, _⟩ => ⟨S3x512x256, .f32⟩
  | .local _ .vmem, ⟨7, _⟩ => ⟨S4x4x64x128, .bf16⟩
  | .local _ .vmem, ⟨8, _⟩ => ⟨S4x3x64x128, .bf16⟩
  | .local _ .vmem, ⟨9, _⟩ => ⟨S4x4x64x128, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v24 : BitVec 32 := Scalar.addi v2 c1_i32_18
  let c0_i32_19 : BitVec 32 := 0#32
  let v25 : BitVec 32 := Scalar.addi v24 c0_i32_19
  let c4_i32_20 : BitVec 32 := 4#32
  let v26 : BitVec 32 := Scalar.remsi v25 c4_i32_20
  let c1_i32_22 : BitVec 32 := 1#32
  let v27 : BitVec 32 := Scalar.muli v26 c1_i32_22
  let v28 : BitVec 32 := Scalar.addi c0_i32_23 v27
  v28.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v29 : BitVec 32 := Scalar.addi v2 c1_i32_24
  let c1_i32_25 : BitVec 32 := 1#32
  let v30 : BitVec 32 := Scalar.addi v29 c1_i32_25
  let c4_i32_26 : BitVec 32 := 4#32
  let v31 : BitVec 32 := Scalar.remsi v30 c4_i32_26
  let c1_i32_28 : BitVec 32 := 1#32
  let v32 : BitVec 32 := Scalar.muli v31 c1_i32_28
  let v33 : BitVec 32 := Scalar.addi c0_i32_29 v32
  v33.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v34 : BitVec 32 := Scalar.addi v2 c1_i32_30
  let c2_i32_31 : BitVec 32 := 2#32
  let v35 : BitVec 32 := Scalar.addi v34 c2_i32_31
  let c4_i32_32 : BitVec 32 := 4#32
  let v36 : BitVec 32 := Scalar.remsi v35 c4_i32_32
  let c1_i32_34 : BitVec 32 := 1#32
  let v37 : BitVec 32 := Scalar.muli v36 c1_i32_34
  let v38 : BitVec 32 := Scalar.addi c0_i32_35 v37
  v38.toNat
def k0_off1 (d0 : Dev nD) (c0_i32_62 : BitVec 32) : Fin 4 → Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_61 : BitVec 32 := 1#32
  let v74 : BitVec 32 := Scalar.addi v2 c1_i32_61
  let v75 : BitVec 32 := Scalar.addi v74 c0_i32_62
  let c4_i32_63 : BitVec 32 := 4#32
  let v76 : BitVec 32 := Scalar.remsi v75 c4_i32_63
  let c0_i32_75 : BitVec 32 := 0#32
  let c0_i32_76 : BitVec 32 := 0#32
  ![0, v76.toNat, 0, 0]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_61 : BitVec 32 := 1#32
  let v74 : BitVec 32 := Scalar.addi v2 c1_i32_61
  let c0_i32_62 : BitVec 32 := 0#32
  let v75 : BitVec 32 := Scalar.addi v74 c0_i32_62
  let c4_i32_63 : BitVec 32 := 4#32
  let v76 : BitVec 32 := Scalar.remsi v75 c4_i32_63
  let c1_i32_71 : BitVec 32 := 1#32
  let v77 : BitVec 32 := Scalar.muli v76 c1_i32_71
  let v78 : BitVec 32 := Scalar.addi c0_i32_72 v77
  v78.toNat
def k0_dev5 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v87 : BitVec 32 := Scalar.addi v2 c1_i32_77
  let c1_i32_78 : BitVec 32 := 1#32
  let v88 : BitVec 32 := Scalar.addi v87 c1_i32_78
  let c4_i32_79 : BitVec 32 := 4#32
  let v89 : BitVec 32 := Scalar.remsi v88 c4_i32_79
  let c1_i32_87 : BitVec 32 := 1#32
  let v90 : BitVec 32 := Scalar.muli v89 c1_i32_87
  let v91 : BitVec 32 := Scalar.addi c0_i32_88 v90
  v91.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_93 : BitVec 32 := 1#32
  let v100 : BitVec 32 := Scalar.addi v2 c1_i32_93
  let c2_i32_94 : BitVec 32 := 2#32
  let v101 : BitVec 32 := Scalar.addi v100 c2_i32_94
  let c4_i32_95 : BitVec 32 := 4#32
  let v102 : BitVec 32 := Scalar.remsi v101 c4_i32_95
  let c1_i32_103 : BitVec 32 := 1#32
  let v103 : BitVec 32 := Scalar.muli v102 c1_i32_103
  let v104 : BitVec 32 := Scalar.addi c0_i32_104 v103
  v104.toNat
def k0_off2 (d0 : Dev nD) : Fin 4 → Nat :=
  let c0_109 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : Index := Scalar.indexCast v2
  let c0_110 : Index := 0#32
  let c0_111 : Index := 0#32
  ![0, v113.toNat, 0, 0]
def k0_off3 (d0 : Dev nD) (c0_i32_133 : BitVec 32) : Fin 4 → Nat :=
  let c1_i32_135 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_132 : BitVec 32 := 1#32
  let v138 : BitVec 32 := Scalar.addi v2 c1_i32_132
  let v139 : BitVec 32 := Scalar.addi v138 c0_i32_133
  let c4_i32_134 : BitVec 32 := 4#32
  let v140 : BitVec 32 := Scalar.remsi v139 c4_i32_134
  let c0_i32_146 : BitVec 32 := 0#32
  let c0_i32_147 : BitVec 32 := 0#32
  ![1, v140.toNat, 0, 0]
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_132 : BitVec 32 := 1#32
  let v138 : BitVec 32 := Scalar.addi v2 c1_i32_132
  let c0_i32_133 : BitVec 32 := 0#32
  let v139 : BitVec 32 := Scalar.addi v138 c0_i32_133
  let c4_i32_134 : BitVec 32 := 4#32
  let v140 : BitVec 32 := Scalar.remsi v139 c4_i32_134
  let c1_i32_142 : BitVec 32 := 1#32
  let v141 : BitVec 32 := Scalar.muli v140 c1_i32_142
  let v142 : BitVec 32 := Scalar.addi c0_i32_143 v141
  v142.toNat
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_148 : BitVec 32 := 1#32
  let v151 : BitVec 32 := Scalar.addi v2 c1_i32_148
  let c1_i32_149 : BitVec 32 := 1#32
  let v152 : BitVec 32 := Scalar.addi v151 c1_i32_149
  let c4_i32_150 : BitVec 32 := 4#32
  let v153 : BitVec 32 := Scalar.remsi v152 c4_i32_150
  let c1_i32_158 : BitVec 32 := 1#32
  let v154 : BitVec 32 := Scalar.muli v153 c1_i32_158
  let v155 : BitVec 32 := Scalar.addi c0_i32_159 v154
  v155.toNat
def k0_dev9 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_164 : BitVec 32 := 1#32
  let v164 : BitVec 32 := Scalar.addi v2 c1_i32_164
  let c2_i32_165 : BitVec 32 := 2#32
  let v165 : BitVec 32 := Scalar.addi v164 c2_i32_165
  let c4_i32_166 : BitVec 32 := 4#32
  let v166 : BitVec 32 := Scalar.remsi v165 c4_i32_166
  let c1_i32_174 : BitVec 32 := 1#32
  let v167 : BitVec 32 := Scalar.muli v166 c1_i32_174
  let v168 : BitVec 32 := Scalar.addi c0_i32_175 v167
  v168.toNat
def k0_off4 (d0 : Dev nD) : Fin 4 → Nat :=
  let c1_180 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v177 : Index := Scalar.indexCast v2
  let c0_181 : Index := 0#32
  let c0_182 : Index := 0#32
  ![1, v177.toNat, 0, 0]
def k0_off5 (d0 : Dev nD) (c0_i32_204 : BitVec 32) : Fin 4 → Nat :=
  let c2_i32_206 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_203 : BitVec 32 := 1#32
  let v202 : BitVec 32 := Scalar.addi v2 c1_i32_203
  let v203 : BitVec 32 := Scalar.addi v202 c0_i32_204
  let c4_i32_205 : BitVec 32 := 4#32
  let v204 : BitVec 32 := Scalar.remsi v203 c4_i32_205
  let c0_i32_217 : BitVec 32 := 0#32
  let c0_i32_218 : BitVec 32 := 0#32
  ![2, v204.toNat, 0, 0]
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_203 : BitVec 32 := 1#32
  let v202 : BitVec 32 := Scalar.addi v2 c1_i32_203
  let c0_i32_204 : BitVec 32 := 0#32
  let v203 : BitVec 32 := Scalar.addi v202 c0_i32_204
  let c4_i32_205 : BitVec 32 := 4#32
  let v204 : BitVec 32 := Scalar.remsi v203 c4_i32_205
  let c1_i32_213 : BitVec 32 := 1#32
  let v205 : BitVec 32 := Scalar.muli v204 c1_i32_213
  let v206 : BitVec 32 := Scalar.addi c0_i32_214 v205
  v206.toNat
def k0_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_219 : BitVec 32 := 1#32
  let v215 : BitVec 32 := Scalar.addi v2 c1_i32_219
  let c1_i32_220 : BitVec 32 := 1#32
  let v216 : BitVec 32 := Scalar.addi v215 c1_i32_220
  let c4_i32_221 : BitVec 32 := 4#32
  let v217 : BitVec 32 := Scalar.remsi v216 c4_i32_221
  let c1_i32_229 : BitVec 32 := 1#32
  let v218 : BitVec 32 := Scalar.muli v217 c1_i32_229
  let v219 : BitVec 32 := Scalar.addi c0_i32_230 v218
  v219.toNat
def k0_dev12 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_235 : BitVec 32 := 1#32
  let v228 : BitVec 32 := Scalar.addi v2 c1_i32_235
  let c2_i32_236 : BitVec 32 := 2#32
  let v229 : BitVec 32 := Scalar.addi v228 c2_i32_236
  let c4_i32_237 : BitVec 32 := 4#32
  let v230 : BitVec 32 := Scalar.remsi v229 c4_i32_237
  let c1_i32_245 : BitVec 32 := 1#32
  let v231 : BitVec 32 := Scalar.muli v230 c1_i32_245
  let v232 : BitVec 32 := Scalar.addi c0_i32_246 v231
  v232.toNat
def k0_off6 (d0 : Dev nD) : Fin 4 → Nat :=
  let c2_251 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v241 : Index := Scalar.indexCast v2
  let c0_252 : Index := 0#32
  let c0_253 : Index := 0#32
  ![2, v241.toNat, 0, 0]
def k0_off7 (d0 : Dev nD) (c0_i32_275 : BitVec 32) : Fin 4 → Nat :=
  let c3_i32_277 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_274 : BitVec 32 := 1#32
  let v266 : BitVec 32 := Scalar.addi v2 c1_i32_274
  let v267 : BitVec 32 := Scalar.addi v266 c0_i32_275
  let c4_i32_276 : BitVec 32 := 4#32
  let v268 : BitVec 32 := Scalar.remsi v267 c4_i32_276
  let c0_i32_288 : BitVec 32 := 0#32
  let c0_i32_289 : BitVec 32 := 0#32
  ![3, v268.toNat, 0, 0]
def k0_dev13 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_274 : BitVec 32 := 1#32
  let v266 : BitVec 32 := Scalar.addi v2 c1_i32_274
  let c0_i32_275 : BitVec 32 := 0#32
  let v267 : BitVec 32 := Scalar.addi v266 c0_i32_275
  let c4_i32_276 : BitVec 32 := 4#32
  let v268 : BitVec 32 := Scalar.remsi v267 c4_i32_276
  let c1_i32_284 : BitVec 32 := 1#32
  let v269 : BitVec 32 := Scalar.muli v268 c1_i32_284
  let v270 : BitVec 32 := Scalar.addi c0_i32_285 v269
  v270.toNat
def k0_dev14 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_290 : BitVec 32 := 1#32
  let v279 : BitVec 32 := Scalar.addi v2 c1_i32_290
  let c1_i32_291 : BitVec 32 := 1#32
  let v280 : BitVec 32 := Scalar.addi v279 c1_i32_291
  let c4_i32_292 : BitVec 32 := 4#32
  let v281 : BitVec 32 := Scalar.remsi v280 c4_i32_292
  let c1_i32_300 : BitVec 32 := 1#32
  let v282 : BitVec 32 := Scalar.muli v281 c1_i32_300
  let v283 : BitVec 32 := Scalar.addi c0_i32_301 v282
  v283.toNat
def k0_dev15 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_306 : BitVec 32 := 1#32
  let v292 : BitVec 32 := Scalar.addi v2 c1_i32_306
  let c2_i32_307 : BitVec 32 := 2#32
  let v293 : BitVec 32 := Scalar.addi v292 c2_i32_307
  let c4_i32_308 : BitVec 32 := 4#32
  let v294 : BitVec 32 := Scalar.remsi v293 c4_i32_308
  let c1_i32_316 : BitVec 32 := 1#32
  let v295 : BitVec 32 := Scalar.muli v294 c1_i32_316
  let v296 : BitVec 32 := Scalar.addi c0_i32_317 v295
  v296.toNat
def k0_off8 (d0 : Dev nD) : Fin 4 → Nat :=
  let c3_322 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v305 : Index := Scalar.indexCast v2
  let c0_323 : Index := 0#32
  let c0_324 : Index := 0#32
  ![3, v305.toNat, 0, 0]
def k0_off9 (d0 : Dev nD) : Fin 4 → Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_427 : BitVec 32 := 0#32
  let c0_i32_428 : BitVec 32 := 0#32
  ![0, v2.toNat, 0, 0]
def k0_dev16 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_416 : BitVec 32 := 1#32
  let v370 : BitVec 32 := Scalar.addi v2 c1_i32_416
  let c0_i32_417 : BitVec 32 := 0#32
  let v371 : BitVec 32 := Scalar.addi v370 c0_i32_417
  let c4_i32_418 : BitVec 32 := 4#32
  let v372 : BitVec 32 := Scalar.remsi v371 c4_i32_418
  let c1_i32_425 : BitVec 32 := 1#32
  let v373 : BitVec 32 := Scalar.muli v372 c1_i32_425
  let v374 : BitVec 32 := Scalar.addi c0_i32_426 v373
  v374.toNat
def k0_dev17 (d0 : Dev nD) : Nat :=
  let c0_i32_441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_431 : BitVec 32 := 1#32
  let v383 : BitVec 32 := Scalar.addi v2 c1_i32_431
  let c1_i32_432 : BitVec 32 := 1#32
  let v384 : BitVec 32 := Scalar.addi v383 c1_i32_432
  let c4_i32_433 : BitVec 32 := 4#32
  let v385 : BitVec 32 := Scalar.remsi v384 c4_i32_433
  let c1_i32_440 : BitVec 32 := 1#32
  let v386 : BitVec 32 := Scalar.muli v385 c1_i32_440
  let v387 : BitVec 32 := Scalar.addi c0_i32_441 v386
  v387.toNat
def k0_dev18 (d0 : Dev nD) : Nat :=
  let c0_i32_456 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_446 : BitVec 32 := 1#32
  let v396 : BitVec 32 := Scalar.addi v2 c1_i32_446
  let c2_i32_447 : BitVec 32 := 2#32
  let v397 : BitVec 32 := Scalar.addi v396 c2_i32_447
  let c4_i32_448 : BitVec 32 := 4#32
  let v398 : BitVec 32 := Scalar.remsi v397 c4_i32_448
  let c1_i32_455 : BitVec 32 := 1#32
  let v399 : BitVec 32 := Scalar.muli v398 c1_i32_455
  let v400 : BitVec 32 := Scalar.addi c0_i32_456 v399
  v400.toNat
def k0_off10 (d0 : Dev nD) : Fin 4 → Nat :=
  let c1_i32_556 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_563 : BitVec 32 := 0#32
  let c0_i32_564 : BitVec 32 := 0#32
  ![1, v2.toNat, 0, 0]
def k0_dev19 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_552 : BitVec 32 := 1#32
  let v470 : BitVec 32 := Scalar.addi v2 c1_i32_552
  let c0_i32_553 : BitVec 32 := 0#32
  let v471 : BitVec 32 := Scalar.addi v470 c0_i32_553
  let c4_i32_554 : BitVec 32 := 4#32
  let v472 : BitVec 32 := Scalar.remsi v471 c4_i32_554
  let c1_i32_561 : BitVec 32 := 1#32
  let v473 : BitVec 32 := Scalar.muli v472 c1_i32_561
  let v474 : BitVec 32 := Scalar.addi c0_i32_562 v473
  v474.toNat
def k0_dev20 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_567 : BitVec 32 := 1#32
  let v483 : BitVec 32 := Scalar.addi v2 c1_i32_567
  let c1_i32_568 : BitVec 32 := 1#32
  let v484 : BitVec 32 := Scalar.addi v483 c1_i32_568
  let c4_i32_569 : BitVec 32 := 4#32
  let v485 : BitVec 32 := Scalar.remsi v484 c4_i32_569
  let c1_i32_576 : BitVec 32 := 1#32
  let v486 : BitVec 32 := Scalar.muli v485 c1_i32_576
  let v487 : BitVec 32 := Scalar.addi c0_i32_577 v486
  v487.toNat
def k0_dev21 (d0 : Dev nD) : Nat :=
  let c0_i32_592 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_582 : BitVec 32 := 1#32
  let v496 : BitVec 32 := Scalar.addi v2 c1_i32_582
  let c2_i32_583 : BitVec 32 := 2#32
  let v497 : BitVec 32 := Scalar.addi v496 c2_i32_583
  let c4_i32_584 : BitVec 32 := 4#32
  let v498 : BitVec 32 := Scalar.remsi v497 c4_i32_584
  let c1_i32_591 : BitVec 32 := 1#32
  let v499 : BitVec 32 := Scalar.muli v498 c1_i32_591
  let v500 : BitVec 32 := Scalar.addi c0_i32_592 v499
  v500.toNat
def k0_off11 (d0 : Dev nD) : Fin 4 → Nat :=
  let c2_i32_692 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_699 : BitVec 32 := 0#32
  let c0_i32_700 : BitVec 32 := 0#32
  ![2, v2.toNat, 0, 0]
def k0_dev22 (d0 : Dev nD) : Nat :=
  let c0_i32_698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_688 : BitVec 32 := 1#32
  let v570 : BitVec 32 := Scalar.addi v2 c1_i32_688
  let c0_i32_689 : BitVec 32 := 0#32
  let v571 : BitVec 32 := Scalar.addi v570 c0_i32_689
  let c4_i32_690 : BitVec 32 := 4#32
  let v572 : BitVec 32 := Scalar.remsi v571 c4_i32_690
  let c1_i32_697 : BitVec 32 := 1#32
  let v573 : BitVec 32 := Scalar.muli v572 c1_i32_697
  let v574 : BitVec 32 := Scalar.addi c0_i32_698 v573
  v574.toNat
def k0_dev23 (d0 : Dev nD) : Nat :=
  let c0_i32_713 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_703 : BitVec 32 := 1#32
  let v583 : BitVec 32 := Scalar.addi v2 c1_i32_703
  let c1_i32_704 : BitVec 32 := 1#32
  let v584 : BitVec 32 := Scalar.addi v583 c1_i32_704
  let c4_i32_705 : BitVec 32 := 4#32
  let v585 : BitVec 32 := Scalar.remsi v584 c4_i32_705
  let c1_i32_712 : BitVec 32 := 1#32
  let v586 : BitVec 32 := Scalar.muli v585 c1_i32_712
  let v587 : BitVec 32 := Scalar.addi c0_i32_713 v586
  v587.toNat
def k0_dev24 (d0 : Dev nD) : Nat :=
  let c0_i32_728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_718 : BitVec 32 := 1#32
  let v596 : BitVec 32 := Scalar.addi v2 c1_i32_718
  let c2_i32_719 : BitVec 32 := 2#32
  let v597 : BitVec 32 := Scalar.addi v596 c2_i32_719
  let c4_i32_720 : BitVec 32 := 4#32
  let v598 : BitVec 32 := Scalar.remsi v597 c4_i32_720
  let c1_i32_727 : BitVec 32 := 1#32
  let v599 : BitVec 32 := Scalar.muli v598 c1_i32_727
  let v600 : BitVec 32 := Scalar.addi c0_i32_728 v599
  v600.toNat
def k0_off12 (d0 : Dev nD) : Fin 4 → Nat :=
  let c3_i32_828 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_835 : BitVec 32 := 0#32
  let c0_i32_836 : BitVec 32 := 0#32
  ![3, v2.toNat, 0, 0]
def k0_dev25 (d0 : Dev nD) : Nat :=
  let c0_i32_834 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_824 : BitVec 32 := 1#32
  let v670 : BitVec 32 := Scalar.addi v2 c1_i32_824
  let c0_i32_825 : BitVec 32 := 0#32
  let v671 : BitVec 32 := Scalar.addi v670 c0_i32_825
  let c4_i32_826 : BitVec 32 := 4#32
  let v672 : BitVec 32 := Scalar.remsi v671 c4_i32_826
  let c1_i32_833 : BitVec 32 := 1#32
  let v673 : BitVec 32 := Scalar.muli v672 c1_i32_833
  let v674 : BitVec 32 := Scalar.addi c0_i32_834 v673
  v674.toNat
def k0_dev26 (d0 : Dev nD) : Nat :=
  let c0_i32_849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_839 : BitVec 32 := 1#32
  let v683 : BitVec 32 := Scalar.addi v2 c1_i32_839
  let c1_i32_840 : BitVec 32 := 1#32
  let v684 : BitVec 32 := Scalar.addi v683 c1_i32_840
  let c4_i32_841 : BitVec 32 := 4#32
  let v685 : BitVec 32 := Scalar.remsi v684 c4_i32_841
  let c1_i32_848 : BitVec 32 := 1#32
  let v686 : BitVec 32 := Scalar.muli v685 c1_i32_848
  let v687 : BitVec 32 := Scalar.addi c0_i32_849 v686
  v687.toNat
def k0_dev27 (d0 : Dev nD) : Nat :=
  let c0_i32_864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_854 : BitVec 32 := 1#32
  let v696 : BitVec 32 := Scalar.addi v2 c1_i32_854
  let c2_i32_855 : BitVec 32 := 2#32
  let v697 : BitVec 32 := Scalar.addi v696 c2_i32_855
  let c4_i32_856 : BitVec 32 := 4#32
  let v698 : BitVec 32 := Scalar.remsi v697 c4_i32_856
  let c1_i32_863 : BitVec 32 := 1#32
  let v699 : BitVec 32 := Scalar.muli v698 c1_i32_863
  let v700 : BitVec 32 := Scalar.addi c0_i32_864 v699
  v700.toNat
def k0_dev28 (d0 : Dev nD) : Nat :=
  let c0_i32_1009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_998 : BitVec 32 := 1#32
  let v804 : BitVec 32 := Scalar.addi v2 c1_i32_998
  let c0_i32_999 : BitVec 32 := 0#32
  let v805 : BitVec 32 := Scalar.addi v804 c0_i32_999
  let c4_i32_1000 : BitVec 32 := 4#32
  let v806 : BitVec 32 := Scalar.remsi v805 c4_i32_1000
  let c1_i32_1008 : BitVec 32 := 1#32
  let v807 : BitVec 32 := Scalar.muli v806 c1_i32_1008
  let v808 : BitVec 32 := Scalar.addi c0_i32_1009 v807
  v808.toNat
def k0_dev29 (d0 : Dev nD) : Nat :=
  let c0_i32_1025 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1014 : BitVec 32 := 1#32
  let v817 : BitVec 32 := Scalar.addi v2 c1_i32_1014
  let c1_i32_1015 : BitVec 32 := 1#32
  let v818 : BitVec 32 := Scalar.addi v817 c1_i32_1015
  let c4_i32_1016 : BitVec 32 := 4#32
  let v819 : BitVec 32 := Scalar.remsi v818 c4_i32_1016
  let c1_i32_1024 : BitVec 32 := 1#32
  let v820 : BitVec 32 := Scalar.muli v819 c1_i32_1024
  let v821 : BitVec 32 := Scalar.addi c0_i32_1025 v820
  v821.toNat
def k0_dev30 (d0 : Dev nD) : Nat :=
  let c0_i32_1041 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1030 : BitVec 32 := 1#32
  let v830 : BitVec 32 := Scalar.addi v2 c1_i32_1030
  let c2_i32_1031 : BitVec 32 := 2#32
  let v831 : BitVec 32 := Scalar.addi v830 c2_i32_1031
  let c4_i32_1032 : BitVec 32 := 4#32
  let v832 : BitVec 32 := Scalar.remsi v831 c4_i32_1032
  let c1_i32_1040 : BitVec 32 := 1#32
  let v833 : BitVec 32 := Scalar.muli v832 c1_i32_1040
  let v834 : BitVec 32 := Scalar.addi c0_i32_1041 v833
  v834.toNat
def k0_dev31 (d0 : Dev nD) : Nat :=
  let c0_i32_1169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1158 : BitVec 32 := 1#32
  let v922 : BitVec 32 := Scalar.addi v2 c1_i32_1158
  let c0_i32_1159 : BitVec 32 := 0#32
  let v923 : BitVec 32 := Scalar.addi v922 c0_i32_1159
  let c4_i32_1160 : BitVec 32 := 4#32
  let v924 : BitVec 32 := Scalar.remsi v923 c4_i32_1160
  let c1_i32_1168 : BitVec 32 := 1#32
  let v925 : BitVec 32 := Scalar.muli v924 c1_i32_1168
  let v926 : BitVec 32 := Scalar.addi c0_i32_1169 v925
  v926.toNat
def k0_dev32 (d0 : Dev nD) : Nat :=
  let c0_i32_1185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1174 : BitVec 32 := 1#32
  let v935 : BitVec 32 := Scalar.addi v2 c1_i32_1174
  let c1_i32_1175 : BitVec 32 := 1#32
  let v936 : BitVec 32 := Scalar.addi v935 c1_i32_1175
  let c4_i32_1176 : BitVec 32 := 4#32
  let v937 : BitVec 32 := Scalar.remsi v936 c4_i32_1176
  let c1_i32_1184 : BitVec 32 := 1#32
  let v938 : BitVec 32 := Scalar.muli v937 c1_i32_1184
  let v939 : BitVec 32 := Scalar.addi c0_i32_1185 v938
  v939.toNat
def k0_dev33 (d0 : Dev nD) : Nat :=
  let c0_i32_1201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1190 : BitVec 32 := 1#32
  let v948 : BitVec 32 := Scalar.addi v2 c1_i32_1190
  let c2_i32_1191 : BitVec 32 := 2#32
  let v949 : BitVec 32 := Scalar.addi v948 c2_i32_1191
  let c4_i32_1192 : BitVec 32 := 4#32
  let v950 : BitVec 32 := Scalar.remsi v949 c4_i32_1192
  let c1_i32_1200 : BitVec 32 := 1#32
  let v951 : BitVec 32 := Scalar.muli v950 c1_i32_1200
  let v952 : BitVec 32 := Scalar.addi c0_i32_1201 v951
  v952.toNat
def k0_dev34 (d0 : Dev nD) : Nat :=
  let c0_i32_1329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1318 : BitVec 32 := 1#32
  let v1040 : BitVec 32 := Scalar.addi v2 c1_i32_1318
  let c0_i32_1319 : BitVec 32 := 0#32
  let v1041 : BitVec 32 := Scalar.addi v1040 c0_i32_1319
  let c4_i32_1320 : BitVec 32 := 4#32
  let v1042 : BitVec 32 := Scalar.remsi v1041 c4_i32_1320
  let c1_i32_1328 : BitVec 32 := 1#32
  let v1043 : BitVec 32 := Scalar.muli v1042 c1_i32_1328
  let v1044 : BitVec 32 := Scalar.addi c0_i32_1329 v1043
  v1044.toNat
def k0_dev35 (d0 : Dev nD) : Nat :=
  let c0_i32_1345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1334 : BitVec 32 := 1#32
  let v1053 : BitVec 32 := Scalar.addi v2 c1_i32_1334
  let c1_i32_1335 : BitVec 32 := 1#32
  let v1054 : BitVec 32 := Scalar.addi v1053 c1_i32_1335
  let c4_i32_1336 : BitVec 32 := 4#32
  let v1055 : BitVec 32 := Scalar.remsi v1054 c4_i32_1336
  let c1_i32_1344 : BitVec 32 := 1#32
  let v1056 : BitVec 32 := Scalar.muli v1055 c1_i32_1344
  let v1057 : BitVec 32 := Scalar.addi c0_i32_1345 v1056
  v1057.toNat
def k0_dev36 (d0 : Dev nD) : Nat :=
  let c0_i32_1361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1350 : BitVec 32 := 1#32
  let v1066 : BitVec 32 := Scalar.addi v2 c1_i32_1350
  let c2_i32_1351 : BitVec 32 := 2#32
  let v1067 : BitVec 32 := Scalar.addi v1066 c2_i32_1351
  let c4_i32_1352 : BitVec 32 := 4#32
  let v1068 : BitVec 32 := Scalar.remsi v1067 c4_i32_1352
  let c1_i32_1360 : BitVec 32 := 1#32
  let v1069 : BitVec 32 := Scalar.muli v1068 c1_i32_1360
  let v1070 : BitVec 32 := Scalar.addi c0_i32_1361 v1069
  v1070.toNat
def k0_dev37 (d0 : Dev nD) : Nat :=
  let c0_i32_1489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1478 : BitVec 32 := 1#32
  let v1158 : BitVec 32 := Scalar.addi v2 c1_i32_1478
  let c0_i32_1479 : BitVec 32 := 0#32
  let v1159 : BitVec 32 := Scalar.addi v1158 c0_i32_1479
  let c4_i32_1480 : BitVec 32 := 4#32
  let v1160 : BitVec 32 := Scalar.remsi v1159 c4_i32_1480
  let c1_i32_1488 : BitVec 32 := 1#32
  let v1161 : BitVec 32 := Scalar.muli v1160 c1_i32_1488
  let v1162 : BitVec 32 := Scalar.addi c0_i32_1489 v1161
  v1162.toNat
def k0_dev38 (d0 : Dev nD) : Nat :=
  let c0_i32_1505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1494 : BitVec 32 := 1#32
  let v1171 : BitVec 32 := Scalar.addi v2 c1_i32_1494
  let c1_i32_1495 : BitVec 32 := 1#32
  let v1172 : BitVec 32 := Scalar.addi v1171 c1_i32_1495
  let c4_i32_1496 : BitVec 32 := 4#32
  let v1173 : BitVec 32 := Scalar.remsi v1172 c4_i32_1496
  let c1_i32_1504 : BitVec 32 := 1#32
  let v1174 : BitVec 32 := Scalar.muli v1173 c1_i32_1504
  let v1175 : BitVec 32 := Scalar.addi c0_i32_1505 v1174
  v1175.toNat
def k0_dev39 (d0 : Dev nD) : Nat :=
  let c0_i32_1521 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1510 : BitVec 32 := 1#32
  let v1184 : BitVec 32 := Scalar.addi v2 c1_i32_1510
  let c2_i32_1511 : BitVec 32 := 2#32
  let v1185 : BitVec 32 := Scalar.addi v1184 c2_i32_1511
  let c4_i32_1512 : BitVec 32 := 4#32
  let v1186 : BitVec 32 := Scalar.remsi v1185 c4_i32_1512
  let c1_i32_1520 : BitVec 32 := 1#32
  let v1187 : BitVec 32 := Scalar.muli v1186 c1_i32_1520
  let v1188 : BitVec 32 := Scalar.addi c0_i32_1521 v1187
  v1188.toNat
def k0_dev40 (d0 : Dev nD) : Nat :=
  let c0_i32_1630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1620 : BitVec 32 := 1#32
  let v1262 : BitVec 32 := Scalar.addi v2 c1_i32_1620
  let c0_i32_1621 : BitVec 32 := 0#32
  let v1263 : BitVec 32 := Scalar.addi v1262 c0_i32_1621
  let c4_i32_1622 : BitVec 32 := 4#32
  let v1264 : BitVec 32 := Scalar.remsi v1263 c4_i32_1622
  let c1_i32_1629 : BitVec 32 := 1#32
  let v1265 : BitVec 32 := Scalar.muli v1264 c1_i32_1629
  let v1266 : BitVec 32 := Scalar.addi c0_i32_1630 v1265
  v1266.toNat
def k0_dev41 (d0 : Dev nD) : Nat :=
  let c0_i32_1645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1635 : BitVec 32 := 1#32
  let v1275 : BitVec 32 := Scalar.addi v2 c1_i32_1635
  let c1_i32_1636 : BitVec 32 := 1#32
  let v1276 : BitVec 32 := Scalar.addi v1275 c1_i32_1636
  let c4_i32_1637 : BitVec 32 := 4#32
  let v1277 : BitVec 32 := Scalar.remsi v1276 c4_i32_1637
  let c1_i32_1644 : BitVec 32 := 1#32
  let v1278 : BitVec 32 := Scalar.muli v1277 c1_i32_1644
  let v1279 : BitVec 32 := Scalar.addi c0_i32_1645 v1278
  v1279.toNat
def k0_dev42 (d0 : Dev nD) : Nat :=
  let c0_i32_1660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1650 : BitVec 32 := 1#32
  let v1288 : BitVec 32 := Scalar.addi v2 c1_i32_1650
  let c2_i32_1651 : BitVec 32 := 2#32
  let v1289 : BitVec 32 := Scalar.addi v1288 c2_i32_1651
  let c4_i32_1652 : BitVec 32 := 4#32
  let v1290 : BitVec 32 := Scalar.remsi v1289 c4_i32_1652
  let c1_i32_1659 : BitVec 32 := 1#32
  let v1291 : BitVec 32 := Scalar.muli v1290 c1_i32_1659
  let v1292 : BitVec 32 := Scalar.addi c0_i32_1660 v1291
  v1292.toNat
def k0_dev43 (d0 : Dev nD) : Nat :=
  let c0_i32_1766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1756 : BitVec 32 := 1#32
  let v1362 : BitVec 32 := Scalar.addi v2 c1_i32_1756
  let c0_i32_1757 : BitVec 32 := 0#32
  let v1363 : BitVec 32 := Scalar.addi v1362 c0_i32_1757
  let c4_i32_1758 : BitVec 32 := 4#32
  let v1364 : BitVec 32 := Scalar.remsi v1363 c4_i32_1758
  let c1_i32_1765 : BitVec 32 := 1#32
  let v1365 : BitVec 32 := Scalar.muli v1364 c1_i32_1765
  let v1366 : BitVec 32 := Scalar.addi c0_i32_1766 v1365
  v1366.toNat
def k0_dev44 (d0 : Dev nD) : Nat :=
  let c0_i32_1781 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1771 : BitVec 32 := 1#32
  let v1375 : BitVec 32 := Scalar.addi v2 c1_i32_1771
  let c1_i32_1772 : BitVec 32 := 1#32
  let v1376 : BitVec 32 := Scalar.addi v1375 c1_i32_1772
  let c4_i32_1773 : BitVec 32 := 4#32
  let v1377 : BitVec 32 := Scalar.remsi v1376 c4_i32_1773
  let c1_i32_1780 : BitVec 32 := 1#32
  let v1378 : BitVec 32 := Scalar.muli v1377 c1_i32_1780
  let v1379 : BitVec 32 := Scalar.addi c0_i32_1781 v1378
  v1379.toNat
def k0_dev45 (d0 : Dev nD) : Nat :=
  let c0_i32_1796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1786 : BitVec 32 := 1#32
  let v1388 : BitVec 32 := Scalar.addi v2 c1_i32_1786
  let c2_i32_1787 : BitVec 32 := 2#32
  let v1389 : BitVec 32 := Scalar.addi v1388 c2_i32_1787
  let c4_i32_1788 : BitVec 32 := 4#32
  let v1390 : BitVec 32 := Scalar.remsi v1389 c4_i32_1788
  let c1_i32_1795 : BitVec 32 := 1#32
  let v1391 : BitVec 32 := Scalar.muli v1390 c1_i32_1795
  let v1392 : BitVec 32 := Scalar.addi c0_i32_1796 v1391
  v1392.toNat
def k0_dev46 (d0 : Dev nD) : Nat :=
  let c0_i32_1902 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1892 : BitVec 32 := 1#32
  let v1462 : BitVec 32 := Scalar.addi v2 c1_i32_1892
  let c0_i32_1893 : BitVec 32 := 0#32
  let v1463 : BitVec 32 := Scalar.addi v1462 c0_i32_1893
  let c4_i32_1894 : BitVec 32 := 4#32
  let v1464 : BitVec 32 := Scalar.remsi v1463 c4_i32_1894
  let c1_i32_1901 : BitVec 32 := 1#32
  let v1465 : BitVec 32 := Scalar.muli v1464 c1_i32_1901
  let v1466 : BitVec 32 := Scalar.addi c0_i32_1902 v1465
  v1466.toNat
def k0_dev47 (d0 : Dev nD) : Nat :=
  let c0_i32_1917 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1907 : BitVec 32 := 1#32
  let v1475 : BitVec 32 := Scalar.addi v2 c1_i32_1907
  let c1_i32_1908 : BitVec 32 := 1#32
  let v1476 : BitVec 32 := Scalar.addi v1475 c1_i32_1908
  let c4_i32_1909 : BitVec 32 := 4#32
  let v1477 : BitVec 32 := Scalar.remsi v1476 c4_i32_1909
  let c1_i32_1916 : BitVec 32 := 1#32
  let v1478 : BitVec 32 := Scalar.muli v1477 c1_i32_1916
  let v1479 : BitVec 32 := Scalar.addi c0_i32_1917 v1478
  v1479.toNat
def k0_dev48 (d0 : Dev nD) : Nat :=
  let c0_i32_1932 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1922 : BitVec 32 := 1#32
  let v1488 : BitVec 32 := Scalar.addi v2 c1_i32_1922
  let c2_i32_1923 : BitVec 32 := 2#32
  let v1489 : BitVec 32 := Scalar.addi v1488 c2_i32_1923
  let c4_i32_1924 : BitVec 32 := 4#32
  let v1490 : BitVec 32 := Scalar.remsi v1489 c4_i32_1924
  let c1_i32_1931 : BitVec 32 := 1#32
  let v1491 : BitVec 32 := Scalar.muli v1490 c1_i32_1931
  let v1492 : BitVec 32 := Scalar.addi c0_i32_1932 v1491
  v1492.toNat
def k0_dev49 (d0 : Dev nD) : Nat :=
  let c0_i32_2038 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2028 : BitVec 32 := 1#32
  let v1562 : BitVec 32 := Scalar.addi v2 c1_i32_2028
  let c0_i32_2029 : BitVec 32 := 0#32
  let v1563 : BitVec 32 := Scalar.addi v1562 c0_i32_2029
  let c4_i32_2030 : BitVec 32 := 4#32
  let v1564 : BitVec 32 := Scalar.remsi v1563 c4_i32_2030
  let c1_i32_2037 : BitVec 32 := 1#32
  let v1565 : BitVec 32 := Scalar.muli v1564 c1_i32_2037
  let v1566 : BitVec 32 := Scalar.addi c0_i32_2038 v1565
  v1566.toNat
def k0_dev50 (d0 : Dev nD) : Nat :=
  let c0_i32_2053 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2043 : BitVec 32 := 1#32
  let v1575 : BitVec 32 := Scalar.addi v2 c1_i32_2043
  let c1_i32_2044 : BitVec 32 := 1#32
  let v1576 : BitVec 32 := Scalar.addi v1575 c1_i32_2044
  let c4_i32_2045 : BitVec 32 := 4#32
  let v1577 : BitVec 32 := Scalar.remsi v1576 c4_i32_2045
  let c1_i32_2052 : BitVec 32 := 1#32
  let v1578 : BitVec 32 := Scalar.muli v1577 c1_i32_2052
  let v1579 : BitVec 32 := Scalar.addi c0_i32_2053 v1578
  v1579.toNat
def k0_dev51 (d0 : Dev nD) : Nat :=
  let c0_i32_2068 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2058 : BitVec 32 := 1#32
  let v1588 : BitVec 32 := Scalar.addi v2 c1_i32_2058
  let c2_i32_2059 : BitVec 32 := 2#32
  let v1589 : BitVec 32 := Scalar.addi v1588 c2_i32_2059
  let c4_i32_2060 : BitVec 32 := 4#32
  let v1590 : BitVec 32 := Scalar.remsi v1589 c4_i32_2060
  let c1_i32_2067 : BitVec 32 := 1#32
  let v1591 : BitVec 32 := Scalar.muli v1590 c1_i32_2067
  let v1592 : BitVec 32 := Scalar.addi c0_i32_2068 v1591
  v1592.toNat
def k0_dev52 (d0 : Dev nD) : Nat :=
  let c0_i32_2213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2202 : BitVec 32 := 1#32
  let v1696 : BitVec 32 := Scalar.addi v2 c1_i32_2202
  let c0_i32_2203 : BitVec 32 := 0#32
  let v1697 : BitVec 32 := Scalar.addi v1696 c0_i32_2203
  let c4_i32_2204 : BitVec 32 := 4#32
  let v1698 : BitVec 32 := Scalar.remsi v1697 c4_i32_2204
  let c1_i32_2212 : BitVec 32 := 1#32
  let v1699 : BitVec 32 := Scalar.muli v1698 c1_i32_2212
  let v1700 : BitVec 32 := Scalar.addi c0_i32_2213 v1699
  v1700.toNat
def k0_dev53 (d0 : Dev nD) : Nat :=
  let c0_i32_2229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2218 : BitVec 32 := 1#32
  let v1709 : BitVec 32 := Scalar.addi v2 c1_i32_2218
  let c1_i32_2219 : BitVec 32 := 1#32
  let v1710 : BitVec 32 := Scalar.addi v1709 c1_i32_2219
  let c4_i32_2220 : BitVec 32 := 4#32
  let v1711 : BitVec 32 := Scalar.remsi v1710 c4_i32_2220
  let c1_i32_2228 : BitVec 32 := 1#32
  let v1712 : BitVec 32 := Scalar.muli v1711 c1_i32_2228
  let v1713 : BitVec 32 := Scalar.addi c0_i32_2229 v1712
  v1713.toNat
def k0_dev54 (d0 : Dev nD) : Nat :=
  let c0_i32_2245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2234 : BitVec 32 := 1#32
  let v1722 : BitVec 32 := Scalar.addi v2 c1_i32_2234
  let c2_i32_2235 : BitVec 32 := 2#32
  let v1723 : BitVec 32 := Scalar.addi v1722 c2_i32_2235
  let c4_i32_2236 : BitVec 32 := 4#32
  let v1724 : BitVec 32 := Scalar.remsi v1723 c4_i32_2236
  let c1_i32_2244 : BitVec 32 := 1#32
  let v1725 : BitVec 32 := Scalar.muli v1724 c1_i32_2244
  let v1726 : BitVec 32 := Scalar.addi c0_i32_2245 v1725
  v1726.toNat
def k0_dev55 (d0 : Dev nD) : Nat :=
  let c0_i32_2373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2362 : BitVec 32 := 1#32
  let v1814 : BitVec 32 := Scalar.addi v2 c1_i32_2362
  let c0_i32_2363 : BitVec 32 := 0#32
  let v1815 : BitVec 32 := Scalar.addi v1814 c0_i32_2363
  let c4_i32_2364 : BitVec 32 := 4#32
  let v1816 : BitVec 32 := Scalar.remsi v1815 c4_i32_2364
  let c1_i32_2372 : BitVec 32 := 1#32
  let v1817 : BitVec 32 := Scalar.muli v1816 c1_i32_2372
  let v1818 : BitVec 32 := Scalar.addi c0_i32_2373 v1817
  v1818.toNat
def k0_dev56 (d0 : Dev nD) : Nat :=
  let c0_i32_2389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2378 : BitVec 32 := 1#32
  let v1827 : BitVec 32 := Scalar.addi v2 c1_i32_2378
  let c1_i32_2379 : BitVec 32 := 1#32
  let v1828 : BitVec 32 := Scalar.addi v1827 c1_i32_2379
  let c4_i32_2380 : BitVec 32 := 4#32
  let v1829 : BitVec 32 := Scalar.remsi v1828 c4_i32_2380
  let c1_i32_2388 : BitVec 32 := 1#32
  let v1830 : BitVec 32 := Scalar.muli v1829 c1_i32_2388
  let v1831 : BitVec 32 := Scalar.addi c0_i32_2389 v1830
  v1831.toNat
def k0_dev57 (d0 : Dev nD) : Nat :=
  let c0_i32_2405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2394 : BitVec 32 := 1#32
  let v1840 : BitVec 32 := Scalar.addi v2 c1_i32_2394
  let c2_i32_2395 : BitVec 32 := 2#32
  let v1841 : BitVec 32 := Scalar.addi v1840 c2_i32_2395
  let c4_i32_2396 : BitVec 32 := 4#32
  let v1842 : BitVec 32 := Scalar.remsi v1841 c4_i32_2396
  let c1_i32_2404 : BitVec 32 := 1#32
  let v1843 : BitVec 32 := Scalar.muli v1842 c1_i32_2404
  let v1844 : BitVec 32 := Scalar.addi c0_i32_2405 v1843
  v1844.toNat
def k0_dev58 (d0 : Dev nD) : Nat :=
  let c0_i32_2533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2522 : BitVec 32 := 1#32
  let v1932 : BitVec 32 := Scalar.addi v2 c1_i32_2522
  let c0_i32_2523 : BitVec 32 := 0#32
  let v1933 : BitVec 32 := Scalar.addi v1932 c0_i32_2523
  let c4_i32_2524 : BitVec 32 := 4#32
  let v1934 : BitVec 32 := Scalar.remsi v1933 c4_i32_2524
  let c1_i32_2532 : BitVec 32 := 1#32
  let v1935 : BitVec 32 := Scalar.muli v1934 c1_i32_2532
  let v1936 : BitVec 32 := Scalar.addi c0_i32_2533 v1935
  v1936.toNat
def k0_dev59 (d0 : Dev nD) : Nat :=
  let c0_i32_2549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2538 : BitVec 32 := 1#32
  let v1945 : BitVec 32 := Scalar.addi v2 c1_i32_2538
  let c1_i32_2539 : BitVec 32 := 1#32
  let v1946 : BitVec 32 := Scalar.addi v1945 c1_i32_2539
  let c4_i32_2540 : BitVec 32 := 4#32
  let v1947 : BitVec 32 := Scalar.remsi v1946 c4_i32_2540
  let c1_i32_2548 : BitVec 32 := 1#32
  let v1948 : BitVec 32 := Scalar.muli v1947 c1_i32_2548
  let v1949 : BitVec 32 := Scalar.addi c0_i32_2549 v1948
  v1949.toNat
def k0_dev60 (d0 : Dev nD) : Nat :=
  let c0_i32_2565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2554 : BitVec 32 := 1#32
  let v1958 : BitVec 32 := Scalar.addi v2 c1_i32_2554
  let c2_i32_2555 : BitVec 32 := 2#32
  let v1959 : BitVec 32 := Scalar.addi v1958 c2_i32_2555
  let c4_i32_2556 : BitVec 32 := 4#32
  let v1960 : BitVec 32 := Scalar.remsi v1959 c4_i32_2556
  let c1_i32_2564 : BitVec 32 := 1#32
  let v1961 : BitVec 32 := Scalar.muli v1960 c1_i32_2564
  let v1962 : BitVec 32 := Scalar.addi c0_i32_2565 v1961
  v1962.toNat
def k0_dev61 (d0 : Dev nD) : Nat :=
  let c0_i32_2693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2682 : BitVec 32 := 1#32
  let v2050 : BitVec 32 := Scalar.addi v2 c1_i32_2682
  let c0_i32_2683 : BitVec 32 := 0#32
  let v2051 : BitVec 32 := Scalar.addi v2050 c0_i32_2683
  let c4_i32_2684 : BitVec 32 := 4#32
  let v2052 : BitVec 32 := Scalar.remsi v2051 c4_i32_2684
  let c1_i32_2692 : BitVec 32 := 1#32
  let v2053 : BitVec 32 := Scalar.muli v2052 c1_i32_2692
  let v2054 : BitVec 32 := Scalar.addi c0_i32_2693 v2053
  v2054.toNat
def k0_dev62 (d0 : Dev nD) : Nat :=
  let c0_i32_2709 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2698 : BitVec 32 := 1#32
  let v2063 : BitVec 32 := Scalar.addi v2 c1_i32_2698
  let c1_i32_2699 : BitVec 32 := 1#32
  let v2064 : BitVec 32 := Scalar.addi v2063 c1_i32_2699
  let c4_i32_2700 : BitVec 32 := 4#32
  let v2065 : BitVec 32 := Scalar.remsi v2064 c4_i32_2700
  let c1_i32_2708 : BitVec 32 := 1#32
  let v2066 : BitVec 32 := Scalar.muli v2065 c1_i32_2708
  let v2067 : BitVec 32 := Scalar.addi c0_i32_2709 v2066
  v2067.toNat
def k0_dev63 (d0 : Dev nD) : Nat :=
  let c0_i32_2725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2714 : BitVec 32 := 1#32
  let v2076 : BitVec 32 := Scalar.addi v2 c1_i32_2714
  let c2_i32_2715 : BitVec 32 := 2#32
  let v2077 : BitVec 32 := Scalar.addi v2076 c2_i32_2715
  let c4_i32_2716 : BitVec 32 := 4#32
  let v2078 : BitVec 32 := Scalar.remsi v2077 c4_i32_2716
  let c1_i32_2724 : BitVec 32 := 1#32
  let v2079 : BitVec 32 := Scalar.muli v2078 c1_i32_2724
  let v2080 : BitVec 32 := Scalar.addi c0_i32_2725 v2079
  v2080.toNat
def k0_dev64 (d0 : Dev nD) : Nat :=
  let c0_i32_2834 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2824 : BitVec 32 := 1#32
  let v2154 : BitVec 32 := Scalar.addi v2 c1_i32_2824
  let c0_i32_2825 : BitVec 32 := 0#32
  let v2155 : BitVec 32 := Scalar.addi v2154 c0_i32_2825
  let c4_i32_2826 : BitVec 32 := 4#32
  let v2156 : BitVec 32 := Scalar.remsi v2155 c4_i32_2826
  let c1_i32_2833 : BitVec 32 := 1#32
  let v2157 : BitVec 32 := Scalar.muli v2156 c1_i32_2833
  let v2158 : BitVec 32 := Scalar.addi c0_i32_2834 v2157
  v2158.toNat
def k0_dev65 (d0 : Dev nD) : Nat :=
  let c0_i32_2849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2839 : BitVec 32 := 1#32
  let v2167 : BitVec 32 := Scalar.addi v2 c1_i32_2839
  let c1_i32_2840 : BitVec 32 := 1#32
  let v2168 : BitVec 32 := Scalar.addi v2167 c1_i32_2840
  let c4_i32_2841 : BitVec 32 := 4#32
  let v2169 : BitVec 32 := Scalar.remsi v2168 c4_i32_2841
  let c1_i32_2848 : BitVec 32 := 1#32
  let v2170 : BitVec 32 := Scalar.muli v2169 c1_i32_2848
  let v2171 : BitVec 32 := Scalar.addi c0_i32_2849 v2170
  v2171.toNat
def k0_dev66 (d0 : Dev nD) : Nat :=
  let c0_i32_2864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2854 : BitVec 32 := 1#32
  let v2180 : BitVec 32 := Scalar.addi v2 c1_i32_2854
  let c2_i32_2855 : BitVec 32 := 2#32
  let v2181 : BitVec 32 := Scalar.addi v2180 c2_i32_2855
  let c4_i32_2856 : BitVec 32 := 4#32
  let v2182 : BitVec 32 := Scalar.remsi v2181 c4_i32_2856
  let c1_i32_2863 : BitVec 32 := 1#32
  let v2183 : BitVec 32 := Scalar.muli v2182 c1_i32_2863
  let v2184 : BitVec 32 := Scalar.addi c0_i32_2864 v2183
  v2184.toNat
def k0_dev67 (d0 : Dev nD) : Nat :=
  let c0_i32_2970 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2960 : BitVec 32 := 1#32
  let v2254 : BitVec 32 := Scalar.addi v2 c1_i32_2960
  let c0_i32_2961 : BitVec 32 := 0#32
  let v2255 : BitVec 32 := Scalar.addi v2254 c0_i32_2961
  let c4_i32_2962 : BitVec 32 := 4#32
  let v2256 : BitVec 32 := Scalar.remsi v2255 c4_i32_2962
  let c1_i32_2969 : BitVec 32 := 1#32
  let v2257 : BitVec 32 := Scalar.muli v2256 c1_i32_2969
  let v2258 : BitVec 32 := Scalar.addi c0_i32_2970 v2257
  v2258.toNat
def k0_dev68 (d0 : Dev nD) : Nat :=
  let c0_i32_2985 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2975 : BitVec 32 := 1#32
  let v2267 : BitVec 32 := Scalar.addi v2 c1_i32_2975
  let c1_i32_2976 : BitVec 32 := 1#32
  let v2268 : BitVec 32 := Scalar.addi v2267 c1_i32_2976
  let c4_i32_2977 : BitVec 32 := 4#32
  let v2269 : BitVec 32 := Scalar.remsi v2268 c4_i32_2977
  let c1_i32_2984 : BitVec 32 := 1#32
  let v2270 : BitVec 32 := Scalar.muli v2269 c1_i32_2984
  let v2271 : BitVec 32 := Scalar.addi c0_i32_2985 v2270
  v2271.toNat
def k0_dev69 (d0 : Dev nD) : Nat :=
  let c0_i32_3000 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2990 : BitVec 32 := 1#32
  let v2280 : BitVec 32 := Scalar.addi v2 c1_i32_2990
  let c2_i32_2991 : BitVec 32 := 2#32
  let v2281 : BitVec 32 := Scalar.addi v2280 c2_i32_2991
  let c4_i32_2992 : BitVec 32 := 4#32
  let v2282 : BitVec 32 := Scalar.remsi v2281 c4_i32_2992
  let c1_i32_2999 : BitVec 32 := 1#32
  let v2283 : BitVec 32 := Scalar.muli v2282 c1_i32_2999
  let v2284 : BitVec 32 := Scalar.addi c0_i32_3000 v2283
  v2284.toNat
def k0_dev70 (d0 : Dev nD) : Nat :=
  let c0_i32_3106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3096 : BitVec 32 := 1#32
  let v2354 : BitVec 32 := Scalar.addi v2 c1_i32_3096
  let c0_i32_3097 : BitVec 32 := 0#32
  let v2355 : BitVec 32 := Scalar.addi v2354 c0_i32_3097
  let c4_i32_3098 : BitVec 32 := 4#32
  let v2356 : BitVec 32 := Scalar.remsi v2355 c4_i32_3098
  let c1_i32_3105 : BitVec 32 := 1#32
  let v2357 : BitVec 32 := Scalar.muli v2356 c1_i32_3105
  let v2358 : BitVec 32 := Scalar.addi c0_i32_3106 v2357
  v2358.toNat
def k0_dev71 (d0 : Dev nD) : Nat :=
  let c0_i32_3121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3111 : BitVec 32 := 1#32
  let v2367 : BitVec 32 := Scalar.addi v2 c1_i32_3111
  let c1_i32_3112 : BitVec 32 := 1#32
  let v2368 : BitVec 32 := Scalar.addi v2367 c1_i32_3112
  let c4_i32_3113 : BitVec 32 := 4#32
  let v2369 : BitVec 32 := Scalar.remsi v2368 c4_i32_3113
  let c1_i32_3120 : BitVec 32 := 1#32
  let v2370 : BitVec 32 := Scalar.muli v2369 c1_i32_3120
  let v2371 : BitVec 32 := Scalar.addi c0_i32_3121 v2370
  v2371.toNat
def k0_dev72 (d0 : Dev nD) : Nat :=
  let c0_i32_3136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3126 : BitVec 32 := 1#32
  let v2380 : BitVec 32 := Scalar.addi v2 c1_i32_3126
  let c2_i32_3127 : BitVec 32 := 2#32
  let v2381 : BitVec 32 := Scalar.addi v2380 c2_i32_3127
  let c4_i32_3128 : BitVec 32 := 4#32
  let v2382 : BitVec 32 := Scalar.remsi v2381 c4_i32_3128
  let c1_i32_3135 : BitVec 32 := 1#32
  let v2383 : BitVec 32 := Scalar.muli v2382 c1_i32_3135
  let v2384 : BitVec 32 := Scalar.addi c0_i32_3136 v2383
  v2384.toNat
def k0_dev73 (d0 : Dev nD) : Nat :=
  let c0_i32_3242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3232 : BitVec 32 := 1#32
  let v2454 : BitVec 32 := Scalar.addi v2 c1_i32_3232
  let c0_i32_3233 : BitVec 32 := 0#32
  let v2455 : BitVec 32 := Scalar.addi v2454 c0_i32_3233
  let c4_i32_3234 : BitVec 32 := 4#32
  let v2456 : BitVec 32 := Scalar.remsi v2455 c4_i32_3234
  let c1_i32_3241 : BitVec 32 := 1#32
  let v2457 : BitVec 32 := Scalar.muli v2456 c1_i32_3241
  let v2458 : BitVec 32 := Scalar.addi c0_i32_3242 v2457
  v2458.toNat
def k0_dev74 (d0 : Dev nD) : Nat :=
  let c0_i32_3257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3247 : BitVec 32 := 1#32
  let v2467 : BitVec 32 := Scalar.addi v2 c1_i32_3247
  let c1_i32_3248 : BitVec 32 := 1#32
  let v2468 : BitVec 32 := Scalar.addi v2467 c1_i32_3248
  let c4_i32_3249 : BitVec 32 := 4#32
  let v2469 : BitVec 32 := Scalar.remsi v2468 c4_i32_3249
  let c1_i32_3256 : BitVec 32 := 1#32
  let v2470 : BitVec 32 := Scalar.muli v2469 c1_i32_3256
  let v2471 : BitVec 32 := Scalar.addi c0_i32_3257 v2470
  v2471.toNat
def k0_dev75 (d0 : Dev nD) : Nat :=
  let c0_i32_3272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3262 : BitVec 32 := 1#32
  let v2480 : BitVec 32 := Scalar.addi v2 c1_i32_3262
  let c2_i32_3263 : BitVec 32 := 2#32
  let v2481 : BitVec 32 := Scalar.addi v2480 c2_i32_3263
  let c4_i32_3264 : BitVec 32 := 4#32
  let v2482 : BitVec 32 := Scalar.remsi v2481 c4_i32_3264
  let c1_i32_3271 : BitVec 32 := 1#32
  let v2483 : BitVec 32 := Scalar.muli v2482 c1_i32_3271
  let v2484 : BitVec 32 := Scalar.addi c0_i32_3272 v2483
  v2484.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x1024 : Shape := ⟨2, ![256, 1024]⟩
abbrev S1024x512 : Shape := ⟨2, ![1024, 512]⟩
abbrev S512x1024 : Shape := ⟨2, ![512, 1024]⟩
abbrev S256x512 : Shape := ⟨2, ![256, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S256x512, .f32⟩
  | .hbm, ⟨8, _⟩ => ⟨S_, .f32⟩
  | .hbm, ⟨9, _⟩ => ⟨S256x512, .f32⟩
  | .hbm, ⟨10, _⟩ => ⟨S256x512, .f32⟩
  | .hbm, ⟨11, _⟩ => ⟨S256x1024, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x1024, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Seg.lean ====
module

public import proofs.«01_k».proof.Proof.Gen.KernelIdeal.Skeleton
public import proofs.«01_k».proof.Proof.Gen.KernelIdeal.Launch
public import proofs.«01_k».proof.Proof.Gen.KernelIdeal.Points

@[expose] public section

set_option synthInstance.maxSize 4096

noncomputable section

/-! # The kernel body as twelve repetitions of three segments

The printed body is straight-line: for each of three layers and each of four row chunks it computes
and sends partial quarters (`startRs`), receives and sums them and sends the sum (`reduceAg`), and
receives the summed quarters and multiplies by the second weight (`finishAg`). Each segment is
written once here, at a symbolic chunk and layer. -/

namespace Cert.KernelIdeal

open Idealize.ShloMosaic Idealize.SL.Sem

variable {F : FTy → Type} [FloatOps F]

/-- The effects of the body. -/
abbrev Eff (F : FTy → Type) := TpuEff nD τ sig (Elt F) Λ₀ .tc

/-! ## Words, offsets and views -/

/-- A device's own position, as the program computes it. -/
abbrev meW (d : Dev nD) : BitVec 32 := Scalar.remsi (Scalar.divsi (Dev.word d) 1#32) 4#32

/-- The position of the device `k + 1` places further, as the program computes it. -/
abbrev peerW (d : Dev nD) (k : Fin 3) : BitVec 32 :=
  Scalar.remsi (Scalar.addi (Scalar.addi (meW d) 1#32) (BitVec.ofNat 32 k.val)) 4#32

/-- A peer's number is a device's. -/
theorem peerW_lt : ∀ (d : Dev nD) (k : Fin 3),
    (Scalar.addi 0#32 (Scalar.muli (peerW d k) 1#32)).toNat < nD := by decide +kernel

/-- The device `k + 1` places further, as the program names it. -/
abbrev peerP (d : Dev nD) (k : Fin 3) : Dev nD :=
  ⟨(Scalar.addi 0#32 (Scalar.muli (peerW d k) 1#32)).toNat, peerW_lt d k⟩

/-- The slot that answers slot `k`. -/
def rev (k : Fin 3) : Fin 3 := ⟨2 - k.val, by omega⟩

/-- The offset of quarter `n` of chunk `c`. -/
abbrev off4 (c : Fin 4) (n : Nat) : Fin 4 → Nat := ![c.val, n, 0, 0]

/-- The device's own slot lies in the buffer. -/
theorem inb_me : ∀ (c : Fin 4) (d : Dev nD) a,
    off4 c (meW d).toNat a + S1x1x64x128.size a ≤ S4x4x64x128.size a := by decide +kernel
/-- A peer's slot lies in the buffer. -/
theorem inb_peer : ∀ (c : Fin 4) (d : Dev nD) (k : Fin 3) a,
    off4 c (peerW d k).toNat a + S1x1x64x128.size a ≤ S4x4x64x128.size a := by decide +kernel
/-- Every slot lies in the buffer. -/
theorem inb_q : ∀ (c q : Fin 4) a,
    off4 c q.val a + S1x1x64x128.size a ≤ S4x4x64x128.size a := by decide +kernel
/-- Every receive slot lies in the buffer. -/
theorem inb_j : ∀ (c : Fin 4) (j : Fin 3) a,
    off4 c j.val a + S1x1x64x128.size a ≤ S4x3x64x128.size a := by decide +kernel
/-- Every transfer's semaphore lies in its array. -/
theorem inb_sem : ∀ (c : Fin 4) (j : Fin 3) a,
    (![c.val, j.val] : Fin 2 → Nat) a + S1x1.size a ≤ S4x3.size a := by decide +kernel
/-- Every output weight's semaphore lies in its array. -/
theorem inb_s3 : ∀ (i : Fin 3) a, (![i.val] : Fin 1 → Nat) a + S1.size a ≤ S3.size a := by decide +kernel
/-- Every later input weight's semaphore lies in its array. -/
theorem inb_s2 : ∀ (i : Fin 2) a, (![i.val] : Fin 1 → Nat) a + S1.size a ≤ S2.size a := by decide +kernel
/-- Every narrow input weight lies in the buffer. -/
theorem inb_wi3 : ∀ (i : Fin 3) a,
    (![i.val, 0, 0] : Fin 3 → Nat) a + S1x256x512.size a ≤ S3x256x512.size a := by decide +kernel
/-- Every staged input weight lies in the buffer. -/
theorem inb_wi2 : ∀ (i : Fin 2) a,
    (![i.val, 0, 0] : Fin 3 → Nat) a + S1x256x512.size a ≤ S2x256x512.size a := by decide +kernel
/-- Every output weight lies in the buffer. -/
theorem inb_wo : ∀ (i : Fin 3) a,
    (![i.val, 0, 0] : Fin 3 → Nat) a + S1x512x256.size a ≤ S3x512x256.size a := by decide +kernel
/-- Every chunk's rows lie in the window. -/
theorem inb_x : ∀ (c : Fin 4) a,
    (![64 * c.val, 0] : Fin 2 → Nat) a + S64x256.size a ≤ S256x256.size a := by decide +kernel

/-- The device's own slot is made of whole words, -/
theorem words_me : ∀ (c : Fin 4) (d : Dev nD),
    (Rect.unit (s := S4x4x64x128) (off4 c (meW d).toNat) S1x1x64x128.size (inb_me c d)).WholeWords (EltTy.packing .bf16) := by decide +kernel
/-- and of packed rows. -/
theorem packed_me : ∀ (c : Fin 4) (d : Dev nD),
    (Rect.unit (s := S4x4x64x128) (off4 c (meW d).toNat) S1x1x64x128.size (inb_me c d)).PackedRows (EltTy.packing .bf16) := by decide +kernel
/-- A peer's slot is made of whole words. -/
theorem words_peer : ∀ (c : Fin 4) (d : Dev nD) (k : Fin 3),
    (Rect.unit (s := S4x4x64x128) (off4 c (peerW d k).toNat) S1x1x64x128.size (inb_peer c d k)).WholeWords (EltTy.packing .bf16) := by decide +kernel
/-- Every slot is made of packed rows. -/
theorem packed_q : ∀ (c q : Fin 4),
    (Rect.unit (s := S4x4x64x128) (off4 c q.val) S1x1x64x128.size (inb_q c q)).PackedRows (EltTy.packing .bf16) := by decide +kernel
/-- Every receive slot is made of whole words. -/
theorem words_j : ∀ (c : Fin 4) (j : Fin 3),
    (Rect.unit (s := S4x3x64x128) (off4 c j.val) S1x1x64x128.size (inb_j c j)).WholeWords (EltTy.packing .bf16) := by decide +kernel
/-- Every narrow input weight is made of packed rows. -/
theorem packed_wi : ∀ (i : Fin 3),
    (Rect.unit (s := S3x256x512) ![i.val, 0, 0] S1x256x512.size (inb_wi3 i)).PackedRows (EltTy.packing .bf16) := by decide +kernel
/-- Every narrow output weight is made of packed rows. -/
theorem packed_wo : ∀ (i : Fin 3),
    (Rect.unit (s := S3x512x256) ![i.val, 0, 0] S1x512x256.size (inb_wo i)).PackedRows (EltTy.packing .bf16) := by decide +kernel
/-- A quarter is a slice of the partial hidden chunk. -/
theorem slices_q : ∀ (q : Fin 4), S64x512.Slices ![0, 128 * q.val] S64x128 := by decide +kernel

/-- The activations' window, whole. -/
abbrev xB : Memref sig .tc .vmem S256x256 .f32 := Memref.whole cc0_stg0_0
/-- The first weight's window, whole. -/
abbrev w0B : Memref sig .tc .vmem S256x512 .f32 := Memref.whole cc0_stg1_0
/-- The result's window, whole. -/
abbrev outB : Memref sig .tc .vmem S256x256 .f32 := Memref.whole cc0_stg2_0
/-- The narrow input weights. -/
abbrev winB : Memref sig .tc .vmem S3x256x512 .bf16 := Memref.whole cc0_scratch0
/-- The narrow output weights. -/
abbrev woutB : Memref sig .tc .vmem S3x512x256 .bf16 := Memref.whole cc0_scratch1
/-- The staged input weights of layers one and two. -/
abbrev wisB : Memref sig .tc .vmem S2x256x512 .f32 := Memref.whole cc0_scratch2
/-- The staged output weights. -/
abbrev wosB : Memref sig .tc .vmem S3x512x256 .f32 := Memref.whole cc0_scratch3
/-- The partial quarters. -/
abbrev pqB : Memref sig .tc .vmem S4x4x64x128 .bf16 := Memref.whole cc0_scratch6
/-- The received partial quarters. -/
abbrev rsB : Memref sig .tc .vmem S4x3x64x128 .bf16 := Memref.whole cc0_scratch7
/-- The hidden activations. -/
abbrev hfB : Memref sig .tc .vmem S4x4x64x128 .bf16 := Memref.whole cc0_scratch8

/-- One slot of a buffer of four by four, at an offset. -/
abbrev slot4 (M : Memref sig .tc .vmem S4x4x64x128 .bf16) (off : Fin 4 → Nat)
    (h : ∀ a, off a + S1x1x64x128.size a ≤ S4x4x64x128.size a) : Memref sig .tc .vmem S64x128 .bf16 :=
  (M.slice (Rect.unit (s := S4x4x64x128) off S1x1x64x128.size h) (fun _ => rfl)).squeeze S64x128
    Gen.squeezes_S1x1x64x128_S64x128

/-- One receive slot. -/
abbrev slot3 (c : Fin 4) (j : Fin 3) : Memref sig .tc .vmem S64x128 .bf16 :=
  (rsB.slice (Rect.unit (s := S4x3x64x128) (off4 c j.val) S1x1x64x128.size (inb_j c j)) (fun _ => rfl)).squeeze S64x128
    Gen.squeezes_S1x1x64x128_S64x128

/-- The staged output weight of layer `i`. -/
abbrev wosS (i : Fin 3) : Memref sig .tc .vmem S512x256 .f32 :=
  (wosB.slice (Rect.unit (s := S3x512x256) ![i.val, 0, 0] S1x512x256.size (inb_wo i)) (fun _ => rfl)).squeeze S512x256
    Gen.squeezes_S1x512x256_S512x256

/-- The staged input weight of layer `i + 1`. -/
abbrev wisS (i : Fin 2) : Memref sig .tc .vmem S256x512 .f32 :=
  (wisB.slice (Rect.unit (s := S2x256x512) ![i.val, 0, 0] S1x256x512.size (inb_wi2 i)) (fun _ => rfl)).squeeze S256x512
    Gen.squeezes_S1x256x512_S256x512

/-- One semaphore of an array of four by three. -/
abbrev sem43 (A : DmaSems sig S4x3) (c : Fin 4) (j : Fin 3) : DmaSem sig :=
  ((A.slice (Rect.unit (s := S4x3) ![c.val, j.val] S1x1.size (inb_sem c j))).squeeze S_ Gen.squeezes_S1x1_S_).sem
/-- One semaphore of the output weights' copies. -/
abbrev semWo (i : Fin 3) : DmaSem sig :=
  ((cc0_scratch5.slice (Rect.unit (s := S3) ![i.val] S1.size (inb_s3 i))).squeeze S_ Gen.squeezes_S1_S_).sem
/-- One semaphore of the input weights' copies. -/
abbrev semWi (i : Fin 2) : DmaSem sig :=
  ((cc0_scratch4.slice (Rect.unit (s := S2) ![i.val] S1.size (inb_s2 i))).squeeze S_ Gen.squeezes_S1_S_).sem
/-- The barrier semaphore. -/
abbrev semBar : Sem sig := (SemArray.scalar (sig.barrier 0 rfl) : Sems sig S_).sem

/-! ## The values the segments compute -/

/-- The partial hidden chunk: the chunk's activations times the layer's input weight, narrowed. -/
def partialV (x : FVec F S64x256 .f32) (w : FVec F S1x256x512 .bf16) : FVec F S64x512 .bf16 :=
  truncf .bf16 (matmul dot_S64x256_S256x512_S64x512_1_0_0_1_n_n none (truncf .bf16 x Gen.bitsLt_bf16_f32)
    (shapeCast S256x512 w Gen.shapeCasts_S1x256x512_S256x512) (constant S64x512 .f32 0x00000000#32)) Gen.bitsLt_bf16_f32

/-- Quarter `q` of a partial hidden chunk. -/
def quarterV (x : FVec F S64x256 .f32) (w : FVec F S1x256x512 .bf16) (q : Fin 4) : FVec F S64x128 .bf16 :=
  extractStridedSlice S64x128 ![0, 128 * q.val] (partialV x w) (slices_q q)

/-- The sum of the own quarter and the three received ones, clipped below at zero and narrowed. -/
def reduceV (own : FVec F S64x128 .f32) (r0 r1 r2 : FVec F S64x128 .bf16) : FVec F S64x128 .bf16 :=
  truncf .bf16 (maximumf (addf (addf (addf own (extf .f32 r0 Gen.bitsLt_bf16_f32)) (extf .f32 r1 Gen.bitsLt_bf16_f32))
    (extf .f32 r2 Gen.bitsLt_bf16_f32)) (broadcast S64x128 (Scalar.ofBits .f32 0x00000000#32))) Gen.bitsLt_bf16_f32

/-- The next layer's chunk: the four hidden quarters side by side times the layer's output weight. -/
def finishV (h0 h1 h2 h3 : FVec F S64x128 .bf16) (w : FVec F S1x512x256 .bf16) : FVec F S64x256 .f32 :=
  matmul dot_S64x512_S512x256_S64x256_1_0_0_1_n_n none
    (concatenate S64x512 1 [⟨S64x128, h0⟩, ⟨S64x128, h1⟩, ⟨S64x128, h2⟩, ⟨S64x128, h3⟩]
      Gen.concatenates_S64x128_S64x128_S64x128_S64x128_S64x512_d1)
    (shapeCast S512x256 w Gen.shapeCasts_S1x512x256_S512x256) (constant S64x256 .f32 0x00000000#32)

/-- An input weight, narrowed. -/
def winV (w : FVec F S256x512 .f32) : FVec F S1x256x512 .bf16 :=
  shapeCast S1x256x512 (truncf .bf16 w Gen.bitsLt_bf16_f32) Gen.shapeCasts_S256x512_S1x256x512

/-- An output weight, narrowed. -/
def woutV (w : FVec F S512x256 .f32) : FVec F S1x512x256 .bf16 :=
  shapeCast S1x512x256 (truncf .bf16 w Gen.bitsLt_bf16_f32) Gen.shapeCasts_S512x256_S1x512x256

/-- A slot's contents as a quarter. -/
abbrev unslot (v : FVec F S1x1x64x128 .bf16) : FVec F S64x128 .bf16 :=
  shapeCast S64x128 v Gen.shapeCasts_S1x1x64x128_S64x128

/-! ## The segments -/

/-- Load the narrow input weight of layer `l`. -/
def loadWin (l : Fin 3) : Prog (Eff F) (Vec F S1x256x512 .bf16) :=
  Prog.lift (.load winB (Rect.unit (s := S3x256x512) ![l.val, 0, 0] S1x256x512.size (inb_wi3 l)).toLoadRect
    (View.loadsAt_vmem Gen.h_S1x256x512))

/-- Store the narrow input weight of layer `l`; the program reads the place first. -/
def storeWin (l : Fin 3) (v : FVec F S1x256x512 .bf16) : Prog (Eff F) PUnit := do
  let _ ← loadWin (F := F) l
  Prog.lift (.store winB (Rect.unit (s := S3x256x512) ![l.val, 0, 0] S1x256x512.size (inb_wi3 l)) v Finset.univ
    (View.stores_vmem Gen.h_S1x256x512 ((Memref.isWhole_whole _).storeExact_slice rfl _ (packed_wi l)) (fun _ => rfl)) (.inl rfl))

/-- Load the narrow output weight of layer `l`. -/
def loadWout (l : Fin 3) : Prog (Eff F) (Vec F S1x512x256 .bf16) :=
  Prog.lift (.load woutB (Rect.unit (s := S3x512x256) ![l.val, 0, 0] S1x512x256.size (inb_wo l)).toLoadRect
    (View.loadsAt_vmem Gen.h_S1x512x256))

/-- Store the narrow output weight of layer `l`; the program reads the place first. -/
def storeWout (l : Fin 3) (v : FVec F S1x512x256 .bf16) : Prog (Eff F) PUnit := do
  let _ ← loadWout (F := F) l
  Prog.lift (.store woutB (Rect.unit (s := S3x512x256) ![l.val, 0, 0] S1x512x256.size (inb_wo l)) v Finset.univ
    (View.stores_vmem Gen.h_S1x512x256 ((Memref.isWhole_whole _).storeExact_slice rfl _ (packed_wo l)) (fun _ => rfl)) (.inl rfl))

/-- Load one slot of a buffer of four by four. -/
def load4 (M : Memref sig .tc .vmem S4x4x64x128 .bf16) (off : Fin 4 → Nat)
    (h : ∀ a, off a + S1x1x64x128.size a ≤ S4x4x64x128.size a) : Prog (Eff F) (Vec F S1x1x64x128 .bf16) :=
  Prog.lift (.load M (Rect.unit (s := S4x4x64x128) off S1x1x64x128.size h).toLoadRect
    (View.loadsAt_vmem Gen.h_S1x1x64x128))

/-- Store a quarter into one slot of a buffer of four by four; the program reads the place first. -/
def store4 (M : Memref sig .tc .vmem S4x4x64x128 .bf16) (hM : M.IsWhole) (off : Fin 4 → Nat)
    (h : ∀ a, off a + S1x1x64x128.size a ≤ S4x4x64x128.size a)
    (hp : (Rect.unit (s := S4x4x64x128) off S1x1x64x128.size h).PackedRows (EltTy.packing .bf16))
    (v : FVec F S64x128 .bf16) : Prog (Eff F) PUnit := do
  let _ ← load4 (F := F) M off h
  Prog.lift (.store M (Rect.unit (s := S4x4x64x128) off S1x1x64x128.size h)
    (shapeCast S1x1x64x128 v Gen.shapeCasts_S64x128_S1x1x64x128 : FVec F S1x1x64x128 .bf16) Finset.univ
    (View.stores_vmem Gen.h_S1x1x64x128 (hM.storeExact_slice rfl _ hp) (fun _ => rfl)) (.inl rfl))

/-- Send the partial quarter of the peer `k` of chunk `c` to that peer's answering slot. -/
def sendRS (c : Fin 4) (d : Dev nD) (k : Fin 3) : Prog (Eff F) PUnit :=
  Prog.lift (.enqueueDma (slot4 pqB (off4 c (peerW d k).toNat) (inb_peer c d k))
    (.remote (Dev.tc (peerP d k)) (slot3 c (rev k)) (.dma (sem43 cc0_scratch9 c k))) (.dma (sem43 cc0_scratch10 c (rev k)))
    (((Memref.isWhole_whole _).wordExact_slice rfl _ (words_peer c d k)).reshape _ _)
    (((Memref.isWhole_whole _).wordExact_slice rfl _ (words_j c (rev k))).reshape _ _) ⟨⟨rfl, Or.inl rfl⟩, trivial⟩)

/-- Send the own hidden quarter of chunk `c` to peer `k`. -/
def sendAG (c : Fin 4) (d : Dev nD) (k : Fin 3) : Prog (Eff F) PUnit :=
  Prog.lift (.enqueueDma (slot4 hfB (off4 c (meW d).toNat) (inb_me c d))
    (.remote (Dev.tc (peerP d k)) (slot4 hfB (off4 c (meW d).toNat) (inb_me c d)) (.dma (sem43 cc0_scratch11 c k)))
    (.dma (sem43 cc0_scratch12 c (rev k)))
    (((Memref.isWhole_whole _).wordExact_slice rfl _ (words_me c d)).reshape _ _)
    (((Memref.isWhole_whole _).wordExact_slice rfl _ (words_me c d)).reshape _ _) ⟨⟨rfl, Or.inl rfl⟩, trivial⟩)

/-- Wait until the partial quarter sent to peer `k` has left, and the one from that peer has come. -/
def waitRS (c : Fin 4) (d : Dev nD) (k : Fin 3) : Prog (Eff F) PUnit := do
  Prog.lift (.waitDma2 (sem43 cc0_scratch9 c k) (slot3 c (rev k)) (slot4 pqB (off4 c (peerW d k).toNat) (inb_peer c d k))
    (((Memref.isWhole_whole _).wordExact_slice rfl _ (words_j c (rev k))).reshape _ _)
    (((Memref.isWhole_whole _).wordExact_slice rfl _ (words_peer c d k)).reshape _ _))
  Prog.lift (.waitDma2 (sem43 cc0_scratch10 c (rev k)) (slot4 pqB (off4 c (peerW d k).toNat) (inb_peer c d k)) (slot3 c (rev k))
    (((Memref.isWhole_whole _).wordExact_slice rfl _ (words_peer c d k)).reshape _ _)
    (((Memref.isWhole_whole _).wordExact_slice rfl _ (words_j c (rev k))).reshape _ _))

/-- Wait until the hidden quarter sent to peer `k` has left, and the one from that peer has come. -/
def waitAG (c : Fin 4) (d : Dev nD) (k : Fin 3) : Prog (Eff F) PUnit := do
  Prog.lift (.waitDma2 (sem43 cc0_scratch11 c k) (slot4 hfB (off4 c (meW d).toNat) (inb_me c d)) (slot4 hfB (off4 c (meW d).toNat) (inb_me c d))
    (((Memref.isWhole_whole _).wordExact_slice rfl _ (words_me c d)).reshape _ _)
    (((Memref.isWhole_whole _).wordExact_slice rfl _ (words_me c d)).reshape _ _))
  Prog.lift (.waitDma2 (sem43 cc0_scratch12 c (rev k)) (slot4 hfB (off4 c (meW d).toNat) (inb_me c d)) (slot4 hfB (off4 c (meW d).toNat) (inb_me c d))
    (((Memref.isWhole_whole _).wordExact_slice rfl _ (words_me c d)).reshape _ _)
    (((Memref.isWhole_whole _).wordExact_slice rfl _ (words_me c d)).reshape _ _))

/-- Store quarter `q` of chunk `c`'s partial. -/
def storePQ (c q : Fin 4) (v : FVec F S64x128 .bf16) : Prog (Eff F) PUnit :=
  store4 pqB (Memref.isWhole_whole _) (off4 c q.val) (inb_q c q) (packed_q c q) v

/-- Compute chunk `c`'s four partial quarters of layer `l`, send three and read back the own one. -/
def startRs (c : Fin 4) (l : Fin 3) (d : Dev nD) (x : FVec F S64x256 .f32) : Prog (Eff F) (FVec F S64x128 .f32) := do
  let w ← loadWin l
  storePQ c 0 (quarterV x w 0)
  storePQ c 1 (quarterV x w 1)
  storePQ c 2 (quarterV x w 2)
  storePQ c 3 (quarterV x w 3)
  sendRS c d 0
  sendRS c d 1
  sendRS c d 2
  let o ← load4 pqB (off4 c (meW d).toNat) (inb_me c d)
  pure (extf .f32 (unslot o) Gen.bitsLt_bf16_f32)

/-- Load one receive slot. -/
def load3 (c : Fin 4) (j : Fin 3) : Prog (Eff F) (Vec F S1x1x64x128 .bf16) :=
  Prog.lift (.load rsB (Rect.unit (s := S4x3x64x128) (off4 c j.val) S1x1x64x128.size (inb_j c j)).toLoadRect
    (View.loadsAt_vmem Gen.h_S1x1x64x128))

/-- Receive the three partial quarters of chunk `c`, sum them onto the own one, and send the sum. -/
def reduceAg (c : Fin 4) (d : Dev nD) (own : FVec F S64x128 .f32) : Prog (Eff F) PUnit := do
  waitRS c d 0
  waitRS c d 1
  waitRS c d 2
  let r0 ← load3 c 0
  let r1 ← load3 c 1
  let r2 ← load3 c 2
  store4 hfB (Memref.isWhole_whole _) (off4 c (meW d).toNat) (inb_me c d) (packed_me c d)
    (reduceV own (unslot r0) (unslot r1) (unslot r2))
  sendAG c d 0
  sendAG c d 1
  sendAG c d 2

/-- Receive the three hidden quarters of chunk `c`; the chunk of the next layer's activations. -/
def finishAg (c : Fin 4) (l : Fin 3) (d : Dev nD) : Prog (Eff F) (FVec F S64x256 .f32) := do
  waitAG c d 0
  waitAG c d 1
  waitAG c d 2
  let h0 ← load4 hfB (off4 c (0 : Fin 4).val) (inb_q c 0)
  let h1 ← load4 hfB (off4 c (1 : Fin 4).val) (inb_q c 1)
  let h2 ← load4 hfB (off4 c (2 : Fin 4).val) (inb_q c 2)
  let h3 ← load4 hfB (off4 c (3 : Fin 4).val) (inb_q c 3)
  let w ← loadWout l
  pure (finishV (unslot h0) (unslot h1) (unslot h2) (unslot h3) w)

/-- Start the copy of an output weight into its staging slot. -/
def copyWo (i : Fin 3) (r : Memref sig .tc .hbm S512x256 .f32) (hr : r.IsWhole) : Prog (Eff F) PUnit :=
  Prog.lift (.enqueueDma r (.here (wosS i)) (.dma (semWo i)) hr.wordExact ((View.wordExact_bits rfl).reshape _ _) ⟨Or.inl rfl, trivial⟩)
/-- Start the copy of an input weight into its staging slot. -/
def copyWi (i : Fin 2) (r : Memref sig .tc .hbm S256x512 .f32) (hr : r.IsWhole) : Prog (Eff F) PUnit :=
  Prog.lift (.enqueueDma r (.here (wisS i)) (.dma (semWi i)) hr.wordExact ((View.wordExact_bits rfl).reshape _ _) ⟨Or.inl rfl, trivial⟩)

/-- Wait for the copy of layer `i`'s output weight, and narrow it. -/
def getWo (i : Fin 3) (r : Memref sig .tc .hbm S512x256 .f32) (hr : r.IsWhole) : Prog (Eff F) PUnit := do
  Prog.lift (.waitDma2 (semWo i) r (wosS i) hr.wordExact ((View.wordExact_bits rfl).reshape _ _))
  let w ← Prog.lift (.load wosB (Rect.unit (s := S3x512x256) ![i.val, 0, 0] S1x512x256.size (inb_wo i)).toLoadRect
    (View.loadsAt_vmem Gen.h_S1x512x256))
  storeWout i (woutV (shapeCast S512x256 w Gen.shapeCasts_S1x512x256_S512x256 : FVec F S512x256 .f32))

/-- Wait for the copy of layer `i + 1`'s input weight, and narrow it. -/
def getWi (i : Fin 2) (r : Memref sig .tc .hbm S256x512 .f32) (hr : r.IsWhole) : Prog (Eff F) PUnit := do
  Prog.lift (.waitDma2 (semWi i) r (wisS i) hr.wordExact ((View.wordExact_bits rfl).reshape _ _))
  let w ← Prog.lift (.load wisB (Rect.unit (s := S2x256x512) ![i.val, 0, 0] S1x256x512.size (inb_wi2 i)).toLoadRect
    (View.loadsAt_vmem Gen.h_S1x256x512))
  storeWin i.succ (winV (shapeCast S256x512 w Gen.shapeCasts_S1x256x512_S256x512 : FVec F S256x512 .f32))

/-- The barrier: signal the three peers, and wait for their three signals. -/
def barrierP (d : Dev nD) : Prog (Eff F) PUnit := do
  semSignalWord (peerP d 0) semBar 1#32
  semSignalWord (peerP d 1) semBar 1#32
  semSignalWord (peerP d 2) semBar 1#32
  semWaitWord semBar 3#32

/-- Load chunk `c` of the activations. -/
def loadX (c : Fin 4) : Prog (Eff F) (FVec F S64x256 .f32) := do
  let x ← Prog.lift (.load xB (Rect.unit (s := S256x256) ![64 * c.val, 0] S64x256.size (inb_x c)).toLoadRect
    (View.loadsAt_vmem Gen.h_S64x256))
  pure (shapeCast S64x256 x Gen.shapeCasts_S64x256_S64x256)

/-- Store chunk `c` of the result; the program reads the place first. -/
def storeOut (c : Fin 4) (v : FVec F S64x256 .f32) : Prog (Eff F) PUnit := do
  let _ ← (Prog.lift (.load outB (Rect.unit (s := S256x256) ![64 * c.val, 0] S64x256.size (inb_x c)).toLoadRect
    (View.loadsAt_vmem Gen.h_S64x256)) : Prog (Eff F) (Vec F S64x256 .f32))
  Prog.lift (.store outB (Rect.unit (s := S256x256) ![64 * c.val, 0] S64x256.size (inb_x c)) v Finset.univ
    (View.stores_vmem_bits_univ Gen.h_S64x256 rfl) (.inl rfl))

/-- Everything before the first layer: copies, barrier, the first input weight. -/
def prologue (d : Dev nD) : Prog (Eff F) PUnit := do
  copyWo 0 (Memref.whole main_arg4) (Memref.isWhole_whole _)
  copyWo 1 (Memref.whole main_arg5) (Memref.isWhole_whole _)
  copyWo 2 (Memref.whole main_arg6) (Memref.isWhole_whole _)
  copyWi 0 (Memref.whole main_arg2) (Memref.isWhole_whole _)
  copyWi 1 (Memref.whole main_arg3) (Memref.isWhole_whole _)
  barrierP d
  let w ← Prog.lift (.load w0B (Rect.unit (s := S256x512) ![0, 0] S256x512.size Gen.inb_S256x512_S256x512_0_0).toLoadRect
    (View.loadsAt_vmem Gen.h_S256x512))
  storeWin 0 (winV (shapeCast S256x512 w Gen.shapeCasts_S256x512_S256x512 : FVec F S256x512 .f32))

/-- Between layer `l` and the next, chunk `c`: finish it and start it anew. -/
def turn (c : Fin 4) (l l' : Fin 3) (d : Dev nD) : Prog (Eff F) (FVec F S64x128 .f32) := do
  let x ← finishAg c l d
  startRs c l' d x

/-- The four chunks' reductions. -/
def reduceAll (d : Dev nD) (o : Fin 4 → FVec F S64x128 .f32) : Prog (Eff F) PUnit := do
  reduceAg 0 d (o 0)
  reduceAg 1 d (o 1)
  reduceAg 2 d (o 2)
  reduceAg 3 d (o 3)

/-- The four chunks' turns. -/
def turnAll (l l' : Fin 3) (d : Dev nD) : Prog (Eff F) (Fin 4 → FVec F S64x128 .f32) := do
  let o0 ← turn 0 l l' d
  let o1 ← turn 1 l l' d
  let o2 ← turn 2 l l' d
  let o3 ← turn 3 l l' d
  pure ![o0, o1, o2, o3]

/-- The last layer's chunk: finish it and store it. -/
def lastP (c : Fin 4) (d : Dev nD) : Prog (Eff F) PUnit := do
  let x ← finishAg c 2 d
  storeOut c x

/-- The four chunks' first partials. -/
def startAll (d : Dev nD) : Prog (Eff F) (Fin 4 → FVec F S64x128 .f32) := do
  let x0 ← loadX 0
  let x1 ← loadX 1
  let x2 ← loadX 2
  let x3 ← loadX 3
  let o0 ← startRs 0 0 d x0
  let o1 ← startRs 1 0 d x1
  let o2 ← startRs 2 0 d x2
  let o3 ← startRs 3 0 d x3
  pure ![o0, o1, o2, o3]

/-- The body after the device has read its number. -/
def bodyAt (d : Dev nD) : Prog (Eff F) PUnit := do
  prologue d
  let o ← startAll d
  reduceAll d o
  getWo 0 (Memref.whole main_arg4) (Memref.isWhole_whole _)
  getWi 0 (Memref.whole main_arg2) (Memref.isWhole_whole _)
  let o ← turnAll 0 1 d
  reduceAll d o
  getWo 1 (Memref.whole main_arg5) (Memref.isWhole_whole _)
  getWi 1 (Memref.whole main_arg3) (Memref.isWhole_whole _)
  let o ← turnAll 1 2 d
  reduceAll d o
  getWo 2 (Memref.whole main_arg6) (Memref.isWhole_whole _)
  lastP 0 d
  lastP 1 d
  lastP 2 d
  lastP 3 d

/-- The whole body. -/
def body : Prog (Eff F) PUnit := do
  let d ← Prog.lift .deviceId
  bodyAt d

end Cert.KernelIdeal
-- ==== Proof.Proto.lean ====
module

public import proofs.«01_k».proof.Proof.Seg
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

set_option synthInstance.maxSize 4096

noncomputable section

/-! # The protocol: cells, rounds, duties, payloads, levels

Every device has one barrier cell, five cells for its local copies, and for each chunk and slot four
cells: its partial has left, a partial has come, its hidden quarter has left, a hidden quarter has come.
The last four kinds go through three rounds, one for each layer. What travels with a transfer is the
quarter it carries and, with it, the permission to write the place the answer will go to. -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's own copy, duties numbered below three. -/
abbrev UB : Type := URounds (GSem nD τ sig) (Fin 3)
/-- The pipeline's copy beside it. -/
abbrev UU : Type := UR sig nD τ × UB

local notation "𝕄" => MT nD τ sig ℕ (Elt F) ℕ UU ℕ

/-- Where the pipeline's copy sits. -/
abbrev EP : Emb (UR sig nD τ) (MT nD τ sig ℕ (Elt F) ℕ UU ℕ) := embL
/-- Where the rounds' copy sits. -/
abbrev ER : Emb UB (MT nD τ sig ℕ (Elt F) ℕ UU ℕ) := embR

/-! ## Peers -/

/-- The device `k + 1` places further. -/
def peer (d : Dev nD) (k : Fin 3) : Dev nD := ⟨(d.val + 1 + k.val) % 4, Nat.mod_lt _ (by decide)⟩

/-- The peer of a peer, counted back, is the device itself. -/
theorem peer_peer : ∀ (d : Dev nD) (k : Fin 3), peer (peer d k) (rev k) = d := by decide
/-- Counting back twice changes nothing. -/
theorem rev_rev : ∀ k : Fin 3, rev (rev k) = k := by decide
/-- The printed peer is the peer. -/
theorem peerP_eq : ∀ (d : Dev nD) (k : Fin 3), peerP d k = peer d k := by decide +kernel
/-- The printed peer's number, as a word. -/
theorem peerW_eq : ∀ (d : Dev nD) (k : Fin 3), (peerW d k).toNat = (peer d k).val := by decide +kernel
/-- The printed device's number, as a word. -/
theorem meW_eq : ∀ (d : Dev nD), (meW d).toNat = d.val := by decide +kernel

/-- A slot depends on its offset's value alone. -/
theorem slot4_congr (M : Memref sig .tc .vmem S4x4x64x128 .bf16) {off off' : Fin 4 → Nat} (e : off = off')
    (h : ∀ a, off a + S1x1x64x128.size a ≤ S4x4x64x128.size a) (h' : ∀ a, off' a + S1x1x64x128.size a ≤ S4x4x64x128.size a) :
    slot4 M off h = slot4 M off' h' := by subst e; rfl

/-- Quarter `q` of chunk `c` in the buffer of partial quarters. -/
abbrev pqS (c q : Fin 4) : Memref sig .tc .vmem S64x128 .bf16 := slot4 pqB (off4 c q.val) (inb_q c q)
/-- Quarter `q` of chunk `c` in the buffer of hidden quarters. -/
abbrev hfS (c q : Fin 4) : Memref sig .tc .vmem S64x128 .bf16 := slot4 hfB (off4 c q.val) (inb_q c q)
/-- The narrow input weight's place for layer `l`. -/
abbrev winS (l : Fin 3) : Memref sig .tc .vmem S1x256x512 .bf16 :=
  winB.slice (Rect.unit (s := S3x256x512) ![l.val, 0, 0] S1x256x512.size (inb_wi3 l)) (fun _ => rfl)
/-- The narrow output weight's place for layer `l`. -/
abbrev woutS (l : Fin 3) : Memref sig .tc .vmem S1x512x256 .bf16 :=
  woutB.slice (Rect.unit (s := S3x512x256) ![l.val, 0, 0] S1x512x256.size (inb_wo l)) (fun _ => rfl)

/-- The printed slot of the device itself. -/
theorem slot_me (M : Memref sig .tc .vmem S4x4x64x128 .bf16) (c : Fin 4) (d : Dev nD) :
    slot4 M (off4 c (meW d).toNat) (inb_me c d) = slot4 M (off4 c d.val) (inb_q c d) :=
  slot4_congr M (by rw [meW_eq]) _ _
/-- The printed slot of a peer. -/
theorem slot_peer (M : Memref sig .tc .vmem S4x4x64x128 .bf16) (c : Fin 4) (d : Dev nD) (k : Fin 3) :
    slot4 M (off4 c (peerW d k).toNat) (inb_peer c d k) = slot4 M (off4 c (peer d k).val) (inb_q c (peer d k)) :=
  slot4_congr M (by rw [peerW_eq]) _ _

/-! ## Cells -/

/-- A device's cells: the barrier, the copies of the two later input weights, the copies of the three output
    weights, and for each of the four transfer kinds, each chunk and each slot one. -/
abbrev Kd : Type := Unit ⊕ (Fin 2 ⊕ (Fin 3 ⊕ (Fin 4 × Fin 4 × Fin 3)))

/-- The barrier. -/
abbrev kBar : Kd := .inl ()
/-- The copy of the input weight of layer `i + 1`. -/
abbrev kWi (i : Fin 2) : Kd := .inr (.inl i)
/-- The copy of the output weight of layer `i`. -/
abbrev kWo (i : Fin 3) : Kd := .inr (.inr (.inl i))
/-- A transfer's cell: kind `t`, chunk `c`, slot `k`. -/
abbrev kX (t c : Fin 4) (k : Fin 3) : Kd := .inr (.inr (.inr (t, c, k)))
/-- The partial quarter for peer `k` has left. -/
abbrev kRsS (c : Fin 4) (k : Fin 3) : Kd := kX 0 c k
/-- The partial quarter in slot `k` has come. -/
abbrev kRsR (c : Fin 4) (k : Fin 3) : Kd := kX 1 c k
/-- The hidden quarter for peer `k` has left. -/
abbrev kAgS (c : Fin 4) (k : Fin 3) : Kd := kX 2 c k
/-- The hidden quarter of peer `k` has come. -/
abbrev kAgR (c : Fin 4) (k : Fin 3) : Kd := kX 3 c k

/-- The number of a transfer's semaphore. -/
def xNum (t c : Fin 4) (k : Fin 3) : Fin 56 := ⟨8 + 12 * t.val + 3 * c.val + k.val, by omega⟩

/-- The semaphore of a cell. -/
def semOf : Kd → SemLoc sig
  | .inl _ => .reg semBar
  | .inr (.inl i) => .dma ⟨3 + i.val, Nat.lt_of_lt_of_le (show 3 + i.val < 56 by omega) (by decide)⟩
  | .inr (.inr (.inl i)) => .dma ⟨5 + i.val, Nat.lt_of_lt_of_le (show 5 + i.val < 56 by omega) (by decide)⟩
  | .inr (.inr (.inr (t, c, k))) => .dma ⟨(xNum t c k).val, Nat.lt_of_lt_of_le (xNum t c k).isLt (by decide)⟩

/-- The cell a semaphore is. -/
def kindOf : SemLoc sig → Option Kd
  | .reg s => if s = semBar then some kBar else none
  | .dma q =>
    if q.val < 3 then none
    else if q.val < 5 then some (kWi ⟨(q.val - 3) % 2, Nat.mod_lt _ (by decide)⟩)
    else if q.val < 8 then some (kWo ⟨(q.val - 5) % 3, Nat.mod_lt _ (by decide)⟩)
    else some (kX ⟨(q.val - 8) / 12 % 4, Nat.mod_lt _ (by decide)⟩ ⟨(q.val - 8) / 3 % 4, Nat.mod_lt _ (by decide)⟩
      ⟨(q.val - 8) % 3, Nat.mod_lt _ (by decide)⟩)

/-- A cell is read off its semaphore, -/
theorem kindOf_semOf : ∀ κ : Kd, kindOf (semOf κ) = some κ := by decide +kernel

/-- so different cells have different semaphores. -/
theorem semOf_inj : Function.Injective semOf := fun a b h => by
  have := congrArg kindOf h
  rw [kindOf_semOf, kindOf_semOf] at this
  exact Option.some.inj this

/-- The cell `κ` of device `d`. -/
abbrev cell (d : Dev nD) (κ : Kd) : GSem nD τ sig := ((d : Thread nD τ), semOf κ)

/-- The printed semaphore of an output weight's copy. -/
theorem semWo_eq : ∀ i : Fin 3, (SemLoc.dma (semWo i) : SemLoc sig) = semOf (kWo i) := by decide +kernel
/-- The printed semaphore of an input weight's copy. -/
theorem semWi_eq : ∀ i : Fin 2, (SemLoc.dma (semWi i) : SemLoc sig) = semOf (kWi i) := by decide +kernel
/-- The printed semaphore of a partial quarter's leaving. -/
theorem semRsS_eq : ∀ c k, (SemLoc.dma (sem43 cc0_scratch9 c k) : SemLoc sig) = semOf (kRsS c k) := by decide +kernel
/-- The printed semaphore of a partial quarter's arrival. -/
theorem semRsR_eq : ∀ c k, (SemLoc.dma (sem43 cc0_scratch10 c k) : SemLoc sig) = semOf (kRsR c k) := by decide +kernel
/-- The printed semaphore of a hidden quarter's leaving. -/
theorem semAgS_eq : ∀ c k, (SemLoc.dma (sem43 cc0_scratch11 c k) : SemLoc sig) = semOf (kAgS c k) := by decide +kernel
/-- The printed semaphore of a hidden quarter's arrival. -/
theorem semAgR_eq : ∀ c k, (SemLoc.dma (sem43 cc0_scratch12 c k) : SemLoc sig) = semOf (kAgR c k) := by decide +kernel

/-- The units one quarter's transfer credits. -/
abbrev NS : ℕ := (slot3 0 0).view.dmaCredit
/-- The units one input weight's copy credits. -/
abbrev NWi : ℕ := (wisS 0).view.dmaCredit
/-- The units one output weight's copy credits. -/
abbrev NWo : ℕ := (wosS 0).view.dmaCredit

/-- A quarter's transfer credits something, -/
theorem NS_pos : 0 < NS := View.dmaCredit_pos _ (by decide)
/-- an input weight's copy too, -/
theorem NWi_pos : 0 < NWi := View.dmaCredit_pos _ (by decide)
/-- and an output weight's. -/
theorem NWo_pos : 0 < NWo := View.dmaCredit_pos _ (by decide)

/-! ## The values -/

variable (m : (ℓ : Loc nD τ sig) → Buf (Elt F) ℓ)

/-- Device `d`'s block of the activations. -/
def xstg (d : Dev nD) : FVec F S256x256 .f32 := (win0_0.blk (0 : Fin 1)).view.read (Elt F) (m ((d : Thread nD τ).loc main_arg0))
/-- Device `d`'s block of the first input weight. -/
def w0stg (d : Dev nD) : FVec F S256x512 .f32 := (win0_1.blk (0 : Fin 1)).view.read (Elt F) (m ((d : Thread nD τ).loc main_arg1))

/-- The later input weights' places. -/
abbrev wiRef : Fin 2 → Memref sig .tc .hbm S256x512 .f32 := ![Memref.whole main_arg2, Memref.whole main_arg3]
/-- The output weights' places. -/
abbrev woRef : Fin 3 → Memref sig .tc .hbm S512x256 .f32 := ![Memref.whole main_arg4, Memref.whole main_arg5, Memref.whole main_arg6]

/-- Device `d`'s block of the input weight of layer `i + 1`. -/
def wiArg (d : Dev nD) : Fin 2 → FVec F S256x512 .f32
  | 0 => m ((d : Thread nD τ).loc main_arg2)
  | 1 => m ((d : Thread nD τ).loc main_arg3)
/-- Device `d`'s block of the output weight of layer `i`. -/
def woArg (d : Dev nD) : Fin 3 → FVec F S512x256 .f32
  | 0 => m ((d : Thread nD τ).loc main_arg4)
  | 1 => m ((d : Thread nD τ).loc main_arg5)
  | 2 => m ((d : Thread nD τ).loc main_arg6)

/-- The narrow input weight of layer `l` on device `d`. -/
def winAt (d : Dev nD) : Fin 3 → FVec F S1x256x512 .bf16
  | 0 => winV (w0stg m d)
  | 1 => winV (wiArg m d 0)
  | 2 => winV (wiArg m d 1)
/-- The narrow output weight of layer `l` on device `d`. -/
def woutAt (d : Dev nD) (l : Fin 3) : FVec F S1x512x256 .bf16 := woutV (woArg m d l)

/-- The layer of a number. -/
abbrev lay (l : ℕ) : Fin 3 := ⟨l % 3, Nat.mod_lt _ (by decide)⟩

/-- Quarter `q` of the partial hidden chunk `c` of device `d` at layer `l`, from the layer's activations. -/
def pqOf (l : ℕ) (X : Dev nD → Fin 4 → FVec F S64x256 .f32) (d : Dev nD) (c q : Fin 4) : FVec F S64x128 .bf16 :=
  quarterV (X d c) (winAt m d (lay l)) q

/-- The hidden quarter device `s` sums, of chunk `c` at layer `l`, from the layer's activations. -/
def hOf (l : ℕ) (X : Dev nD → Fin 4 → FVec F S64x256 .f32) (s : Dev nD) (c : Fin 4) : FVec F S64x128 .bf16 :=
  reduceV (extf .f32 (pqOf m l X s c s) Gen.bitsLt_bf16_f32) (pqOf m l X (peer s 0) c s) (pqOf m l X (peer s 1) c s) (pqOf m l X (peer s 2) c s)

/-- Device `d`'s chunk `c` of the activations entering layer `l`. -/
def xAt : ℕ → Dev nD → Fin 4 → FVec F S64x256 .f32
  | 0, d, c => shapeCast S64x256 ((xB.view.readAt (Elt F)
      (Rect.unit (s := S256x256) ![64 * c.val, 0] S64x256.size (inb_x c)).toLoadRect (xstg m d)) : FVec F S64x256 .f32) Gen.shapeCasts_S64x256_S64x256
  | l + 1, d, c => finishV (hOf m l (xAt l) 0 c) (hOf m l (xAt l) 1 c) (hOf m l (xAt l) 2 c) (hOf m l (xAt l) 3 c) (woutAt m d (lay l))

/-- The partial quarter at layer `l`. -/
def pqAt (l : ℕ) (d : Dev nD) (c q : Fin 4) : FVec F S64x128 .bf16 := pqOf m l (xAt m l) d c q
/-- The hidden quarter at layer `l`. -/
def hAt (l : ℕ) (s : Dev nD) (c : Fin 4) : FVec F S64x128 .bf16 := hOf m l (xAt m l) s c

/-! ## Payloads -/

/-- A quarter's place on device `d`, owned, whatever it holds. -/
def anyS (d : Dev nD) (M : Memref sig .tc .vmem S64x128 .bf16) : sProp 𝕄 :=
  iprop(∃ X, owns (d : Thread nD τ) M fullShare X)

/-- Such a place may sit in an invariant. -/
instance anyS_storable (d : Dev nD) (M : Memref sig .tc .vmem S64x128 .bf16) : BI.Storable (upEmb : UEmb _ 𝕄) (anyS (F := F) d M) := by
  unfold anyS; infer_instance

/-- The three parts a hidden quarter's share is sent in. -/
def shr : Fin 3 → PosShare TreeShare
  | 0 => fullShare.left
  | 1 => fullShare.right.left
  | 2 => fullShare.right.right

/-- What peer `j`'s barrier signal hands device `d`: the slots of that peer's receive buffer `d` writes. -/
def barPay (d : Dev nD) (j : Fin 3) : sProp 𝕄 :=
  bigSep (Finset.univ : Finset (Fin 4)) fun c => anyS (peer d j) (slot3 c (rev j))

/-- The permission to send a peer the partial quarter of layer `l`: its receive slot, and that its cell has reached that round. -/
def slotNext (d : Dev nD) (c : Fin 4) (k : Fin 3) (l : ℕ) : sProp 𝕄 :=
  iprop(anyS (peer d k) (slot3 c (rev k)) ∗ reached ER (cell (peer d k) (kRsR c (rev k))) l)

/-- What each cell hands its device at round `r`. -/
def payK (d : Dev nD) (r : ℕ) (j : Fin 3) : Kd → sProp 𝕄
  | .inl _ => barPay d j
  | .inr (.inl i) => iprop(owns (d : Thread nD τ) (wisS i) fullShare (wiArg m d i) ∗ owns (d : Thread nD τ) (wiRef i) fullShare (wiArg m d i))
  | .inr (.inr (.inl i)) => iprop(owns (d : Thread nD τ) (wosS i) fullShare (woArg m d i) ∗ owns (d : Thread nD τ) (woRef i) fullShare (woArg m d i))
  | .inr (.inr (.inr (t, c, k))) => match t with
    | 0 => anyS d (pqS c (peer d k))
    | 1 => iprop(owns (d : Thread nD τ) (slot3 c k) fullShare (pqAt m r (peer d k) c d) ∗ anyS (peer d k) (hfS c d)
        ∗ reached ER (cell (peer d k) (kAgR c (rev k))) r)
    | 2 => owns (d : Thread nD τ) (hfS c d) (shr k) (hAt m r d c)
    | 3 => iprop(owns (d : Thread nD τ) (hfS c (peer d k)) fullShare (hAt m r (peer d k) c)
        ∗ (if r < 2 then slotNext d c k (r + 1) else emp))

/-- What a cell hands over may sit in an invariant. -/
instance payK_storable (d : Dev nD) (r : ℕ) (j : Fin 3) (κ : Kd) : BI.Storable (upEmb : UEmb _ 𝕄) (payK (F := F) m d r j κ) := by
  unfold payK barPay slotNext
  (repeat' split) <;> infer_instance

/-- The duties of a cell at round `r`. -/
def dutK (r : ℕ) : Kd → Finset (Fin 3)
  | .inl _ => if r = 0 then Finset.univ else ∅
  | .inr (.inl _) => if r = 0 then {0} else ∅
  | .inr (.inr (.inl _)) => if r = 0 then {0} else ∅
  | .inr (.inr (.inr _)) => if r < 3 then {0} else ∅

/-- The units of a duty. -/
def amtK : Kd → ℕ
  | .inl _ => 1
  | .inr (.inl _) => NWi
  | .inr (.inr (.inl _)) => NWo
  | .inr (.inr (.inr _)) => NS

/-- Every duty has units. -/
theorem amtK_pos : ∀ κ, 0 < amtK κ
  | .inl _ => Nat.one_pos
  | .inr (.inl _) => NWi_pos
  | .inr (.inr (.inl _)) => NWo_pos
  | .inr (.inr (.inr _)) => NS_pos

/-- The schedule. -/
def Rd : Rounds.Schedule (GSem nD τ sig) (Fin 3) 𝕄 where
  duties g r := if g.1.2 = .tc then ((kindOf g.2).elim ∅ (dutK r)) else ∅
  unitless _ := False
  amount g _ _ := (kindOf g.2).elim 1 amtK
  payload g r j := (kindOf g.2).elim iprop(emp) (payK m g.1.1 r j)
  amount_pos g _ _ _ := by cases h : kindOf g.2 <;> first | exact Nat.one_pos | exact amtK_pos _

/-- What the schedule hands over may sit in an invariant. -/
instance Rd_payload_storable (g : GSem nD τ sig) (r : ℕ) (j : Fin 3) :
    BI.Storable (upEmb : UEmb _ 𝕄) ((Rd (F := F) m).payload g r j) := by
  show BI.Storable upEmb ((kindOf g.2).elim iprop(emp) (payK m g.1.1 r j))
  cases kindOf g.2 <;> (dsimp only [Option.elim]; infer_instance)

section Sched
variable (d : Dev nD) (κ : Kd) (r : ℕ)

/-- The schedule's duties at a cell. -/
theorem Rd_duties : (Rd (F := F) m).duties (cell d κ) r = dutK r κ := by
  show (if (Kind.tc = Kind.tc) then ((kindOf (semOf κ)).elim ∅ (dutK r)) else ∅) = _
  rw [if_pos rfl, kindOf_semOf]; rfl
/-- The schedule's units at a cell. -/
theorem Rd_amount (j : Fin 3) : (Rd (F := F) m).amount (cell d κ) r j = amtK κ := by
  show (kindOf (semOf κ)).elim 1 amtK = _
  rw [kindOf_semOf]; rfl
/-- What the schedule hands over at a cell. -/
theorem Rd_payload (j : Fin 3) : (Rd (F := F) m).payload (cell d κ) r j = payK m d r j κ := by
  show (kindOf (semOf κ)).elim iprop(emp) (payK m d r j) = _
  rw [kindOf_semOf]; rfl

/-- The units of a round at a cell. -/
theorem Rd_expect : (Rd (F := F) m).expect (cell d κ) r = (dutK r κ).card * amtK κ := by
  unfold Schedule.expect Schedule.amountOf
  rw [Rd_duties, Finset.sum_congr rfl fun j _ => Rd_amount m d κ r j, Finset.sum_const, smul_eq_mul]

/-- All that a round at a cell hands over. -/
theorem Rd_rest : bigSep ((Rd (F := F) m).duties (cell d κ) r \ ∅) (fun j => (Rd (F := F) m).payload (cell d κ) r j)
    = bigSep (dutK r κ) (fun j => payK m d r j κ) := by
  rw [Finset.sdiff_empty, Rd_duties]; exact bigSep_congr fun j _ => Rd_payload m d κ r j

end Sched

/-! ## What is owed, and the levels -/

/-- The `k`-th thing device `d` owes at stage `t`: at stage zero a barrier signal, then in turn for each layer four
    chunks' partial quarters and four chunks' hidden quarters. -/
def due (d : Dev nD) (t : ℕ) (k : Fin 3) : CellTallies nD τ sig ℕ :=
  if t = 0 then tallyAt (cell (peer d k) kBar) 1 1
  else if (t - 1) % 8 < 4 then tallyAt (cell (peer d k) (kRsR ⟨(t - 1) % 4, Nat.mod_lt _ (by decide)⟩ (rev k))) (t + 1) NS
  else tallyAt (cell (peer d k) (kAgR ⟨(t - 1) % 4, Nat.mod_lt _ (by decide)⟩ (rev k))) (t + 1) NS

/-- What device `d` owes with `n` of the 25 stages still to come. -/
def Ow (d : Dev nD) : ℕ → CellTallies nD τ sig ℕ
  | 0 => 0
  | n + 1 => Ow d n + due d (24 - n) 2 + due d (24 - n) 1 + due d (24 - n) 0

/-- Levels run to 31. -/
def L (g : GSem nD τ sig) : Finset ℕ := if g.1.2 = .tc then Finset.range 32 else ∅
/-- An index is its own level. -/
def lv (_ : GSem nD τ sig) (i : ℕ) : ℕ := i

/-- Other threads have no levels. -/
theorem L_of_ne (g : GSem nD τ sig) (h : g.1.2 ≠ .tc) : L g = ∅ := if_neg h
/-- A device's thread has the levels below 32. -/
theorem L_tc (d : Dev nD) (sm : SemLoc sig) : L ((d : Thread nD τ), sm) = Finset.range 32 := if_pos rfl

/-- One tally counts at its own cell and index only. -/
theorem tallyAt_pos {g g' : GSem nD τ sig} {i i' : ℕ} {N : ℕ} (h : 0 < (tallyAt g i N : CellTallies nD τ sig ℕ) g' i') : g' = g ∧ i' = i := by
  rw [tallyAt_apply] at h
  by_contra hn
  rw [if_neg hn] at h
  exact Nat.lt_irrefl 0 h

/-- What is owed at stage `t` has index `t + 1`. -/
theorem due_pos {d : Dev nD} {t : ℕ} {k : Fin 3} {g : GSem nD τ sig} {i : ℕ} (h : 0 < due d t k g i) : g.1.2 = .tc ∧ i = t + 1 := by
  unfold due at h
  split at h
  · next ht => obtain ⟨rfl, rfl⟩ := tallyAt_pos h; exact ⟨rfl, by rw [ht]⟩
  · split at h <;> (obtain ⟨rfl, rfl⟩ := tallyAt_pos h; exact ⟨rfl, rfl⟩)

/-- What is owed with `n` stages to come has indices from `26 - n` on. -/
theorem Ow_pos {d : Dev nD} : ∀ {n : ℕ} {g : GSem nD τ sig} {i : ℕ}, n ≤ 25 → 0 < Ow d n g i → g.1.2 = .tc ∧ 26 ≤ i + n ∧ i < 32
  | 0, g, i, _, h => absurd h (Nat.lt_irrefl 0)
  | n + 1, g, i, hn, h => by
    rw [Ow, Pi.add_apply, Finsupp.add_apply, Pi.add_apply, Finsupp.add_apply, Pi.add_apply, Finsupp.add_apply] at h
    by_cases h0 : 0 < Ow d n g i
    · have := Ow_pos (by omega) h0; exact ⟨this.1, by omega, this.2.2⟩
    · have : 0 < due d (24 - n) 2 g i ∨ 0 < due d (24 - n) 1 g i ∨ 0 < due d (24 - n) 0 g i := by omega
      rcases this with h | h | h <;> (have := due_pos h; exact ⟨this.1, by omega, by omega⟩)

/-- At an index below everything still owed a device may wait. -/
theorem mayWait (d : Dev nD) (sm : SemLoc sig) (i n : ℕ) (hn : n ≤ 25) (h : i + n < 26) (hi : i < 32) :
    (levAts L lv : sProp 𝕄) ⊢ MayWait (d : Thread nD τ) sm i (Ow d n) :=
  MayOwe.of_cut (L := L) (lev := lv) i (fun p hp => by rw [Finset.mem_singleton.mp hp, L_tc]; exact Finset.mem_range.mpr hi)
    (fun g u hg => by
      have := Ow_pos hn hg
      unfold L; rw [if_pos this.1]; exact Finset.mem_range.mpr this.2.2)
    (fun p hp => by rw [Finset.mem_singleton.mp hp]; exact le_refl _)
    (fun g u hg => by have := Ow_pos hn hg; show i < u; omega)

end Cert.KernelIdeal
-- ==== Proof.Steps.lean ====
module

public import proofs.«01_k».proof.Proof.Proto

@[expose] public section

set_option synthInstance.maxSize 4096

noncomputable section

/-! # One rule for each kind of operation the segments use

Each rule speaks of places owned through the name the transfers use and of the cells by kind. -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No variants. -/
abbrev 𝒱₀ : Variants := Variants.none

/-- The weakest precondition of a piece of device `d`'s body. -/
def WP (d : Dev nD) {α : Type} (p : Prog (Eff F) α) (Q : α → sProp 𝕄) : sProp 𝕄 :=
  wp frame (wpE (defs₀ (F := F)) 𝒱₀ (d : Thread nD τ) none) Set.univ p Q

/-- A piece followed by another. -/
theorem WP_bind (d : Dev nD) {α β : Type} (p : Prog (Eff F) α) (k : α → Prog (Eff F) β) (Q : β → sProp 𝕄) :
    WP d (p >>= k) Q = WP d p fun a => WP d (k a) Q := by unfold WP; rw [wp_bind]

/-- A piece that does nothing. -/
theorem WP_pure (d : Dev nD) {α : Type} (a : α) (Q : α → sProp 𝕄) : Q a ⊢ WP d (pure a) Q := by
  unfold WP
  iintro H
  rw [Prog.pure_eq_ret, wp_ret]; imodintro; iexact H

/-- What is owed, the record of waits open. -/
def owesO (d : Dev nD) (O : CellTallies nD τ sig ℕ) : sProp 𝕄 := iprop(∃ W, owes (d : Thread nD τ) O W)
/-- What is owed with `n` stages to come. -/
abbrev owesE (d : Dev nD) (n : ℕ) : sProp 𝕄 := owesO (F := F) d (Ow d n)

/-- A device's place at a cell: it is at round `r`, and round `r` is reached. -/
def At (d : Dev nD) (κ : Kd) (r : ℕ) : sProp 𝕄 := iprop(atPos ER (cell d κ) r ∅ 0 ∗ reached ER (cell d κ) r)

variable (m : (ℓ : Loc nD τ sig) → Buf (Elt F) ℓ)

section Mem

variable (d : Dev nD) {s s' : Shape} {e : EltTy}

/-- A load at a rectangle of a buffer, the squeezed slice there owned. -/
theorem load_slot (M : Memref sig .tc .vmem s e) (r : Rect s) (hr : ∀ a, r.stride a = 1) (hq : r.shape.Squeezes s') (hc : r.shape.ShapeCasts s')
    (hl : M.view.LoadsAt r.toLoadRect) (q : PosShare TreeShare) (X : s'.Idx → Elt F e) (Q : (r.shape.Idx → Elt F e) → sProp 𝕄) :
    owns (d : Thread nD τ) ((M.slice r hr).squeeze s' hq) q X
      ⊢ iprop((∀ v, ⌜shapeCast s' v hc = X⌝ -∗ owns (d : Thread nD τ) ((M.slice r hr).squeeze s' hq) q X -∗ Q v)
        -∗ WP d (Prog.lift (.load M r.toLoadRect hl)) Q) := by
  unfold owns WP Prog.lift
  iintro ⟨%f, %hf, H⟩ Hk
  iapply (wp_load_rect 𝒱₀ (d : Thread nD τ) none Set.univ (m := M) (r := r) (S := ((M.slice r hr).squeeze s' hq).view.set)
    (by rw [Memref.set_view_squeeze])) $$ H
  iintro H
  rw [wp_ret]; imodintro
  iapply Hk $$ %((M.access r).read (Elt F) f) %hf
  iexists f; isplitr
  · ipureintro; exact hf
  iexact H

/-- A store at a rectangle of a buffer, the squeezed slice there owned. -/
theorem store_slot (M : Memref sig .tc .vmem s e) (r : Rect s) (hr : ∀ a, r.stride a = 1) (hq : r.shape.Squeezes s') (hc : s'.ShapeCasts r.shape) (hc' : r.shape.ShapeCasts s')
    (hx : (M.access r).Stores Finset.univ) (hm : (Finset.univ : Finset r.shape.Idx) = Finset.univ ∨ ∀ a, r.stride a = 1)
    (X X' : s'.Idx → Elt F e) (Q : PUnit → sProp 𝕄) :
    owns (d : Thread nD τ) ((M.slice r hr).squeeze s' hq) fullShare X
      ⊢ iprop((owns (d : Thread nD τ) ((M.slice r hr).squeeze s' hq) fullShare X' -∗ Q ⟨⟩)
        -∗ WP d (Prog.lift (.store M r (shapeCast r.shape X' hc) Finset.univ hx hm)) Q) := by
  unfold owns WP Prog.lift
  iintro ⟨%f, %hf, H⟩ Hk
  iapply (wp_store 𝒱₀ (d : Thread nD τ) none Set.univ (m := M) (r := r) (S := ((M.slice r hr).squeeze s' hq).view.set)
    (by rw [Memref.set_view_squeeze]; exact Finset.Subset.refl _)) $$ H
  iintro H
  rw [wp_ret]; imodintro
  iapply Hk
  iexists _; isplitr
  rotate_left
  · iexact H
  · ipureintro
    rw [Memref.read_squeeze_slice M r hr hq hc' _]
    show shapeCast s' ((M.access r).read (Elt F) _) _ = _
    rw [View.read_write_univ, shapeCast_shapeCast]

end Mem

/-! ## The shared knowledge -/

/-- What every device knows throughout: every cell's invariant, that every cell has reached round zero, the levels. -/
def Ctx (K : Dev nD × Kd → ℕ) : sProp 𝕄 :=
  iprop((bigSep Finset.univ fun p : Dev nD × Kd => iprop(cellInv ER (Rd m) (K p) (cell p.1 p.2) ∗ reached ER (cell p.1 p.2) 0)) ∗ levAts L lv)

/-- This knowledge is not used up. -/
instance Ctx_persistent (K : Dev nD × Kd → ℕ) : BI.Persistent (Ctx (F := F) m K) := by unfold Ctx; infer_instance

variable {m} {K : Dev nD × Kd → ℕ}

/-- Of one cell: its invariant, and that round zero is reached. -/
theorem Ctx_cell (d : Dev nD) (κ : Kd) :
    Ctx (F := F) m K ⊢ iprop(cellInv ER (Rd m) (K (d, κ)) (cell d κ) ∗ reached ER (cell d κ) 0) := by
  have h : (bigSep Finset.univ fun p : Dev nD × Kd => iprop(cellInv ER (Rd (F := F) m) (K p) (cell p.1 p.2) ∗ reached ER (cell p.1 p.2) 0))
      ⊢ iprop(cellInv ER (Rd m) (K (d, κ)) (cell d κ) ∗ reached ER (cell d κ) 0) := bigSep_elim (Finset.mem_univ (d, κ))
  unfold Ctx
  iintro ⟨H, -⟩
  iapply h
  iexact H

/-- One cell's invariant. -/
theorem Ctx_inv (d : Dev nD) (κ : Kd) : Ctx (F := F) m K ⊢ cellInv ER (Rd m) (K (d, κ)) (cell d κ) := by
  iintro H
  ihave H' := (Ctx_cell (F := F) d κ) $$ H
  icases H' with ⟨H, -⟩
  iexact H

/-- One cell has reached round zero. -/
theorem Ctx_reached (d : Dev nD) (κ : Kd) : Ctx (F := F) m K ⊢ reached ER (cell d κ) 0 := by
  iintro H
  ihave H' := (Ctx_cell (F := F) d κ) $$ H
  icases H' with ⟨-, H⟩
  iexact H

/-- The levels. -/
theorem Ctx_lev : Ctx (F := F) m K ⊢ levAts L lv := by
  unfold Ctx
  iintro ⟨-, H⟩
  iexact H

/-! ## The cell operations -/

/-- A wait on one of the transfer cells for the whole of its round. -/
theorem wait_step {sp sp' : Space} {s s' : Shape} {e e' : EltTy} (d : Dev nD) (κ : Kd) (r i n : ℕ) (hd : dutK r κ = {0}) (sm : DmaSem sig) (hs : SemLoc.dma sm = semOf κ)
    (src : Memref sig .tc sp s e) (dst : Memref sig .tc sp' s' e') (h1 : src.view.WordExact) (h2 : dst.view.WordExact)
    (hN : dst.view.dmaCredit = amtK κ) (hn : n ≤ 25) (hi : i + n < 26) (hi' : i < 32) (Q : PUnit → sProp 𝕄) :
    iprop(Ctx m K ∗ cred (tallyAt (cell d κ) i (amtK κ)) ∗ owesE d n ∗ At d κ r)
      ⊢ iprop(((owesE d n ∗ At d κ (r + 1) ∗ payK m d r 0 κ) -∗ Q ⟨⟩) -∗ WP d (Prog.lift (.waitDma2 sm src dst h1 h2)) Q) := by
  unfold WP Prog.lift owesE owesO At
  have hex := Rd_expect (F := F) m d κ r
  have hrest := Rd_rest (F := F) m d κ r
  rw [hd, bigSep_singleton] at hrest
  rw [hd, Finset.card_singleton, Nat.one_mul] at hex
  iintro ⟨#HC, Hc, ⟨%W, Ho⟩, Hat, -⟩ Hk
  ihave #HI := (Ctx_inv (F := F) d κ) $$ HC
  ihave #HL := (Ctx_lev (F := F)) $$ HC
  have hin : (cell d κ : GSem nD τ sig) = ((d : Thread nD τ), SemLoc.dma sm) := by rw [hs]
  revert hex hrest
  rw [hin, ← hN]
  intro hex hrest
  iapply (Rounds.wp_wait_rest_token 𝒱₀ ER (Rd (F := F) m) (d : Thread nD τ) none (κ := K (d, κ))
      (wpE_waitDma2_eq 𝒱₀ (d : Thread nD τ) none Set.univ) (Set.mem_univ _) i (O := Ow d n) (W := W) (R := r) (m := 0) (T := ∅)
      (by rw [Nat.zero_add]; exact hex.symm)) $$ [Hc Ho Hat]
  · isplitr; · iexact HI
    isplitl [Hc]; · iexact Hc
    isplitl [Ho]; · iexact Ho
    isplitr; · iapply (mayWait d _ i n hn hi hi'); iexact HL
    iexact Hat
  iintro ⟨Ho, Hat, Hr, Hpay⟩
  rw [wp_ret]; imodintro
  iapply Hk
  isplitl [Ho]; · iexists _; iexact Ho
  isplitl [Hat Hr]
  · isplitl [Hat] <;> iassumption
  iapply (Entails.of_eq hrest) $$ Hpay

/-- A transfer to another device. -/
theorem send_step {s : Shape} {e : EltTy} (d d' p : Dev nD) (hp : p = d') (κ₁ κ₂ : Kd) (r i : ℕ) (hd₁ : dutK r κ₁ = {0}) (hd₂ : dutK r κ₂ = {0})
    (sS sR : DmaSem sig) (hS : SemLoc.dma sS = semOf κ₁) (hR : SemLoc.dma sR = semOf κ₂)
    (src dst : Memref sig .tc .vmem s e) (hsc : dst.view.ref.isScScratch = false) (h1 : src.view.WordExact) (h2 : dst.view.WordExact)
    (hsem : DmaTarget.Typed .vmem (.dma sR) (DmaTarget.remote (p := .tc) (Dev.tc p : Thread nD τ) dst (.dma sS) hsc))
    (hN : dst.view.dmaCredit = NS) (ha₁ : amtK κ₁ = NS) (ha₂ : amtK κ₂ = NS)
    (q : PosShare TreeShare) (X : s.Idx → Elt F e) (Fr : sProp 𝕄) (O : CellTallies nD τ sig ℕ)
    (hpay₁ : owns (d : Thread nD τ) src q X ⊢ payK m d r 0 κ₁)
    (hpay₂ : iprop(owns (d' : Thread nD τ) dst fullShare X ∗ Fr) ⊢ payK m d' r 0 κ₂) (Q : PUnit → sProp 𝕄) :
    iprop(Ctx m K ∗ owns (d : Thread nD τ) src q X ∗ (∃ Y, owns (d' : Thread nD τ) dst fullShare Y) ∗ Fr
        ∗ owesO d (O + tallyAt (cell d' κ₂) i NS)
        ∗ dutyTok ER (cell d κ₁) r 0 ∗ reached ER (cell d κ₁) r ∗ dutyTok ER (cell d' κ₂) r 0 ∗ reached ER (cell d' κ₂) r)
      ⊢ iprop(((cred (tallyAt (cell d κ₁) 0 NS) ∗ owesO d O) -∗ Q ⟨⟩)
        -∗ WP d (Prog.lift (.enqueueDma src (.remote (Dev.tc p : Thread nD τ) dst (.dma sS) hsc) (.dma sR) h1 h2 hsem)) Q) := by
  subst hp
  unfold WP Prog.lift owesO
  have e₁ : (cell d κ₁ : GSem nD τ sig) = ((d : Thread nD τ), SemLoc.dma sS) := by rw [hS]
  have e₂ : (cell p κ₂ : GSem nD τ sig) = ((p : Thread nD τ), SemLoc.dma sR) := by rw [hR]
  have d₁ := Rd_duties (F := F) m d κ₁ r
  have d₂ := Rd_duties (F := F) m p κ₂ r
  have a₁ := Rd_amount (F := F) m d κ₁ r 0
  have a₂ := Rd_amount (F := F) m p κ₂ r 0
  have p₁ := Rd_payload (F := F) m d κ₁ r 0
  have p₂ := Rd_payload (F := F) m p κ₂ r 0
  rw [hd₁] at d₁; rw [hd₂] at d₂; rw [ha₁] at a₁; rw [ha₂] at a₂
  unfold owns at hpay₁ hpay₂ ⊢
  iintro ⟨#HC, ⟨%fs, %hfs, Hsrc⟩, ⟨%Y, %fd, %hfd, Hdst⟩, HFr, ⟨%W, Ho⟩, Ht₁, Hr₁, Ht₂, Hr₂⟩ Hk
  ihave #HI₁ := (Ctx_inv (F := F) d κ₁) $$ HC
  ihave #HI₂ := (Ctx_inv (F := F) p κ₂) $$ HC
  revert d₁ d₂ a₁ a₂ p₁ p₂
  rw [e₁, e₂]
  intro d₁ d₂ a₁ a₂ p₁ p₂
  iapply (Rounds.wp_send_pointsTo_with 𝒱₀ ER (Rd (F := F) m) (d : Thread nD τ) none (κ₁ := K (d, κ₁)) (κ₂ := K (p, κ₂)) (q := q) (fs := fs) (fd := fd) (F := Fr)
      (r₁ := r) (r₂ := r) (d₁ := 0) (d₂ := 0) (by rw [d₁]; exact Finset.mem_singleton_self _) (by rw [d₂]; exact Finset.mem_singleton_self _)
      i 0 NS (by exact hN) a₁ a₂ O rfl (W := W)
      (by rw [p₁]; iintro H; iapply hpay₁; iexists fs; isplitr; · (ipureintro; exact hfs)
          iexact H)
      (by rw [p₂]; iintro ⟨H, HF⟩; iapply hpay₂; isplitl [H]
          · iexists _; isplitr
            rotate_left
            · iexact H
            · ipureintro; rw [View.read_write_univ]; exact hfs
          · iexact HF)) $$ [Hsrc Hdst HFr Ho Ht₁ Hr₁ Ht₂ Hr₂]
  · isplitr; · iexact HI₁
    isplitr; · iexact HI₂
    isplitl [Hsrc]; · iexact Hsrc
    isplitl [Hdst HFr]; · (isplitl [Hdst] <;> iassumption)
    isplitl [Ho]; · iexact Ho
    isplitl [Ht₁]; · iexact Ht₁
    isplitl [Hr₁]; · iexact Hr₁
    isplitl [Ht₂]; · iexact Ht₂
    iexact Hr₂
  iintro ⟨Hc, Ho⟩
  rw [wp_ret]; imodintro
  iapply Hk
  isplitl [Hc]; · iexact Hc
  iexists _; iexact Ho

/-- A copy on the device itself. -/
theorem copy_step {sp : Space} {s : Shape} {e : EltTy} (d : Dev nD) (κ : Kd) (hd : dutK 0 κ = {0})
    (sm : DmaSem sig) (hs : SemLoc.dma sm = semOf κ) (src : Memref sig .tc sp s e) (dst : Memref sig .tc .vmem s e)
    (h1 : src.view.WordExact) (h2 : dst.view.WordExact) (hsem : DmaTarget.Typed sp (.dma sm) (DmaTarget.here (nD := nD) (τ := τ) (p := .tc) dst))
    (hN : dst.view.dmaCredit = amtK κ) (X : s.Idx → Elt F e)
    (hpay : iprop(owns (d : Thread nD τ) dst fullShare X ∗ owns (d : Thread nD τ) src fullShare X) ⊢ payK m d 0 0 κ) (Q : PUnit → sProp 𝕄) :
    iprop(Ctx m K ∗ owns (d : Thread nD τ) src fullShare X ∗ (∃ Y, owns (d : Thread nD τ) dst fullShare Y) ∗ dutyTok ER (cell d κ) 0 0)
      ⊢ iprop((cred (tallyAt (cell d κ) 0 (amtK κ)) -∗ Q ⟨⟩) -∗ WP d (Prog.lift (.enqueueDma src (.here dst) (.dma sm) h1 h2 hsem)) Q) := by
  unfold WP Prog.lift
  have e₁ : (cell d κ : GSem nD τ sig) = ((d : Thread nD τ), SemLoc.dma sm) := by rw [hs]
  have d₁ := Rd_duties (F := F) m d κ 0
  have a₁ := Rd_amount (F := F) m d κ 0 0
  have p₁ := Rd_payload (F := F) m d κ 0 0
  rw [hd] at d₁
  unfold owns at hpay ⊢
  iintro ⟨#HC, ⟨%fs, %hfs, Hsrc⟩, ⟨%Y, %fd, %hfd, Hdst⟩, Ht₁⟩ Hk
  ihave #HI₁ := (Ctx_inv (F := F) d κ) $$ HC
  ihave #Hr₁ := (Ctx_reached (F := F) d κ) $$ HC
  revert d₁ a₁ p₁
  rw [e₁, ← hN]
  intro d₁ a₁ p₁
  iapply (Rounds.wp_copy_pointsTo 𝒱₀ ER (Rd (F := F) m) (d : Thread nD τ) none (κ := K (d, κ)) (q := fullShare) (fs := fs) (fd := fd)
      (r := 0) (d := 0) (by rw [d₁]; exact Finset.mem_singleton_self _)
      0 dst.view.dmaCredit rfl a₁
      (by rw [p₁]; iintro ⟨H, HF⟩; iapply hpay; isplitl [H]
          · iexists _; isplitr
            rotate_left
            · iexact H
            · ipureintro; rw [View.read_write_univ]; exact hfs
          · iexists fs; isplitr; · (ipureintro; exact hfs)
            iexact HF)) $$ [Hsrc Hdst Ht₁]
  · isplitr; · iexact HI₁
    isplitl [Hsrc]; · iexact Hsrc
    isplitl [Hdst]; · iexact Hdst
    isplitl [Ht₁]; · iexact Ht₁
    iexact Hr₁
  iintro Hc
  rw [wp_ret]; imodintro
  iapply Hk
  iexact Hc

/-- A signal to a peer's barrier. -/
theorem signal_step (d : Dev nD) (j : Fin 3) (O : CellTallies nD τ sig ℕ) (Q : PUnit → sProp 𝕄) :
    iprop(Ctx m K ∗ owesO d (O + tallyAt (cell (peer d j) kBar) 1 1) ∗ dutyTok ER (cell (peer d j) kBar) 0 (rev j)
        ∗ (bigSep (Finset.univ : Finset (Fin 4)) fun c => anyS d (slot3 c j)))
      ⊢ iprop((owesO d O -∗ Q ⟨⟩) -∗ WP d (semSignalWord (peerP d j) semBar 1#32) Q) := by
  rw [peerP_eq]
  unfold WP semSignalWord owesO
  rw [show (1#32 : BitVec 32).toInt = ((1 : ℕ) : ℤ) from by decide]
  iintro ⟨#HC, ⟨%W, Ho⟩, Ht, Hp⟩ Hk
  ihave #HI := (Ctx_inv (F := F) (peer d j) kBar) $$ HC
  ihave #Hr := (Ctx_reached (F := F) (peer d j) kBar) $$ HC
  iapply (Rounds.wp_signal 𝒱₀ ER (Rd (F := F) m) (d : Thread nD τ) none (dst := (peer d j : Thread nD τ)) (κ := K (peer d j, kBar)) (r := 0)
      (d := rev j) (by rw [show (((peer d j : Dev nD) : Thread nD τ), SemLoc.reg semBar) = cell (peer d j) kBar from rfl, Rd_duties]; exact Finset.mem_univ _)
      (Rd_amount m (peer d j) kBar 0 (rev j)) 1 O rfl) $$ [Ho Ht Hp]
  · isplitr; · iexact HI
    isplitl [Ho]; · iexact Ho
    isplitl [Ht]; · iexact Ht
    isplitl [Hp]
    · rw [show (((peer d j : Dev nD) : Thread nD τ), SemLoc.reg semBar) = cell (peer d j) kBar from rfl, Rd_payload]
      unfold payK barPay
      rw [peer_peer, rev_rev]
      iexact Hp
    iexact Hr
  iintro Ho
  rw [wp_ret]; imodintro
  iapply Hk
  iexists _; iexact Ho

/-- The wait for the three peers' barrier signals. -/
theorem barrier_step (d : Dev nD) (Q : PUnit → sProp 𝕄) :
    iprop(Ctx m K ∗ cred (tallyAt (cell d kBar) 1 3) ∗ owesE d 24 ∗ At d kBar 0)
      ⊢ iprop(((owesE d 24 ∗ At d kBar 1 ∗ bigSep Finset.univ (barPay (F := F) d)) -∗ Q ⟨⟩) -∗ WP d (semWaitWord semBar 3#32) Q) := by
  unfold WP semWaitWord owesE owesO At
  rw [show (3#32 : BitVec 32).toInt = ((3 : ℕ) : ℤ) from by decide]
  have hex := Rd_expect (F := F) m d kBar 0
  have hrest := Rd_rest (F := F) m d kBar 0
  iintro ⟨#HC, Hc, ⟨%W, Ho⟩, Hat, -⟩ Hk
  ihave #HI := (Ctx_inv (F := F) d kBar) $$ HC
  ihave #HL := (Ctx_lev (F := F)) $$ HC
  have hin : (cell d kBar : GSem nD τ sig) = ((d : Thread nD τ), SemLoc.reg semBar) := rfl
  revert hex hrest
  rw [hin]
  intro hex hrest
  iapply (Rounds.wp_wait_rest_token 𝒱₀ ER (Rd (F := F) m) (d : Thread nD τ) none (κ := K (d, kBar))
      (wpE_semWait_eq 𝒱₀ (d : Thread nD τ) none Set.univ) (Set.mem_univ _) 1 (O := Ow d 24) (W := W) (R := 0) (m := 0) (T := ∅)
      (by rw [Nat.zero_add]; exact hex.symm)) $$ [Hc Ho Hat]
  · isplitr; · iexact HI
    isplitl [Hc]; · iexact Hc
    isplitl [Ho]; · iexact Ho
    isplitr; · iapply (mayWait d _ 1 24 (by decide) (by decide) (by decide)); iexact HL
    iexact Hat
  iintro ⟨Ho, Hat, Hr, Hpay⟩
  rw [wp_ret]; imodintro
  iapply Hk
  isplitl [Ho]; · iexists _; iexact Ho
  isplitl [Hat Hr]
  · isplitl [Hat] <;> iassumption
  ihave Hp := (Entails.of_eq hrest) $$ Hpay
  iexact Hp

/-- A cell whose rounds are over closes, its counter at zero. -/
theorem close_step (d : Dev nD) (κ : Kd) (r : ℕ) (hr : ∀ r', r ≤ r' → dutK r' κ = ∅) :
    iprop(Ctx m K ∗ At d κ r) ⊢ iprop(|={Set.univ}=> semVal (cell d κ) 0 : sProp 𝕄) := by
  unfold At
  iintro ⟨#HC, Hat, -⟩
  ihave #HI := (Ctx_inv (F := F) d κ) $$ HC
  imod (Rounds.cell_close ER (Rd (F := F) m) (Set.mem_univ (K (d, κ))) (fun h => h) (R := r) (fun r' h => by rw [Rd_duties]; exact hr r' h)) $$ [Hat] with Hz
  · isplitr; · iexact HI
    iexact Hat
  imodintro
  iexact Hz

end Cert.KernelIdeal
-- ==== Proof.Moves.lean ====
module

public import proofs.«01_k».proof.Proof.Steps

@[expose] public section

set_option synthInstance.maxSize 4096

noncomputable section

/-! # The segments' rules

A chunk is at any time in one of three states: ready for a layer, its partial quarters sent, its hidden quarter sent.
Each of the three segments takes a chunk from one state to the next. -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × Kd → ℕ}

/-! ## Three peers, four devices -/

/-- Something for each of the three peers. -/
def tri (Φ : Fin 3 → sProp 𝕄) : sProp 𝕄 := iprop(Φ 0 ∗ Φ 1 ∗ Φ 2)
/-- Something for each of the four devices. -/
def quad (Φ : Dev nD → sProp 𝕄) : sProp 𝕄 := iprop(Φ (0 : Fin 4) ∗ Φ (1 : Fin 4) ∗ Φ (2 : Fin 4) ∗ Φ (3 : Fin 4))

/-- A product over the peers is a triple. -/
theorem tri_eq (Φ : Fin 3 → sProp 𝕄) : bigSep Finset.univ Φ = tri Φ :=
  bigSep_univ_eq_bigSepL [(0 : Fin 3), (1 : Fin 3), (2 : Fin 3)] (by decide) (by decide) Φ
/-- A product over the devices is a quadruple. -/
theorem quad_eq (Φ : Dev nD → sProp 𝕄) : bigSep Finset.univ Φ = quad Φ :=
  bigSep_univ_eq_bigSepL [(0 : Fin 4), (1 : Fin 4), (2 : Fin 4), (3 : Fin 4)] (by decide) (by decide) Φ

/-- A quadruple counted from a device: itself and its three peers. -/
theorem quad_dev (d : Dev nD) (Φ : Dev nD → sProp 𝕄) : quad Φ = iprop(Φ d ∗ tri fun k => Φ (peer d k)) := by
  rw [← quad_eq]
  exact bigSep_univ_eq_bigSepL [d, peer d 0, peer d 1, peer d 2] (by revert d; decide) (by revert d; decide) Φ

/-! ## States -/

/-- A device's place at the four cells of a chunk's slot. -/
def P4 (d : Dev nD) (c : Fin 4) (k : Fin 3) (l l' : ℕ) : sProp 𝕄 :=
  iprop(At d (kRsS c k) l ∗ At d (kRsR c k) l ∗ At d (kAgS c k) l' ∗ At d (kAgR c k) l')

/-- Where peer `k`'s receive slot is before layer `l`: in this device's hands, until the last layer is over. -/
def SlotN (d : Dev nD) (c : Fin 4) (k : Fin 3) (l : ℕ) : sProp 𝕄 :=
  if l < 3 then slotNext d c k l else anyS d (slot3 c k)

/-- A chunk ready for layer `l`. -/
def Ready (d : Dev nD) (c : Fin 4) (l : ℕ) : sProp 𝕄 :=
  iprop(quad (fun q => anyS d (pqS c q)) ∗ quad (fun s => anyS d (hfS c s)) ∗ tri (fun k => P4 d c k l l) ∗ tri (fun k => SlotN d c k l))

/-- A chunk whose partial quarters of layer `l` are sent. -/
def Mid (d : Dev nD) (c : Fin 4) (l : ℕ) : sProp 𝕄 :=
  iprop(anyS d (pqS c d) ∗ anyS d (hfS c d) ∗ tri (fun k => P4 d c k l l) ∗ tri (fun k => cred (tallyAt (cell d (kRsS c k)) 0 NS)))

/-- A chunk whose hidden quarter of layer `l` is sent. -/
def Ag (d : Dev nD) (c : Fin 4) (l : ℕ) : sProp 𝕄 :=
  iprop(quad (fun q => anyS d (pqS c q)) ∗ tri (fun k => P4 d c k (l + 1) l) ∗ tri (fun k => cred (tallyAt (cell d (kAgS c k)) 0 NS))
    ∗ tri (fun k => if l < 2 then iprop(emp) else anyS d (slot3 c k)))

/-- The duty tokens of a chunk's partial quarters. -/
def TokRs (d : Dev nD) (c : Fin 4) (l : ℕ) : sProp 𝕄 :=
  tri fun k => iprop(dutyTok ER (cell d (kRsS c k)) l 0 ∗ dutyTok ER (cell (peer d k) (kRsR c (rev k))) l 0)
/-- The duty tokens of a chunk's hidden quarter. -/
def TokAg (d : Dev nD) (c : Fin 4) (l : ℕ) : sProp 𝕄 :=
  tri fun k => iprop(dutyTok ER (cell d (kAgS c k)) l 0 ∗ dutyTok ER (cell (peer d k) (kAgR c (rev k))) l 0)
/-- The credits of the partial quarters a chunk receives. -/
def CredRs (d : Dev nD) (c : Fin 4) (l : ℕ) : sProp 𝕄 := tri fun k => cred (tallyAt (cell d (kRsR c k)) (2 + 8 * l + c.val) NS)
/-- The credits of the hidden quarters a chunk receives. -/
def CredAg (d : Dev nD) (c : Fin 4) (l : ℕ) : sProp 𝕄 := tri fun k => cred (tallyAt (cell d (kAgR c k)) (6 + 8 * l + c.val) NS)

/-! ## Loads and stores at slots -/

/-- A load of a slot of the buffers of quarters. -/
theorem load4_step (d : Dev nD) (M : Memref sig .tc .vmem S4x4x64x128 .bf16) (off : Fin 4 → Nat)
    (h : ∀ a, off a + S1x1x64x128.size a ≤ S4x4x64x128.size a) (q : PosShare TreeShare) (X : FVec F S64x128 .bf16) (Q : FVec F S1x1x64x128 .bf16 → sProp 𝕄) :
    owns (d : Thread nD τ) (slot4 M off h) q X
      ⊢ iprop((∀ v, ⌜unslot v = X⌝ -∗ owns (d : Thread nD τ) (slot4 M off h) q X -∗ Q v) -∗ WP d (load4 M off h) Q) := by
  unfold load4
  exact load_slot d M (Rect.unit (s := S4x4x64x128) off S1x1x64x128.size h) (fun _ => rfl) Gen.squeezes_S1x1x64x128_S64x128 Gen.shapeCasts_S1x1x64x128_S64x128 _ q X Q

/-- A load of a receive slot. -/
theorem load3_step (d : Dev nD) (c : Fin 4) (j : Fin 3) (q : PosShare TreeShare) (X : FVec F S64x128 .bf16) (Q : FVec F S1x1x64x128 .bf16 → sProp 𝕄) :
    owns (d : Thread nD τ) (slot3 c j) q X
      ⊢ iprop((∀ v, ⌜unslot v = X⌝ -∗ owns (d : Thread nD τ) (slot3 c j) q X -∗ Q v) -∗ WP d (load3 c j) Q) := by
  unfold load3
  exact load_slot d rsB (Rect.unit (s := S4x3x64x128) (off4 c j.val) S1x1x64x128.size (inb_j c j)) (fun _ => rfl) Gen.squeezes_S1x1x64x128_S64x128 Gen.shapeCasts_S1x1x64x128_S64x128 _ q X Q

/-- A store to a slot of the buffers of quarters, which reads the slot first. -/
theorem store4_step (d : Dev nD) (M : Memref sig .tc .vmem S4x4x64x128 .bf16) (hM : M.IsWhole) (off : Fin 4 → Nat)
    (h : ∀ a, off a + S1x1x64x128.size a ≤ S4x4x64x128.size a)
    (hp : (Rect.unit (s := S4x4x64x128) off S1x1x64x128.size h).PackedRows (EltTy.packing .bf16)) (v : FVec F S64x128 .bf16) (Q : PUnit → sProp 𝕄) :
    anyS d (slot4 M off h)
      ⊢ iprop((owns (d : Thread nD τ) (slot4 M off h) fullShare v -∗ Q ⟨⟩) -∗ WP d (store4 M hM off h hp v) Q) := by
  unfold store4 anyS
  rw [WP_bind]
  iintro ⟨%X, H⟩ Hk
  iapply (load4_step d M off h fullShare X) $$ H
  iintro %v' %_ H
  iapply (store_slot d M _ (fun _ => rfl) Gen.squeezes_S1x1x64x128_S64x128 Gen.shapeCasts_S64x128_S1x1x64x128 Gen.shapeCasts_S1x1x64x128_S64x128 _ _ X v) $$ H
  iexact Hk

/-- A load of a slice owned as it is. -/
theorem load_slice (d : Dev nD) {s : Shape} {e : EltTy} (M : Memref sig .tc .vmem s e) (r : Rect s) (hr : ∀ a, r.stride a = 1)
    (hl : M.view.LoadsAt r.toLoadRect) (q : PosShare TreeShare) (X : r.shape.Idx → Elt F e) (Q : (r.shape.Idx → Elt F e) → sProp 𝕄) :
    owns (d : Thread nD τ) (M.slice r hr) q X
      ⊢ iprop((∀ v, ⌜v = X⌝ -∗ owns (d : Thread nD τ) (M.slice r hr) q X -∗ Q v) -∗ WP d (Prog.lift (.load M r.toLoadRect hl)) Q) := by
  unfold owns WP Prog.lift
  iintro ⟨%f, %hf, H⟩ Hk
  iapply (wp_load_rect 𝒱₀ (d : Thread nD τ) none Set.univ (m := M) (r := r) (S := (M.slice r hr).view.set) (Finset.Subset.refl _)) $$ H
  iintro H
  rw [wp_ret]; imodintro
  iapply Hk $$ %((M.access r).read (Elt F) f) %hf
  iexists f; isplitr
  · ipureintro; exact hf
  iexact H

/-- A store of a slice owned as it is. -/
theorem store_slice (d : Dev nD) {s : Shape} {e : EltTy} (M : Memref sig .tc .vmem s e) (r : Rect s) (hr : ∀ a, r.stride a = 1)
    (hx : (M.access r).Stores Finset.univ) (hm : (Finset.univ : Finset r.shape.Idx) = Finset.univ ∨ ∀ a, r.stride a = 1)
    (X X' : r.shape.Idx → Elt F e) (Q : PUnit → sProp 𝕄) :
    owns (d : Thread nD τ) (M.slice r hr) fullShare X
      ⊢ iprop((owns (d : Thread nD τ) (M.slice r hr) fullShare X' -∗ Q ⟨⟩) -∗ WP d (Prog.lift (.store M r X' Finset.univ hx hm)) Q) := by
  unfold owns WP Prog.lift
  iintro ⟨%f, %hf, H⟩ Hk
  iapply (wp_store 𝒱₀ (d : Thread nD τ) none Set.univ (m := M) (r := r) (S := (M.slice r hr).view.set) (Finset.Subset.refl _)) $$ H
  iintro H
  rw [wp_ret]; imodintro
  iapply Hk
  iexists _; isplitr
  rotate_left
  · iexact H
  · ipureintro
    show (M.access r).read (Elt F) _ = _
    rw [View.read_write_univ]

/-- A load of a narrow input weight. -/
theorem loadWin_step (d : Dev nD) (l : Fin 3) (X : FVec F S1x256x512 .bf16) (Q : FVec F S1x256x512 .bf16 → sProp 𝕄) :
    owns (d : Thread nD τ) (winS l) fullShare X
      ⊢ iprop((∀ v, ⌜v = X⌝ -∗ owns (d : Thread nD τ) (winS l) fullShare X -∗ Q v) -∗ WP d (loadWin l) Q) := by
  unfold loadWin
  exact load_slice d winB (Rect.unit (s := S3x256x512) ![l.val, 0, 0] S1x256x512.size (inb_wi3 l)) (fun _ => rfl) _ fullShare X Q
/-- A load of a narrow output weight. -/
theorem loadWout_step (d : Dev nD) (l : Fin 3) (X : FVec F S1x512x256 .bf16) (Q : FVec F S1x512x256 .bf16 → sProp 𝕄) :
    owns (d : Thread nD τ) (woutS l) fullShare X
      ⊢ iprop((∀ v, ⌜v = X⌝ -∗ owns (d : Thread nD τ) (woutS l) fullShare X -∗ Q v) -∗ WP d (loadWout l) Q) := by
  unfold loadWout
  exact load_slice d woutB (Rect.unit (s := S3x512x256) ![l.val, 0, 0] S1x512x256.size (inb_wo l)) (fun _ => rfl) _ fullShare X Q
/-- A store of a narrow input weight. -/
theorem storeWin_step (d : Dev nD) (l : Fin 3) (v : FVec F S1x256x512 .bf16) (Q : PUnit → sProp 𝕄) :
    iprop(∃ X, owns (d : Thread nD τ) (winS l) fullShare X)
      ⊢ iprop((owns (d : Thread nD τ) (winS l) fullShare v -∗ Q ⟨⟩) -∗ WP d (storeWin l v) Q) := by
  unfold storeWin
  rw [WP_bind]
  iintro ⟨%X, H⟩ Hk
  iapply (loadWin_step d l X) $$ H
  iintro %v' %_ H
  iapply (store_slice d winB _ (fun _ => rfl) _ _ X v) $$ H
  iexact Hk
/-- A store of a narrow output weight. -/
theorem storeWout_step (d : Dev nD) (l : Fin 3) (v : FVec F S1x512x256 .bf16) (Q : PUnit → sProp 𝕄) :
    iprop(∃ X, owns (d : Thread nD τ) (woutS l) fullShare X)
      ⊢ iprop((owns (d : Thread nD τ) (woutS l) fullShare v -∗ Q ⟨⟩) -∗ WP d (storeWout l v) Q) := by
  unfold storeWout
  rw [WP_bind]
  iintro ⟨%X, H⟩ Hk
  iapply (loadWout_step d l X) $$ H
  iintro %v' %_ H
  iapply (store_slice d woutB _ (fun _ => rfl) _ _ X v) $$ H
  iexact Hk

/-! ## Sends and waits -/

/-- A slot of the buffers of quarters credits as many units as a receive slot. -/
theorem credit4 (M : Memref sig .tc .vmem S4x4x64x128 .bf16) (off : Fin 4 → Nat) (h : ∀ a, off a + S1x1x64x128.size a ≤ S4x4x64x128.size a) :
    (slot4 M off h).view.dmaCredit = NS := rfl
/-- All receive slots credit the same units. -/
theorem credit3 (c : Fin 4) (j : Fin 3) : (slot3 c j).view.dmaCredit = NS := rfl

/-- A partial quarter's place comes back when it has left. -/
theorem payK_rsS (d : Dev nD) (r : ℕ) (c : Fin 4) (k : Fin 3) : payK (F := F) m d r 0 (kRsS c k) = anyS d (pqS c (peer d k)) := rfl
/-- The sent part of a hidden quarter comes back when it has left. -/
theorem payK_agS (d : Dev nD) (r : ℕ) (c : Fin 4) (k : Fin 3) :
    payK (F := F) m d r 0 (kAgS c k) = owns (d : Thread nD τ) (hfS c d) (shr k) (hAt m r d c) := rfl
/-- What the arrival of a partial quarter hands over. -/
theorem payK_rsR (d : Dev nD) (r : ℕ) (c : Fin 4) (k : Fin 3) :
    payK (F := F) m d r 0 (kRsR c k) = iprop(owns (d : Thread nD τ) (slot3 c k) fullShare (pqAt m r (peer d k) c d) ∗ anyS (peer d k) (hfS c d)
        ∗ reached ER (cell (peer d k) (kAgR c (rev k))) r) := rfl
/-- What the arrival of a hidden quarter hands over. -/
theorem payK_agR (d : Dev nD) (r : ℕ) (c : Fin 4) (k : Fin 3) :
    payK (F := F) m d r 0 (kAgR c k) = iprop(owns (d : Thread nD τ) (hfS c (peer d k)) fullShare (hAt m r (peer d k) c)
        ∗ (if r < 2 then slotNext d c k (r + 1) else iprop(emp))) := rfl

/-- A transfer's cell has one duty in each of its three rounds. -/
theorem dutK_x {r : ℕ} (hr : r < 3) (t c : Fin 4) (k : Fin 3) : dutK r (kX t c k) = {0} := if_pos hr

/-- A partial quarter is sent to a peer. -/
theorem sendRS_step (d : Dev nD) (c : Fin 4) (k : Fin 3) (l i : ℕ) (hl : l < 3) (O : CellTallies nD τ sig ℕ) (Q : PUnit → sProp 𝕄) :
    iprop(Ctx m K ∗ owns (d : Thread nD τ) (pqS c (peer d k)) fullShare (pqAt m l d c (peer d k)) ∗ slotNext d c k l ∗ anyS d (hfS c (peer d k))
        ∗ (dutyTok ER (cell d (kRsS c k)) l 0 ∗ dutyTok ER (cell (peer d k) (kRsR c (rev k))) l 0)
        ∗ reached ER (cell d (kRsS c k)) l ∗ reached ER (cell d (kAgR c k)) l
        ∗ owesO d (O + tallyAt (cell (peer d k) (kRsR c (rev k))) i NS))
      ⊢ iprop(((cred (tallyAt (cell d (kRsS c k)) 0 NS) ∗ owesO d O) -∗ Q ⟨⟩) -∗ WP d (sendRS c d k) Q) := by
  unfold slotNext sendRS
  iintro ⟨#HC, Hsrc, ⟨Hdst, Hr₂⟩, Hhf, ⟨Ht₁, Ht₂⟩, Hr₁, Hra, Ho⟩ Hk
  iapply (send_step (m := m) (K := K) d (peer d k) (peerP d k) (peerP_eq d k) (kRsS c k) (kRsR c (rev k)) l i (dutK_x hl _ _ _) (dutK_x hl _ _ _) _ _
    (semRsS_eq c k) (semRsR_eq c (rev k)) (slot4 pqB (off4 c (peerW d k).toNat) (inb_peer c d k)) (slot3 c (rev k)) _ _ _ _ (credit3 _ _) rfl rfl
    fullShare (pqAt m l d c (peer d k)) iprop(anyS d (hfS c (peer d k)) ∗ reached ER (cell d (kAgR c k)) l) O
    (by rw [slot_peer]; show _ ⊢ anyS d (pqS c (peer d k)); unfold anyS; iintro H; iexists _; iexact H)
    (by show _ ⊢ iprop(owns ((peer d k : Dev nD) : Thread nD τ) (slot3 c (rev k)) fullShare (pqAt m l (peer (peer d k) (rev k)) c (peer d k))
            ∗ anyS (peer (peer d k) (rev k)) (hfS c (peer d k)) ∗ reached ER (cell (peer (peer d k) (rev k)) (kAgR c (rev (rev k)))) l)
        rw [peer_peer, rev_rev])) $$ [Hsrc Hdst Hr₂ Hhf Ht₁ Ht₂ Hr₁ Hra Ho] [Hk]
  · isplitr; · iexact HC
    isplitl [Hsrc]; · (rw [slot_peer]; iexact Hsrc)
    isplitl [Hdst]; · (unfold anyS; iexact Hdst)
    isplitl [Hhf Hra]; · (isplitl [Hhf] <;> iassumption)
    isplitl [Ho]; · iexact Ho
    isplitl [Ht₁]; · iexact Ht₁
    isplitl [Hr₁]; · iexact Hr₁
    isplitl [Ht₂]; · iexact Ht₂
    iexact Hr₂
  iexact Hk

/-- A hidden quarter is sent to a peer. -/
theorem sendAG_step (d : Dev nD) (c : Fin 4) (k : Fin 3) (l i : ℕ) (hl : l < 3) (O : CellTallies nD τ sig ℕ) (Q : PUnit → sProp 𝕄) :
    iprop(Ctx m K ∗ owns (d : Thread nD τ) (hfS c d) (shr k) (hAt m l d c) ∗ anyS (peer d k) (hfS c d) ∗ reached ER (cell (peer d k) (kAgR c (rev k))) l
        ∗ (if l < 2 then iprop(anyS d (slot3 c k) ∗ reached ER (cell d (kRsR c k)) (l + 1)) else iprop(emp))
        ∗ (dutyTok ER (cell d (kAgS c k)) l 0 ∗ dutyTok ER (cell (peer d k) (kAgR c (rev k))) l 0)
        ∗ reached ER (cell d (kAgS c k)) l
        ∗ owesO d (O + tallyAt (cell (peer d k) (kAgR c (rev k))) i NS))
      ⊢ iprop(((cred (tallyAt (cell d (kAgS c k)) 0 NS) ∗ owesO d O) -∗ Q ⟨⟩) -∗ WP d (sendAG c d k) Q) := by
  unfold sendAG
  iintro ⟨#HC, Hsrc, Hdst, Hr₂, Hfr, ⟨Ht₁, Ht₂⟩, Hr₁, Ho⟩ Hk
  iapply (send_step (m := m) (K := K) d (peer d k) (peerP d k) (peerP_eq d k) (kAgS c k) (kAgR c (rev k)) l i (dutK_x hl _ _ _) (dutK_x hl _ _ _) _ _
    (semAgS_eq c k) (semAgR_eq c (rev k)) (slot4 hfB (off4 c (meW d).toNat) (inb_me c d)) (slot4 hfB (off4 c (meW d).toNat) (inb_me c d)) _ _ _ _ (credit4 _ _ _) rfl rfl
    (shr k) (hAt m l d c) (if l < 2 then iprop(anyS d (slot3 c k) ∗ reached ER (cell d (kRsR c k)) (l + 1)) else iprop(emp)) O
    (by rw [slot_me]; exact .rfl)
    (by rw [slot_me]
        show _ ⊢ iprop(owns ((peer d k : Dev nD) : Thread nD τ) (hfS c (peer (peer d k) (rev k))) fullShare (hAt m l (peer (peer d k) (rev k)) c)
            ∗ if l < 2 then slotNext (peer d k) c (rev k) (l + 1) else iprop(emp))
        unfold slotNext
        rw [peer_peer, rev_rev])) $$ [Hsrc Hdst Hr₂ Hfr Ht₁ Ht₂ Hr₁ Ho] [Hk]
  · isplitr; · iexact HC
    isplitl [Hsrc]; · (rw [slot_me]; iexact Hsrc)
    isplitl [Hdst]; · (rw [slot_me]; unfold anyS; iexact Hdst)
    isplitl [Hfr]; · iexact Hfr
    isplitl [Ho]; · iexact Ho
    isplitl [Ht₁]; · iexact Ht₁
    isplitl [Hr₁]; · iexact Hr₁
    isplitl [Ht₂]; · iexact Ht₂
    iexact Hr₂
  iexact Hk

/-- The wait for a partial quarter: the own one has left, a peer's has come. -/
theorem waitRS_step (d : Dev nD) (c : Fin 4) (k : Fin 3) (l i n : ℕ) (hl : l < 3) (hn : n ≤ 25) (hi : i + n < 26) (Q : PUnit → sProp 𝕄) :
    iprop(Ctx m K ∗ cred (tallyAt (cell d (kRsS c k)) 0 NS) ∗ cred (tallyAt (cell d (kRsR c (rev k))) i NS)
        ∗ At d (kRsS c k) l ∗ At d (kRsR c (rev k)) l ∗ owesE d n)
      ⊢ iprop(((owesE d n ∗ At d (kRsS c k) (l + 1) ∗ At d (kRsR c (rev k)) (l + 1) ∗ anyS d (pqS c (peer d k))
          ∗ payK m d l 0 (kRsR c (rev k))) -∗ Q ⟨⟩) -∗ WP d (waitRS c d k) Q) := by
  unfold waitRS
  rw [WP_bind]
  iintro ⟨#HC, HcS, HcR, HaS, HaR, Ho⟩ Hk
  iapply (wait_step (m := m) (K := K) d (kRsS c k) l 0 n (dutK_x hl _ _ _) _ (semRsS_eq c k) _ _ _ _ (by first | exact credit4 _ _ _ | exact credit3 _ _) hn (by omega) (by decide)) $$ [HcS HaS Ho]
  · isplitr; · iexact HC
    isplitl [HcS]; · iexact HcS
    isplitl [Ho] <;> iassumption
  iintro ⟨Ho, HaS, Hpq⟩
  iapply (wait_step (m := m) (K := K) d (kRsR c (rev k)) l i n (dutK_x hl _ _ _) _ (semRsR_eq c (rev k)) _ _ _ _ (by first | exact credit4 _ _ _ | exact credit3 _ _) hn hi (by omega)) $$ [HcR HaR Ho]
  · isplitr; · iexact HC
    isplitl [HcR]; · iexact HcR
    isplitl [Ho] <;> iassumption
  iintro ⟨Ho, HaR, Hp⟩
  iapply Hk
  isplitl [Ho]; · iexact Ho
  isplitl [HaS]; · iexact HaS
  isplitl [HaR]; · iexact HaR
  isplitl [Hpq]; · (iapply (Entails.of_eq (payK_rsS (m := m) d l c k)); iexact Hpq)
  iexact Hp

/-- The wait for a hidden quarter: the own one has left, a peer's has come. -/
theorem waitAG_step (d : Dev nD) (c : Fin 4) (k : Fin 3) (l i n : ℕ) (hl : l < 3) (hn : n ≤ 25) (hi : i + n < 26) (hi' : i < 32) (Q : PUnit → sProp 𝕄) :
    iprop(Ctx m K ∗ cred (tallyAt (cell d (kAgS c k)) 0 NS) ∗ cred (tallyAt (cell d (kAgR c (rev k))) i NS)
        ∗ At d (kAgS c k) l ∗ At d (kAgR c (rev k)) l ∗ owesE d n)
      ⊢ iprop(((owesE d n ∗ At d (kAgS c k) (l + 1) ∗ At d (kAgR c (rev k)) (l + 1) ∗ owns (d : Thread nD τ) (hfS c d) (shr k) (hAt m l d c)
          ∗ payK m d l 0 (kAgR c (rev k))) -∗ Q ⟨⟩) -∗ WP d (waitAG c d k) Q) := by
  unfold waitAG
  rw [WP_bind]
  iintro ⟨#HC, HcS, HcR, HaS, HaR, Ho⟩ Hk
  iapply (wait_step (m := m) (K := K) d (kAgS c k) l 0 n (dutK_x hl _ _ _) _ (semAgS_eq c k) _ _ _ _ (by first | exact credit4 _ _ _ | exact credit3 _ _) hn (by omega) (by decide)) $$ [HcS HaS Ho]
  · isplitr; · iexact HC
    isplitl [HcS]; · iexact HcS
    isplitl [Ho] <;> iassumption
  iintro ⟨Ho, HaS, Hpq⟩
  iapply (wait_step (m := m) (K := K) d (kAgR c (rev k)) l i n (dutK_x hl _ _ _) _ (semAgR_eq c (rev k)) _ _ _ _ (by first | exact credit4 _ _ _ | exact credit3 _ _) hn hi hi') $$ [HcR HaR Ho]
  · isplitr; · iexact HC
    isplitl [HcR]; · iexact HcR
    isplitl [Ho] <;> iassumption
  iintro ⟨Ho, HaR, Hp⟩
  iapply Hk
  isplitl [Ho]; · iexact Ho
  isplitl [HaS]; · iexact HaS
  isplitl [HaR]; · iexact HaR
  isplitl [Hpq]; · (iapply (Entails.of_eq (payK_agS (m := m) d l c k)); iexact Hpq)
  iexact Hp

end Cert.KernelIdeal
-- ==== Proof.Chunk.lean ====
module

public import proofs.«01_k».proof.Proof.Moves

@[expose] public section

set_option synthInstance.maxSize 4096

noncomputable section

/-! # One chunk through one layer -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × Kd → ℕ}

/-! ## What each stage owes -/

/-- At the stage that sends chunk `c`'s partial quarters of layer `l`, a receive credit is owed to each peer. -/
theorem due_rs (d : Dev nD) (c : Fin 4) (l : ℕ) (k : Fin 3) :
    due d (1 + 8 * l + c.val) k = tallyAt (cell (peer d k) (kRsR c (rev k))) (2 + 8 * l + c.val) NS := by
  unfold due
  rw [if_neg (by omega), if_pos (by omega)]
  have e : (⟨(1 + 8 * l + c.val - 1) % 4, Nat.mod_lt _ (by decide)⟩ : Fin 4) = c := Fin.ext (by show (1 + 8 * l + c.val - 1) % 4 = c.val; omega)
  rw [e, show 1 + 8 * l + c.val + 1 = 2 + 8 * l + c.val from by omega]

/-- At the stage that sends chunk `c`'s hidden quarter of layer `l`, a receive credit is owed to each peer. -/
theorem due_ag (d : Dev nD) (c : Fin 4) (l : ℕ) (k : Fin 3) :
    due d (5 + 8 * l + c.val) k = tallyAt (cell (peer d k) (kAgR c (rev k))) (6 + 8 * l + c.val) NS := by
  unfold due
  rw [if_neg (by omega), if_neg (by omega)]
  have e : (⟨(5 + 8 * l + c.val - 1) % 4, Nat.mod_lt _ (by decide)⟩ : Fin 4) = c := Fin.ext (by show (5 + 8 * l + c.val - 1) % 4 = c.val; omega)
  rw [e, show 5 + 8 * l + c.val + 1 = 6 + 8 * l + c.val from by omega]

/-- What is owed before the partial quarters of a chunk are sent: the three credits and what remains. -/
theorem Ow_rs (d : Dev nD) (c : Fin 4) (l n : ℕ) (h : n + 1 + 8 * l + c.val = 24) :
    Ow d (n + 1) = Ow d n + tallyAt (cell (peer d 2) (kRsR c (rev 2))) (2 + 8 * l + c.val) NS
      + tallyAt (cell (peer d 1) (kRsR c (rev 1))) (2 + 8 * l + c.val) NS
      + tallyAt (cell (peer d 0) (kRsR c (rev 0))) (2 + 8 * l + c.val) NS := by
  rw [Ow, show 24 - n = 1 + 8 * l + c.val from by omega, due_rs, due_rs, due_rs]

/-- What is owed before the hidden quarter of a chunk is sent: the three credits and what remains. -/
theorem Ow_ag (d : Dev nD) (c : Fin 4) (l n : ℕ) (h : n + 5 + 8 * l + c.val = 24) :
    Ow d (n + 1) = Ow d n + tallyAt (cell (peer d 2) (kAgR c (rev 2))) (6 + 8 * l + c.val) NS
      + tallyAt (cell (peer d 1) (kAgR c (rev 1))) (6 + 8 * l + c.val) NS
      + tallyAt (cell (peer d 0) (kAgR c (rev 0))) (6 + 8 * l + c.val) NS := by
  rw [Ow, show 24 - n = 5 + 8 * l + c.val from by omega, due_ag, due_ag, due_ag]

/-- The layer of a layer's number. -/
theorem lay_val (l : Fin 3) : lay l.val = l := Fin.ext (Nat.mod_eq_of_lt l.isLt)

/-- A partial quarter at a layer, by the layer's own weight. -/
theorem pqAt_eq (l : Fin 3) (d : Dev nD) (c q : Fin 4) : pqAt m l.val d c q = quarterV (xAt m l.val d c) (winAt m d l) q := by
  unfold pqAt pqOf
  rw [lay_val]

/-- A quarter's place owned at a value is owned. -/
theorem anyS_intro (d : Dev nD) (M : Memref sig .tc .vmem S64x128 .bf16) (X : FVec F S64x128 .bf16) :
    owns (d : Thread nD τ) M fullShare X ⊢ anyS d M := by
  unfold anyS; iintro H; iexists X; iexact H

/-- Start: the four partial quarters are computed, three sent. -/
theorem startRs_step (d : Dev nD) (c : Fin 4) (l : Fin 3) (n : ℕ) (hn : n + 1 + 8 * l.val + c.val = 24) (Q : FVec F S64x128 .f32 → sProp 𝕄) :
    iprop(Ctx m K ∗ owns (d : Thread nD τ) (winS l) fullShare (winAt m d l) ∗ Ready d c l.val ∗ TokRs d c l.val ∗ owesE d (n + 1))
      ⊢ iprop((∀ o, ⌜o = extf .f32 (pqAt m l.val d c d) Gen.bitsLt_bf16_f32⌝ -∗ (owns (d : Thread nD τ) (winS l) fullShare (winAt m d l) ∗ Mid d c l.val ∗ owesE d n) -∗ Q o)
        -∗ WP d (startRs c l d (xAt m l.val d c)) Q) := by
  unfold startRs
  rw [WP_bind]
  unfold Ready TokRs
  rw [quad_dev d (fun s => anyS d (hfS c s))]
  unfold owesE
  rw [Ow_rs d c l.val n hn]
  iintro ⟨#HC, Hw, ⟨Hpq, ⟨Hh, Hhf⟩, HP, HN⟩, Ht, Ho⟩ Hk
  iapply (loadWin_step d l _) $$ Hw
  iintro %w %hw Hw
  subst hw
  simp only [← pqAt_eq]
  unfold quad
  icases Hpq with ⟨Hq0, Hq1, Hq2, Hq3⟩
  simp only [WP_bind]
  unfold storePQ
  iapply (store4_step d pqB _ _ _ _ (pqAt m l.val d c 0)) $$ Hq0; iintro Hq0
  iapply (store4_step d pqB _ _ _ _ (pqAt m l.val d c 1)) $$ Hq1; iintro Hq1
  iapply (store4_step d pqB _ _ _ _ (pqAt m l.val d c 2)) $$ Hq2; iintro Hq2
  iapply (store4_step d pqB _ _ _ _ (pqAt m l.val d c 3)) $$ Hq3; iintro Hq3
  ihave Hq := (Entails.of_eq (quad_dev d (fun q => owns (d : Thread nD τ) (pqS c q) fullShare (pqAt m l.val d c q)))) $$ [Hq0 Hq1 Hq2 Hq3]
  · unfold quad
    isplitl [Hq0]; · iexact Hq0
    isplitl [Hq1]; · iexact Hq1
    isplitl [Hq2] <;> iassumption
  unfold tri P4 At SlotN
  simp only [if_pos l.isLt]
  icases Hq with ⟨Hown, Hq0, Hq1, Hq2⟩
  icases Hhf with ⟨Hh0, Hh1, Hh2⟩
  icases HP with ⟨⟨⟨HS0, #HrS0⟩, HR0, HA0, HB0, #HrB0⟩, ⟨⟨HS1, #HrS1⟩, HR1, HA1, HB1, #HrB1⟩, ⟨⟨HS2, #HrS2⟩, HR2, HA2, HB2, #HrB2⟩⟩
  icases HN with ⟨HN0, HN1, HN2⟩
  icases Ht with ⟨Ht0, Ht1, Ht2⟩
  iapply (sendRS_step (m := m) (K := K) d c 0 l.val (2 + 8 * l.val + c.val) l.isLt _) $$ [Hq0 HN0 Hh0 Ht0 Ho]
  · isplitr; · iexact HC
    isplitl [Hq0]; · iexact Hq0
    isplitl [HN0]; · iexact HN0
    isplitl [Hh0]; · iexact Hh0
    isplitl [Ht0]; · iexact Ht0
    isplitr; · iexact HrS0
    isplitr; · iexact HrB0
    iexact Ho
  iintro ⟨Hc0, Ho⟩
  iapply (sendRS_step (m := m) (K := K) d c 1 l.val (2 + 8 * l.val + c.val) l.isLt _) $$ [Hq1 HN1 Hh1 Ht1 Ho]
  · isplitr; · iexact HC
    isplitl [Hq1]; · iexact Hq1
    isplitl [HN1]; · iexact HN1
    isplitl [Hh1]; · iexact Hh1
    isplitl [Ht1]; · iexact Ht1
    isplitr; · iexact HrS1
    isplitr; · iexact HrB1
    iexact Ho
  iintro ⟨Hc1, Ho⟩
  iapply (sendRS_step (m := m) (K := K) d c 2 l.val (2 + 8 * l.val + c.val) l.isLt _) $$ [Hq2 HN2 Hh2 Ht2 Ho]
  · isplitr; · iexact HC
    isplitl [Hq2]; · iexact Hq2
    isplitl [HN2]; · iexact HN2
    isplitl [Hh2]; · iexact Hh2
    isplitl [Ht2]; · iexact Ht2
    isplitr; · iexact HrS2
    isplitr; · iexact HrB2
    iexact Ho
  iintro ⟨Hc2, Ho⟩
  have e : slot4 pqB (off4 c (meW d).toNat) (inb_me c d) = pqS c d := slot_me pqB c d
  rw [← e]
  iapply (load4_step d pqB _ _ _ (pqAt m l.val d c d)) $$ Hown
  iintro %v %hv Hown
  rw [e]
  iapply (WP_pure d _ _)
  iapply Hk $$ %_ %(by rw [hv])
  unfold Mid tri P4 At
  isplitl [Hw]; · iexact Hw
  isplitr [Ho]
  · isplitl [Hown]; · iapply (anyS_intro d _ _); iexact Hown
    isplitl [Hh]; · iexact Hh
    isplitl [HS0 HR0 HA0 HB0 HS1 HR1 HA1 HB1 HS2 HR2 HA2 HB2]
    · isplitl [HS0 HR0 HA0 HB0]
      · isplitl [HS0]; · (isplitl [HS0]; · iexact HS0
                          iexact HrS0)
        isplitl [HR0]; · iexact HR0
        isplitl [HA0]; · iexact HA0
        isplitl [HB0]; · iexact HB0
        iexact HrB0
      isplitl [HS1 HR1 HA1 HB1]
      · isplitl [HS1]; · (isplitl [HS1]; · iexact HS1
                          iexact HrS1)
        isplitl [HR1]; · iexact HR1
        isplitl [HA1]; · iexact HA1
        isplitl [HB1]; · iexact HB1
        iexact HrB1
      · isplitl [HS2]; · (isplitl [HS2]; · iexact HS2
                          iexact HrS2)
        isplitl [HR2]; · iexact HR2
        isplitl [HA2]; · iexact HA2
        isplitl [HB2]; · iexact HB2
        iexact HrB2
    isplitl [Hc0]; · iexact Hc0
    isplitl [Hc1] <;> iassumption
  iexact Ho

/-- Seen from peer 0, this device is peer 2. -/
theorem rev0 : rev 0 = 2 := by decide
/-- Seen from peer 1, this device is peer 1. -/
theorem rev1 : rev 1 = 1 := by decide
/-- Seen from peer 2, this device is peer 0. -/
theorem rev2 : rev 2 = 0 := by decide

/-- A place owned outright is owned in the three parts it is sent in. -/
theorem owns_shr (d : Dev nD) (M : Memref sig .tc .vmem S64x128 .bf16) (X : FVec F S64x128 .bf16) :
    owns (d : Thread nD τ) M fullShare X ⊢ tri (F := F) fun k => owns (d : Thread nD τ) M (shr k) X := by
  unfold tri shr
  iintro H
  ihave H' := (owns_halves (d : Thread nD τ) M fullShare X).1 $$ H
  icases H' with ⟨Hl, Hr⟩
  ihave H' := (owns_halves (d : Thread nD τ) M fullShare.right X).1 $$ Hr
  isplitl [Hl]; · iexact Hl
  iexact H'

/-- And back. -/
theorem owns_shr_join (d : Dev nD) (M : Memref sig .tc .vmem S64x128 .bf16) (X : FVec F S64x128 .bf16) :
    (tri (F := F) fun k => owns (d : Thread nD τ) M (shr k) X) ⊢ owns (d : Thread nD τ) M fullShare X := by
  unfold tri shr
  iintro ⟨Hl, Hr⟩
  ihave H' := (owns_halves (d : Thread nD τ) M fullShare.right X).2 $$ Hr
  iapply (owns_halves (d : Thread nD τ) M fullShare X).2
  isplitl [Hl] <;> iassumption

/-- After the reduction a receive slot goes on with the hidden quarter, or in the last layer stays. -/
theorem slot_split (d : Dev nD) (c : Fin 4) (k : Fin 3) (l : ℕ) :
    iprop(anyS d (slot3 c k) ∗ reached ER (cell d (kRsR c k)) (l + 1))
      ⊢ iprop((if l < 2 then iprop(anyS (F := F) d (slot3 c k) ∗ reached ER (cell d (kRsR c k)) (l + 1)) else iprop(emp))
        ∗ (if l < 2 then iprop(emp) else anyS d (slot3 c k))) := by
  by_cases h : l < 2
  · simp only [if_pos h]
    iintro H; isplitl [H]; · iexact H
    iempintro
  · simp only [if_neg h]
    iintro ⟨H, -⟩; isplitr; · iempintro
    iexact H

/-- What is kept and what has come make the next layer's slot. -/
theorem slot_join (d : Dev nD) (c : Fin 4) (k : Fin 3) (l : ℕ) :
    iprop((if l < 2 then iprop(emp) else anyS (F := F) d (slot3 c k)) ∗ (if l < 2 then slotNext d c k (l + 1) else iprop(emp)))
      ⊢ SlotN d c k (l + 1) := by
  unfold SlotN
  by_cases h : l < 2
  · simp only [if_pos h, if_pos (show l + 1 < 3 by omega)]
    iintro ⟨-, H⟩; iexact H
  · simp only [if_neg h, if_neg (show ¬ l + 1 < 3 by omega)]
    iintro ⟨H, -⟩; iexact H

/-- The hidden quarter is the reduction of the own and the three received partial quarters. -/
theorem hAt_red (d : Dev nD) (c : Fin 4) (l : ℕ) :
    reduceV (extf .f32 (pqAt m l d c d) Gen.bitsLt_bf16_f32) (pqAt m l (peer d 0) c d) (pqAt m l (peer d 1) c d) (pqAt m l (peer d 2) c d)
      = hAt m l d c := rfl

/-- Reduce: the three partial quarters are received and summed onto the own one, the sum sent. -/
theorem reduceAg_step (d : Dev nD) (c : Fin 4) (l n : ℕ) (hl : l < 3) (hn : n + 5 + 8 * l + c.val = 24) (Q : PUnit → sProp 𝕄) :
    iprop(Ctx m K ∗ Mid d c l ∗ TokAg d c l ∗ CredRs d c l ∗ owesE d (n + 1))
      ⊢ iprop(((Ag d c l ∗ owesE d n) -∗ Q ⟨⟩)
        -∗ WP d (reduceAg c d (extf .f32 (pqAt m l d c d) Gen.bitsLt_bf16_f32)) Q) := by
  have w0 := fun Q => waitRS_step (m := m) (K := K) d c 0 l (2 + 8 * l + c.val) (n + 1) hl (by omega) (by omega) Q
  have w1 := fun Q => waitRS_step (m := m) (K := K) d c 1 l (2 + 8 * l + c.val) (n + 1) hl (by omega) (by omega) Q
  have w2 := fun Q => waitRS_step (m := m) (K := K) d c 2 l (2 + 8 * l + c.val) (n + 1) hl (by omega) (by omega) Q
  simp only [rev0, rev1, rev2, payK_rsR] at w0 w1 w2
  unfold reduceAg
  simp only [WP_bind]
  unfold Mid TokAg CredRs tri P4
  iintro ⟨#HC, ⟨Hown, Hh, ⟨⟨HS0, HR0, HA0, HB0⟩, ⟨HS1, HR1, HA1, HB1⟩, ⟨HS2, HR2, HA2, HB2⟩⟩, ⟨Hc0, Hc1, Hc2⟩⟩, ⟨Ht0, Ht1, Ht2⟩, ⟨Hd0, Hd1, Hd2⟩, Ho⟩ Hk
  iapply (w0 _) $$ [Hc0 Hd2 HS0 HR2 Ho]
  · isplitr; · iexact HC
    isplitl [Hc0]; · iexact Hc0
    isplitl [Hd2]; · iexact Hd2
    isplitl [HS0]; · iexact HS0
    isplitl [HR2] <;> iassumption
  iintro ⟨Ho, HS0, HR2, Hq0, ⟨Hs2, Hp2, #Hr2⟩⟩
  iapply (w1 _) $$ [Hc1 Hd1 HS1 HR1 Ho]
  · isplitr; · iexact HC
    isplitl [Hc1]; · iexact Hc1
    isplitl [Hd1]; · iexact Hd1
    isplitl [HS1]; · iexact HS1
    isplitl [HR1] <;> iassumption
  iintro ⟨Ho, HS1, HR1, Hq1, ⟨Hs1, Hp1, #Hr1⟩⟩
  iapply (w2 _) $$ [Hc2 Hd0 HS2 HR0 Ho]
  · isplitr; · iexact HC
    isplitl [Hc2]; · iexact Hc2
    isplitl [Hd0]; · iexact Hd0
    isplitl [HS2]; · iexact HS2
    isplitl [HR0] <;> iassumption
  iintro ⟨Ho, HS2, HR0, Hq2, ⟨Hs0, Hp0, #Hr0⟩⟩
  iapply (load3_step d c 0 _ _) $$ Hs0; iintro %v0 %hv0 Hs0
  iapply (load3_step d c 1 _ _) $$ Hs1; iintro %v1 %hv1 Hs1
  iapply (load3_step d c 2 _ _) $$ Hs2; iintro %v2 %hv2 Hs2
  rw [hv0, hv1, hv2, hAt_red]
  have e : slot4 hfB (off4 c (meW d).toNat) (inb_me c d) = hfS c d := slot_me hfB c d
  iapply (store4_step d hfB _ _ _ _ _) $$ [Hh]
  · rw [e]; iexact Hh
  rw [e]
  iintro Hh
  ihave Hh' := (owns_shr d (hfS c d) (hAt m l d c)) $$ Hh
  unfold tri
  icases Hh' with ⟨Hh0, Hh1, Hh2⟩
  unfold owesE
  rw [Ow_ag d c l n hn]
  unfold At
  icases HR0 with ⟨HR0, #HrR0⟩
  icases HR1 with ⟨HR1, #HrR1⟩
  icases HR2 with ⟨HR2, #HrR2⟩
  icases HA0 with ⟨HA0, #HrA0⟩
  icases HA1 with ⟨HA1, #HrA1⟩
  icases HA2 with ⟨HA2, #HrA2⟩
  ihave Hs0 := (slot_split d c 0 l) $$ [Hs0]
  · isplitl [Hs0]; · (iapply (anyS_intro d _ _); iexact Hs0)
    iexact HrR0
  ihave Hs1 := (slot_split d c 1 l) $$ [Hs1]
  · isplitl [Hs1]; · (iapply (anyS_intro d _ _); iexact Hs1)
    iexact HrR1
  ihave Hs2 := (slot_split d c 2 l) $$ [Hs2]
  · isplitl [Hs2]; · (iapply (anyS_intro d _ _); iexact Hs2)
    iexact HrR2
  icases Hs0 with ⟨Hs0, Hk0⟩
  icases Hs1 with ⟨Hs1, Hk1⟩
  icases Hs2 with ⟨Hs2, Hk2⟩
  iapply (sendAG_step (m := m) (K := K) d c 0 l (6 + 8 * l + c.val) hl _) $$ [Hh0 Hp0 Hs0 Ht0 Ho]
  · isplitr; · iexact HC
    isplitl [Hh0]; · iexact Hh0
    isplitl [Hp0]; · iexact Hp0
    isplitr; · iexact Hr0
    isplitl [Hs0]; · iexact Hs0
    isplitl [Ht0]; · iexact Ht0
    isplitr; · iexact HrA0
    iexact Ho
  iintro ⟨Hc0, Ho⟩
  iapply (sendAG_step (m := m) (K := K) d c 1 l (6 + 8 * l + c.val) hl _) $$ [Hh1 Hp1 Hs1 Ht1 Ho]
  · isplitr; · iexact HC
    isplitl [Hh1]; · iexact Hh1
    isplitl [Hp1]; · iexact Hp1
    isplitr; · iexact Hr1
    isplitl [Hs1]; · iexact Hs1
    isplitl [Ht1]; · iexact Ht1
    isplitr; · iexact HrA1
    iexact Ho
  iintro ⟨Hc1, Ho⟩
  iapply (sendAG_step (m := m) (K := K) d c 2 l (6 + 8 * l + c.val) hl _) $$ [Hh2 Hp2 Hs2 Ht2 Ho]
  · isplitr; · iexact HC
    isplitl [Hh2]; · iexact Hh2
    isplitl [Hp2]; · iexact Hp2
    isplitr; · iexact Hr2
    isplitl [Hs2]; · iexact Hs2
    isplitl [Ht2]; · iexact Ht2
    isplitr; · iexact HrA2
    iexact Ho
  iintro ⟨Hc2, Ho⟩
  iapply Hk
  isplitr [Ho]
  · unfold Ag
    rw [quad_dev d (fun q => anyS d (pqS c q))]
    unfold tri P4 At
    isplitl [Hown Hq0 Hq1 Hq2]
    · isplitl [Hown]; · iexact Hown
      isplitl [Hq0]; · iexact Hq0
      isplitl [Hq1] <;> iassumption
    isplitl [HS0 HR0 HA0 HB0 HS1 HR1 HA1 HB1 HS2 HR2 HA2 HB2]
    · isplitl [HS0 HR0 HA0 HB0]
      · isplitl [HS0]; · iexact HS0
        isplitl [HR0]; · (isplitl [HR0]; · iexact HR0
                          iexact HrR0)
        isplitl [HA0]; · (isplitl [HA0]; · iexact HA0
                          iexact HrA0)
        iexact HB0
      isplitl [HS1 HR1 HA1 HB1]
      · isplitl [HS1]; · iexact HS1
        isplitl [HR1]; · (isplitl [HR1]; · iexact HR1
                          iexact HrR1)
        isplitl [HA1]; · (isplitl [HA1]; · iexact HA1
                          iexact HrA1)
        iexact HB1
      · isplitl [HS2]; · iexact HS2
        isplitl [HR2]; · (isplitl [HR2]; · iexact HR2
                          iexact HrR2)
        isplitl [HA2]; · (isplitl [HA2]; · iexact HA2
                          iexact HrA2)
        iexact HB2
    isplitl [Hc0 Hc1 Hc2]
    · isplitl [Hc0]; · iexact Hc0
      isplitl [Hc1] <;> iassumption
    isplitl [Hk0]; · iexact Hk0
    isplitl [Hk1] <;> iassumption
  iexact Ho

/-- Finish: the three hidden quarters are received, and the next layer's activations computed. -/
theorem finishAg_step (d : Dev nD) (c : Fin 4) (l : Fin 3) (n : ℕ) (hn : n ≤ 25) (hi : 6 + 8 * l.val + c.val + n < 26) (Q : FVec F S64x256 .f32 → sProp 𝕄) :
    iprop(Ctx m K ∗ Ag d c l.val ∗ CredAg d c l.val ∗ owns (d : Thread nD τ) (woutS l) fullShare (woutAt m d l) ∗ owesE d n)
      ⊢ iprop((∀ x, ⌜x = xAt m (l.val + 1) d c⌝ -∗ (Ready d c (l.val + 1) ∗ owns (d : Thread nD τ) (woutS l) fullShare (woutAt m d l) ∗ owesE d n) -∗ Q x)
        -∗ WP d (finishAg c l d) Q) := by
  have w0 := fun Q => waitAG_step (m := m) (K := K) d c 0 l.val (6 + 8 * l.val + c.val) n l.isLt hn hi (by omega) Q
  have w1 := fun Q => waitAG_step (m := m) (K := K) d c 1 l.val (6 + 8 * l.val + c.val) n l.isLt hn hi (by omega) Q
  have w2 := fun Q => waitAG_step (m := m) (K := K) d c 2 l.val (6 + 8 * l.val + c.val) n l.isLt hn hi (by omega) Q
  simp only [rev0, rev1, rev2, payK_agR] at w0 w1 w2
  unfold finishAg
  simp only [WP_bind]
  unfold Ag CredAg tri P4
  iintro ⟨#HC, ⟨Hpq, ⟨⟨HS0, HR0, HA0, HB0⟩, ⟨HS1, HR1, HA1, HB1⟩, ⟨HS2, HR2, HA2, HB2⟩⟩, ⟨Hc0, Hc1, Hc2⟩, ⟨Hk0, Hk1, Hk2⟩⟩, ⟨Hd0, Hd1, Hd2⟩, Hw, Ho⟩ Hk
  iapply (w0 _) $$ [Hc0 Hd2 HA0 HB2 Ho]
  · isplitr; · iexact HC
    isplitl [Hc0]; · iexact Hc0
    isplitl [Hd2]; · iexact Hd2
    isplitl [HA0]; · iexact HA0
    isplitl [HB2] <;> iassumption
  iintro ⟨Ho, HA0, HB2, Hh0, ⟨Hp2, Hn2⟩⟩
  iapply (w1 _) $$ [Hc1 Hd1 HA1 HB1 Ho]
  · isplitr; · iexact HC
    isplitl [Hc1]; · iexact Hc1
    isplitl [Hd1]; · iexact Hd1
    isplitl [HA1]; · iexact HA1
    isplitl [HB1] <;> iassumption
  iintro ⟨Ho, HA1, HB1, Hh1, ⟨Hp1, Hn1⟩⟩
  iapply (w2 _) $$ [Hc2 Hd0 HA2 HB0 Ho]
  · isplitr; · iexact HC
    isplitl [Hc2]; · iexact Hc2
    isplitl [Hd0]; · iexact Hd0
    isplitl [HA2]; · iexact HA2
    isplitl [HB0] <;> iassumption
  iintro ⟨Ho, HA2, HB0, Hh2, ⟨Hp0, Hn0⟩⟩
  ihave Hh := (owns_shr_join d (hfS c d) (hAt m l.val d c)) $$ [Hh0 Hh1 Hh2]
  · unfold tri
    isplitl [Hh0]; · iexact Hh0
    isplitl [Hh1] <;> iassumption
  ihave Hq := (Entails.of_eq (quad_dev d (fun s => owns (d : Thread nD τ) (hfS c s) fullShare (hAt m l.val s c))).symm) $$ [Hh Hp0 Hp1 Hp2]
  · unfold tri
    isplitl [Hh]; · iexact Hh
    isplitl [Hp0]; · iexact Hp0
    isplitl [Hp1] <;> iassumption
  unfold quad
  icases Hq with ⟨Hq0, Hq1, Hq2, Hq3⟩
  iapply (load4_step d hfB _ _ _ (hAt m l.val (0 : Fin 4) c)) $$ Hq0; iintro %v0 %hv0 Hq0
  iapply (load4_step d hfB _ _ _ (hAt m l.val (1 : Fin 4) c)) $$ Hq1; iintro %v1 %hv1 Hq1
  iapply (load4_step d hfB _ _ _ (hAt m l.val (2 : Fin 4) c)) $$ Hq2; iintro %v2 %hv2 Hq2
  iapply (load4_step d hfB _ _ _ (hAt m l.val (3 : Fin 4) c)) $$ Hq3; iintro %v3 %hv3 Hq3
  iapply (loadWout_step d l _) $$ Hw; iintro %w %hw Hw
  rw [hv0, hv1, hv2, hv3, hw]
  iapply (WP_pure d _ _)
  iapply Hk $$ %_ %(by rw [xAt, lay_val]; rfl)
  unfold Ready quad tri P4
  isplitr [Hw Ho]
  · isplitl [Hpq]; · iexact Hpq
    isplitl [Hq0 Hq1 Hq2 Hq3]
    · isplitl [Hq0]; · (iapply (anyS_intro d _ _); iexact Hq0)
      isplitl [Hq1]; · (iapply (anyS_intro d _ _); iexact Hq1)
      isplitl [Hq2]; · (iapply (anyS_intro d _ _); iexact Hq2)
      iapply (anyS_intro d _ _); iexact Hq3
    isplitl [HS0 HR0 HA0 HB0 HS1 HR1 HA1 HB1 HS2 HR2 HA2 HB2]
    · isplitl [HS0 HR0 HA0 HB0]
      · isplitl [HS0]; · iexact HS0
        isplitl [HR0]; · iexact HR0
        isplitl [HA0]; · iexact HA0
        iexact HB0
      isplitl [HS1 HR1 HA1 HB1]
      · isplitl [HS1]; · iexact HS1
        isplitl [HR1]; · iexact HR1
        isplitl [HA1]; · iexact HA1
        iexact HB1
      · isplitl [HS2]; · iexact HS2
        isplitl [HR2]; · iexact HR2
        isplitl [HA2]; · iexact HA2
        iexact HB2
    isplitl [Hk0 Hn0]; · (iapply (slot_join d c 0 l.val); isplitl [Hk0] <;> iassumption)
    isplitl [Hk1 Hn1]; · (iapply (slot_join d c 1 l.val); isplitl [Hk1] <;> iassumption)
    iapply (slot_join d c 2 l.val); isplitl [Hk2] <;> iassumption
  isplitl [Hw] <;> iassumption

end Cert.KernelIdeal
-- ==== Proof.Body.lean ====
module

public import proofs.«01_k».proof.Proof.Chunk

@[expose] public section

set_option synthInstance.maxSize 4096

noncomputable section

/-! # The whole body -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × Kd → ℕ}

/-! ## The result's window -/

/-- The place of a result's entry inside its chunk. -/
def rowIdx (i : S256x256.Idx) : S64x256.Idx := fun a => match a with
  | ⟨0, _⟩ => ⟨(i 0).val % 64, Nat.mod_lt _ (by decide)⟩
  | ⟨1, _⟩ => ⟨(i 1).val, (i 1).isLt⟩

/-- The chunk of a result's entry. -/
def rowChunk (i : S256x256.Idx) : Fin 4 := ⟨(i 0).val / 64, by have : (i 0).val < 256 := (i 0).isLt; omega⟩

/-- What device `d` computes. -/
def outAt (m : (ℓ : Loc nD τ sig) → Buf (Elt F) ℓ) (d : Dev nD) : FVec F S256x256 .f32 := fun i => xAt m 3 d (rowChunk i) (rowIdx i)

/-- The result's window with its first `n` chunks written. -/
def OutSt (m : (ℓ : Loc nD τ sig) → Buf (Elt F) ℓ) (d : Dev nD) (n : ℕ) : sProp 𝕄 :=
  iprop(∃ f : Buf (Elt F) ((d : Thread nD τ).loc cc0_stg2_0), ⌜∀ i : S256x256.Idx, (i 0).val < 64 * n → f i = outAt m d i⌝
    ∗ (((d : Thread nD τ).loc cc0_stg2_0) ↦{fullShare} f))

/-- The rectangle of a chunk's rows. -/
abbrev rX (c : Fin 4) : Rect S256x256 := Rect.unit (s := S256x256) ![64 * c.val, 0] S64x256.size (inb_x c)

/-- Row `x` of a chunk's rectangle is row `64 c + x` of the whole. -/
theorem rX_emb0 (c : Fin 4) (x : S64x256.Idx) : (((rX c).emb x) 0).val = 64 * c.val + (x 0).val := by
  show 64 * c.val + 1 * (x 0).val = _
  rw [Nat.one_mul]
/-- The rectangle keeps the column. -/
theorem rX_emb1 (c : Fin 4) (x : S64x256.Idx) : (((rX c).emb x) 1).val = (x 1).val := by
  show 0 + 1 * (x 1).val = _
  rw [Nat.one_mul, Nat.zero_add]

/-- Writing chunk `c` puts the chunk's value at the chunk's place. -/
theorem write_out (c : Fin 4) (f : FVec F S256x256 .f32) (w : FVec F S64x256 .f32) (x : S64x256.Idx) :
    ((outB.access (rX c)).write (Elt F) f w Finset.univ : FVec F S256x256 .f32) ((rX c).emb x) = w x := by
  have h := View.write_emb_of_mem (Val := Elt F) (v := outB.access (rX c)) f w (Finset.mem_univ x)
  exact h

/-- Writing chunk `c` leaves the earlier rows alone. -/
theorem write_out_off (c : Fin 4) (f : FVec F S256x256 .f32) (w : FVec F S64x256 .f32) (i : S256x256.Idx) (hi : (i 0).val < 64 * c.val) :
    ((outB.access (rX c)).write (Elt F) f w Finset.univ : FVec F S256x256 .f32) i = f i := by
  refine View.write_of_not_mem (Val := Elt F) (v := outB.access (rX c)) f w _ ?_
  intro h
  obtain ⟨x, -, hx⟩ := Finset.mem_map.mp h
  have h0 := congrArg (fun j : S256x256.Idx => (j 0).val) hx
  have h1 := rX_emb0 c x
  have h2 : (((rX c).emb x) 0).val = (i 0).val := h0
  omega

/-- Storing the result's chunk `c` after the earlier ones: the window has one more chunk written. -/
theorem storeOut_step (d : Dev nD) (c : Fin 4) (Q : PUnit → sProp 𝕄) :
    OutSt m d c.val ⊢ iprop((OutSt m d (c.val + 1) -∗ Q ⟨⟩) -∗ WP d (storeOut c (xAt m 3 d c)) Q) := by
  unfold storeOut
  rw [WP_bind]
  unfold OutSt WP Prog.lift
  iintro ⟨%f, %hf, H⟩ Hk
  iapply (wp_load_rect 𝒱₀ (d : Thread nD τ) none Set.univ (m := outB) (r := rX c) (S := Finset.univ) (Finset.subset_univ _)) $$ H
  iintro H
  rw [wp_ret]; imodintro
  iapply (wp_store 𝒱₀ (d : Thread nD τ) none Set.univ (m := outB) (r := rX c) (S := Finset.univ) (Finset.subset_univ _)) $$ H
  iintro H
  rw [wp_ret]; imodintro
  iapply Hk
  iexists _; isplitr
  rotate_left
  · iexact H
  · ipureintro
    intro i hi
    by_cases h : (i 0).val < 64 * c.val
    · exact (write_out_off c f _ i h).trans (hf i h)
    · have hc : rowChunk i = c := Fin.ext (by show (i 0).val / 64 = c.val; omega)
      have he : (rX c).emb (rowIdx i) = i := by
        funext a
        refine Fin.ext ?_
        fin_cases a
        · refine (rX_emb0 c (rowIdx i)).trans ?_
          show 64 * c.val + (i 0).val % 64 = (i 0).val
          omega
        · exact rX_emb1 c (rowIdx i)
      have := write_out c f (xAt m 3 d c) (rowIdx i)
      rw [he] at this
      refine this.trans ?_
      unfold outAt
      rw [hc]

/-! ## Loads of the windows -/

/-- A load of a part of a place owned whole. -/
theorem load_part (d : Dev nD) {s : Shape} {e : EltTy} (M : Memref sig .tc .vmem s e) (r : Rect s)
    (hl : M.view.LoadsAt r.toLoadRect) (q : PosShare TreeShare) (X : s.Idx → Elt F e) (Q : (r.shape.Idx → Elt F e) → sProp 𝕄) :
    owns (d : Thread nD τ) M q X
      ⊢ iprop((∀ f, ⌜M.view.read (Elt F) f = X⌝ -∗ owns (d : Thread nD τ) M q X -∗ Q ((M.access r).read (Elt F) f))
        -∗ WP d (Prog.lift (.load M r.toLoadRect hl)) Q) := by
  unfold owns WP Prog.lift
  iintro ⟨%f, %hf, H⟩ Hk
  iapply (wp_load_rect 𝒱₀ (d : Thread nD τ) none Set.univ (m := M) (r := r) (S := M.view.set) (View.set_slice_subset M.view r)) $$ H
  iintro H
  rw [wp_ret]; imodintro
  iapply Hk $$ %f %hf
  iexists f; isplitr
  · ipureintro; exact hf
  iexact H

/-- Loading chunk `c` of the activations gives the first layer's chunk. -/
theorem loadX_step (d : Dev nD) (c : Fin 4) (Q : FVec F S64x256 .f32 → sProp 𝕄) :
    owns (d : Thread nD τ) xB fullShare (xstg m d)
      ⊢ iprop((∀ v, ⌜v = xAt m 0 d c⌝ -∗ owns (d : Thread nD τ) xB fullShare (xstg m d) -∗ Q v) -∗ WP d (loadX c) Q) := by
  unfold loadX
  rw [WP_bind]
  iintro H Hk
  iapply (load_part d xB (rX c) _ fullShare (xstg m d)) $$ H
  iintro %f %hf H
  iapply (WP_pure d _ Q)
  have hf' : f = xstg m d := hf
  iapply Hk $$ %_ %(by rw [hf']; rfl)
  iexact H

/-- The first input weight is loaded from its window. -/
theorem loadW0_step (d : Dev nD)
    (Q : ((Rect.unit (s := S256x512) ![0, 0] S256x512.size Gen.inb_S256x512_S256x512_0_0).shape.Idx → Elt F .f32) → sProp 𝕄) :
    owns (d : Thread nD τ) w0B fullShare (w0stg m d)
      ⊢ iprop((∀ v, ⌜shapeCast S256x512 v Gen.shapeCasts_S256x512_S256x512 = w0stg m d⌝ -∗ owns (d : Thread nD τ) w0B fullShare (w0stg m d) -∗ Q v)
        -∗ WP d (Prog.lift (.load w0B (Rect.unit (s := S256x512) ![0, 0] S256x512.size Gen.inb_S256x512_S256x512_0_0).toLoadRect
            (View.loadsAt_vmem Gen.h_S256x512))) Q) := by
  iintro H Hk
  iapply (load_part d w0B (Rect.unit (s := S256x512) ![0, 0] S256x512.size Gen.inb_S256x512_S256x512_0_0) _ fullShare (w0stg m d)) $$ H
  iintro %f %hf H
  have hf' : f = w0stg m d := hf
  have hz : (![0, 0] : Fin 2 → Nat) = fun _ => 0 := funext fun a => by fin_cases a <;> rfl
  iapply Hk $$ %_ %(by
    rw [hf', shapeCast_self]
    exact Memref.readAt_unit_zero (Elt F) cc0_stg1_0 hz _ (w0stg m d))
  iexact H

/-! ## The local copies -/

/-- The copy of a later input weight starts: its source and its destination go into flight. -/
theorem copyWi_step (d : Dev nD) (i : Fin 2) (r : Memref sig .tc .hbm S256x512 .f32) (hr : r.IsWhole) (hri : r = wiRef i) (Q : PUnit → sProp 𝕄) :
    iprop(Ctx m K ∗ owns (d : Thread nD τ) (wiRef i) fullShare (wiArg m d i) ∗ (∃ Y, owns (d : Thread nD τ) (wisS i) fullShare Y) ∗ dutyTok ER (cell d (kWi i)) 0 0)
      ⊢ iprop((cred (tallyAt (cell d (kWi i)) 0 NWi) -∗ Q ⟨⟩) -∗ WP d (copyWi i r hr) Q) := by
  subst hri
  exact copy_step (m := m) (K := K) d (kWi i) rfl (semWi i) (semWi_eq i) (wiRef i) (wisS i) _ _ _ rfl (wiArg m d i) .rfl Q

/-- The copy of an output weight starts: its source and its destination go into flight. -/
theorem copyWo_step (d : Dev nD) (i : Fin 3) (r : Memref sig .tc .hbm S512x256 .f32) (hr : r.IsWhole) (hri : r = woRef i) (Q : PUnit → sProp 𝕄) :
    iprop(Ctx m K ∗ owns (d : Thread nD τ) (woRef i) fullShare (woArg m d i) ∗ (∃ Y, owns (d : Thread nD τ) (wosS i) fullShare Y) ∗ dutyTok ER (cell d (kWo i)) 0 0)
      ⊢ iprop((cred (tallyAt (cell d (kWo i)) 0 NWo) -∗ Q ⟨⟩) -∗ WP d (copyWo i r hr) Q) := by
  subst hri
  exact copy_step (m := m) (K := K) d (kWo i) rfl (semWo i) (semWo_eq i) (woRef i) (wosS i) _ _ _ rfl (woArg m d i) .rfl Q

/-- The narrow weight of a later layer is the narrowed argument. -/
theorem winAt_succ (d : Dev nD) (i : Fin 2) : winAt m d i.succ = winV (wiArg m d i) := by fin_cases i <;> rfl

/-- The copy of a later input weight is awaited, the weight narrowed and stored. -/
theorem getWi_step (d : Dev nD) (i : Fin 2) (r : Memref sig .tc .hbm S256x512 .f32) (hr : r.IsWhole) (n : ℕ) (hn : n ≤ 25) (Q : PUnit → sProp 𝕄) :
    iprop(Ctx m K ∗ cred (tallyAt (cell d (kWi i)) 0 NWi) ∗ At d (kWi i) 0 ∗ (∃ X, owns (d : Thread nD τ) (winS i.succ) fullShare X) ∗ owesE d n)
      ⊢ iprop(((At d (kWi i) 1 ∗ owns (d : Thread nD τ) (wisS i) fullShare (wiArg m d i) ∗ owns (d : Thread nD τ) (wiRef i) fullShare (wiArg m d i)
          ∗ owns (d : Thread nD τ) (winS i.succ) fullShare (winAt m d i.succ) ∗ owesE d n) -∗ Q ⟨⟩) -∗ WP d (getWi i r hr) Q) := by
  unfold getWi
  simp only [WP_bind]
  iintro ⟨#HC, Hc, Ha, Hw, Ho⟩ Hk
  iapply (wait_step (m := m) (K := K) d (kWi i) 0 0 n rfl _ (semWi_eq i) _ _ _ _ (by rfl) hn (by omega) (by decide)) $$ [Hc Ha Ho]
  · isplitr; · iexact HC
    isplitl [Hc]; · iexact Hc
    isplitl [Ho] <;> iassumption
  iintro ⟨Ho, Ha, Hp⟩
  ihave Hp := (Entails.of_eq (show payK m d 0 0 (kWi i) = iprop(owns (d : Thread nD τ) (wisS i) fullShare (wiArg m d i) ∗ owns (d : Thread nD τ) (wiRef i) fullShare (wiArg m d i)) from rfl)) $$ Hp
  icases Hp with ⟨Hs, Hr⟩
  iapply (load_slot d wisB (Rect.unit (s := S2x256x512) ![i.val, 0, 0] S1x256x512.size (inb_wi2 i)) (fun _ => rfl) Gen.squeezes_S1x256x512_S256x512
    Gen.shapeCasts_S1x256x512_S256x512 _ fullShare (wiArg m d i)) $$ Hs
  iintro %v %hv Hs
  rw [hv, ← winAt_succ]
  iapply (storeWin_step d i.succ _) $$ Hw
  iintro Hw
  iapply Hk
  isplitl [Ha]; · iexact Ha
  isplitl [Hs]; · iexact Hs
  isplitl [Hr]; · iexact Hr
  isplitl [Hw] <;> iassumption

/-- The copy of an output weight is awaited, the weight narrowed and stored. -/
theorem getWo_step (d : Dev nD) (i : Fin 3) (r : Memref sig .tc .hbm S512x256 .f32) (hr : r.IsWhole) (n : ℕ) (hn : n ≤ 25) (Q : PUnit → sProp 𝕄) :
    iprop(Ctx m K ∗ cred (tallyAt (cell d (kWo i)) 0 NWo) ∗ At d (kWo i) 0 ∗ (∃ X, owns (d : Thread nD τ) (woutS i) fullShare X) ∗ owesE d n)
      ⊢ iprop(((At d (kWo i) 1 ∗ owns (d : Thread nD τ) (wosS i) fullShare (woArg m d i) ∗ owns (d : Thread nD τ) (woRef i) fullShare (woArg m d i)
          ∗ owns (d : Thread nD τ) (woutS i) fullShare (woutAt m d i) ∗ owesE d n) -∗ Q ⟨⟩) -∗ WP d (getWo i r hr) Q) := by
  unfold getWo
  simp only [WP_bind]
  iintro ⟨#HC, Hc, Ha, Hw, Ho⟩ Hk
  iapply (wait_step (m := m) (K := K) d (kWo i) 0 0 n rfl _ (semWo_eq i) _ _ _ _ (by rfl) hn (by omega) (by decide)) $$ [Hc Ha Ho]
  · isplitr; · iexact HC
    isplitl [Hc]; · iexact Hc
    isplitl [Ho] <;> iassumption
  iintro ⟨Ho, Ha, Hp⟩
  ihave Hp := (Entails.of_eq (show payK m d 0 0 (kWo i) = iprop(owns (d : Thread nD τ) (wosS i) fullShare (woArg m d i) ∗ owns (d : Thread nD τ) (woRef i) fullShare (woArg m d i)) from rfl)) $$ Hp
  icases Hp with ⟨Hs, Hr⟩
  iapply (load_slot d wosB (Rect.unit (s := S3x512x256) ![i.val, 0, 0] S1x512x256.size (inb_wo i)) (fun _ => rfl) Gen.squeezes_S1x512x256_S512x256
    Gen.shapeCasts_S1x512x256_S512x256 _ fullShare (woArg m d i)) $$ Hs
  iintro %v %hv Hs
  rw [hv]
  iapply (storeWout_step d i _) $$ Hw
  iintro Hw
  iapply Hk
  isplitl [Ha]; · iexact Ha
  isplitl [Hs]; · iexact Hs
  isplitl [Hr]; · iexact Hr
  isplitl [Hw]; · iexact Hw
  iexact Ho

end Cert.KernelIdeal
-- ==== Proof.Layer.lean ====
module

public import proofs.«01_k».proof.Proof.Body

@[expose] public section

set_option synthInstance.maxSize 4096

noncomputable section

/-! # The body's run

The prologue, the layers of four chunks, and the body as a whole. -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {K : Dev nD × Kd → ℕ}

/-! ## The prologue -/

/-- What the copy of an output weight takes. -/
def WoIn (m : (ℓ : Loc nD τ sig) → Buf (Elt F) ℓ) (d : Dev nD) (i : Fin 3) : sProp 𝕄 :=
  iprop(owns (d : Thread nD τ) (woRef i) fullShare (woArg m d i) ∗ (∃ Y, owns (d : Thread nD τ) (wosS i) fullShare Y) ∗ dutyTok ER (cell d (kWo i)) 0 0)
/-- What the copy of an input weight takes. -/
def WiIn (m : (ℓ : Loc nD τ sig) → Buf (Elt F) ℓ) (d : Dev nD) (i : Fin 2) : sProp 𝕄 :=
  iprop(owns (d : Thread nD τ) (wiRef i) fullShare (wiArg m d i) ∗ (∃ Y, owns (d : Thread nD τ) (wisS i) fullShare Y) ∗ dutyTok ER (cell d (kWi i)) 0 0)
/-- The credit of an output weight's copy, its cell, and the place it is narrowed to. -/
def WoMid (d : Dev nD) (i : Fin 3) : sProp 𝕄 :=
  iprop(At d (kWo i) 0 ∗ (∃ X : FVec F S1x512x256 .bf16, owns (d : Thread nD τ) (woutS i) fullShare X))
/-- The same of an input weight. -/
def WiMid (d : Dev nD) (i : Fin 2) : sProp 𝕄 :=
  iprop(At d (kWi i) 0 ∗ (∃ X : FVec F S1x256x512 .bf16, owns (d : Thread nD τ) (winS i.succ) fullShare X))
/-- An output weight copied. -/
def WoOut (m : (ℓ : Loc nD τ sig) → Buf (Elt F) ℓ) (d : Dev nD) (i : Fin 3) : sProp 𝕄 :=
  iprop(At d (kWo i) 1 ∗ owns (d : Thread nD τ) (wosS i) fullShare (woArg m d i) ∗ owns (d : Thread nD τ) (woRef i) fullShare (woArg m d i))
/-- An input weight copied. -/
def WiOut (m : (ℓ : Loc nD τ sig) → Buf (Elt F) ℓ) (d : Dev nD) (i : Fin 2) : sProp 𝕄 :=
  iprop(At d (kWi i) 1 ∗ owns (d : Thread nD τ) (wisS i) fullShare (wiArg m d i) ∗ owns (d : Thread nD τ) (wiRef i) fullShare (wiArg m d i))

/-- What the barrier takes. -/
def BarIn (d : Dev nD) : sProp 𝕄 :=
  iprop(tri (fun k => dutyTok ER (cell (peer d k) kBar) 0 (rev k)) ∗ tri (fun k => bigSep (Finset.univ : Finset (Fin 4)) fun c => anyS (F := F) d (slot3 c k))
    ∗ cred (tallyAt (cell d kBar) 1 3) ∗ At d kBar 0)

/-- What is owed at the start: three barrier signals and what remains. -/
theorem Ow_25 (d : Dev nD) : Ow d 25 = Ow d 24 + tallyAt (cell (peer d 2) kBar) 1 1 + tallyAt (cell (peer d 1) kBar) 1 1 + tallyAt (cell (peer d 0) kBar) 1 1 := rfl

/-- The barrier: three signals with the own receive slots, and a wait for the peers' ones. -/
theorem barrierP_step (d : Dev nD) (Q : PUnit → sProp 𝕄) :
    iprop(Ctx m K ∗ BarIn d ∗ owesE d 25)
      ⊢ iprop(((owesE d 24 ∗ At d kBar 1 ∗ bigSep Finset.univ (barPay (F := F) d)) -∗ Q ⟨⟩) -∗ WP d (barrierP d) Q) := by
  unfold barrierP BarIn owesE tri
  simp only [WP_bind]
  rw [Ow_25]
  iintro ⟨#HC, ⟨⟨Ht0, Ht1, Ht2⟩, ⟨Hs0, Hs1, Hs2⟩, Hc, Ha⟩, Ho⟩ Hk
  iapply (signal_step (m := m) (K := K) d 0 _ _) $$ [Ho Ht0 Hs0]
  · isplitr; · iexact HC
    isplitl [Ho]; · iexact Ho
    isplitl [Ht0] <;> iassumption
  iintro Ho
  iapply (signal_step (m := m) (K := K) d 1 _ _) $$ [Ho Ht1 Hs1]
  · isplitr; · iexact HC
    isplitl [Ho]; · iexact Ho
    isplitl [Ht1] <;> iassumption
  iintro Ho
  iapply (signal_step (m := m) (K := K) d 2 _ _) $$ [Ho Ht2 Hs2]
  · isplitr; · iexact HC
    isplitl [Ho]; · iexact Ho
    isplitl [Ht2] <;> iassumption
  iintro Ho
  iapply (barrier_step (m := m) (K := K) d _) $$ [Hc Ho Ha]
  · isplitr; · iexact HC
    isplitl [Hc]; · iexact Hc
    isplitl [Ho] <;> iassumption
  iintro H
  iapply Hk $$ H

/-- A peer's receive slot is ready for the first layer. -/
theorem slot_in (d : Dev nD) (c : Fin 4) (k : Fin 3) :
    iprop(Ctx m K ∗ anyS (F := F) (peer d k) (slot3 c (rev k))) ⊢ SlotN (F := F) d c k 0 := by
  unfold SlotN slotNext
  rw [if_pos (by decide)]
  iintro ⟨#HC, H⟩
  isplitl; · iexact H
  iapply (Ctx_reached (F := F) (m := m) (K := K) (peer d k) (kRsR c (rev k))); iexact HC

/-- All the peers' receive slots are. -/
theorem slots_in (d : Dev nD) :
    iprop(Ctx m K ∗ bigSep Finset.univ (barPay (F := F) d)) ⊢ quad fun c => tri fun k => SlotN (F := F) d c k 0 := by
  rw [tri_eq]
  unfold barPay
  simp only [show ∀ Φ : Fin 4 → sProp 𝕄, bigSep (Finset.univ : Finset (Fin 4)) Φ = quad Φ from quad_eq]
  unfold quad tri
  iintro ⟨#HC, ⟨A0, A1, A2, A3⟩, ⟨B0, B1, B2, B3⟩, ⟨C0, C1, C2, C3⟩⟩
  isplitl [A0 B0 C0]
  · isplitl [A0]; · (iapply (slot_in (m := m) (K := K) d 0 0); isplitr; · iexact HC); iexact A0
    isplitl [B0]; · (iapply (slot_in (m := m) (K := K) d 0 1); isplitr; · iexact HC); iexact B0
    (iapply (slot_in (m := m) (K := K) d 0 2); isplitr; · iexact HC); iexact C0
  isplitl [A1 B1 C1]
  · isplitl [A1]; · (iapply (slot_in (m := m) (K := K) d 1 0); isplitr; · iexact HC); iexact A1
    isplitl [B1]; · (iapply (slot_in (m := m) (K := K) d 1 1); isplitr; · iexact HC); iexact B1
    (iapply (slot_in (m := m) (K := K) d 1 2); isplitr; · iexact HC); iexact C1
  isplitl [A2 B2 C2]
  · isplitl [A2]; · (iapply (slot_in (m := m) (K := K) d 2 0); isplitr; · iexact HC); iexact A2
    isplitl [B2]; · (iapply (slot_in (m := m) (K := K) d 2 1); isplitr; · iexact HC); iexact B2
    (iapply (slot_in (m := m) (K := K) d 2 2); isplitr; · iexact HC); iexact C2
  isplitl [A3]; · (iapply (slot_in (m := m) (K := K) d 3 0); isplitr; · iexact HC); iexact A3
  isplitl [B3]; · (iapply (slot_in (m := m) (K := K) d 3 1); isplitr; · iexact HC); iexact B3
  (iapply (slot_in (m := m) (K := K) d 3 2); isplitr; · iexact HC); iexact C3

/-- The copy of an output weight starts. -/
theorem copyWo_in (d : Dev nD) (i : Fin 3) (r : Memref sig .tc .hbm S512x256 .f32) (hr : r.IsWhole) (hri : r = woRef i) (Q : PUnit → sProp 𝕄) :
    iprop(Ctx m K ∗ WoIn m d i) ⊢ iprop((cred (tallyAt (cell d (kWo i)) 0 NWo) -∗ Q ⟨⟩) -∗ WP d (copyWo i r hr) Q) :=
  copyWo_step (m := m) (K := K) d i r hr hri Q
/-- The copy of an input weight starts. -/
theorem copyWi_in (d : Dev nD) (i : Fin 2) (r : Memref sig .tc .hbm S256x512 .f32) (hr : r.IsWhole) (hri : r = wiRef i) (Q : PUnit → sProp 𝕄) :
    iprop(Ctx m K ∗ WiIn m d i) ⊢ iprop((cred (tallyAt (cell d (kWi i)) 0 NWi) -∗ Q ⟨⟩) -∗ WP d (copyWi i r hr) Q) :=
  copyWi_step (m := m) (K := K) d i r hr hri Q

/-- The credits of the five copies. -/
def CopyCred (d : Dev nD) : sProp 𝕄 :=
  iprop(tri (fun i => cred (tallyAt (cell d (kWo i)) 0 NWo)) ∗ cred (tallyAt (cell d (kWi 0)) 0 NWi) ∗ cred (tallyAt (cell d (kWi 1)) 0 NWi))

/-- The prologue: the five copies start, the barrier is passed, the first weight is narrowed. -/
theorem prologue_step (d : Dev nD) (Q : PUnit → sProp 𝕄) :
    iprop(Ctx m K ∗ tri (WoIn m d) ∗ WiIn m d 0 ∗ WiIn m d 1 ∗ BarIn d ∗ owns (d : Thread nD τ) w0B fullShare (w0stg m d)
        ∗ (∃ X : FVec F S1x256x512 .bf16, owns (d : Thread nD τ) (winS 0) fullShare X) ∗ owesE d 25)
      ⊢ iprop(((CopyCred d ∗ At d kBar 1 ∗ (quad fun c => tri fun k => SlotN (F := F) d c k 0) ∗ owns (d : Thread nD τ) w0B fullShare (w0stg m d)
          ∗ owns (d : Thread nD τ) (winS 0) fullShare (winAt m d 0) ∗ owesE d 24) -∗ Q ⟨⟩) -∗ WP d (prologue d) Q) := by
  unfold prologue CopyCred
  simp only [WP_bind]
  unfold tri
  iintro ⟨#HC, ⟨H0, H1, H2⟩, I0, I1, HB, Hw0, Hw, Ho⟩ Hk
  iapply (copyWo_in (m := m) (K := K) d 0 _ _ rfl _) $$ [H0]
  · isplitr; · iexact HC
    iexact H0
  iintro C0
  iapply (copyWo_in (m := m) (K := K) d 1 _ _ rfl _) $$ [H1]
  · isplitr; · iexact HC
    iexact H1
  iintro C1
  iapply (copyWo_in (m := m) (K := K) d 2 _ _ rfl _) $$ [H2]
  · isplitr; · iexact HC
    iexact H2
  iintro C2
  iapply (copyWi_in (m := m) (K := K) d 0 _ _ rfl _) $$ [I0]
  · isplitr; · iexact HC
    iexact I0
  iintro D0
  iapply (copyWi_in (m := m) (K := K) d 1 _ _ rfl _) $$ [I1]
  · isplitr; · iexact HC
    iexact I1
  iintro D1
  iapply (barrierP_step (m := m) (K := K) d _) $$ [HB Ho]
  · isplitr; · iexact HC
    isplitl [HB] <;> iassumption
  iintro ⟨Ho, Ha, Hp⟩
  ihave Hs := (slots_in (m := m) (K := K) d) $$ [Hp]
  · isplitr; · iexact HC
    iexact Hp
  iapply (loadW0_step (m := m) d _) $$ Hw0
  iintro %w %hw Hw0
  rw [hw]
  iapply (storeWin_step d 0 _) $$ Hw
  iintro Hw
  iapply Hk
  isplitl [C0 C1 C2 D0 D1]
  · isplitl [C0 C1 C2]
    · isplitl [C0]; · iexact C0
      isplitl [C1] <;> iassumption
    isplitl [D0] <;> iassumption
  isplitl [Ha]; · iexact Ha
  isplitl [Hs]; · iexact Hs
  isplitl [Hw0]; · iexact Hw0
  isplitl [Hw]; · iexact Hw
  iexact Ho

/-! ## A layer -/

/-- The own partial quarters of a layer, widened. -/
def ownAt (m : (ℓ : Loc nD τ sig) → Buf (Elt F) ℓ) (l : ℕ) (d : Dev nD) : Fin 4 → FVec F S64x128 .f32 :=
  fun c => extf .f32 (pqAt m l d c d) Gen.bitsLt_bf16_f32

/-- Start of a chunk's layer: its partial quarters are computed and sent. -/
theorem start_step (d : Dev nD) (c : Fin 4) (l : Fin 3) (j n n' : ℕ) (hj : l.val = j) (hn : n' + 1 + 8 * j + c.val = 24) (hn' : n = n' + 1) (Q : FVec F S64x128 .f32 → sProp 𝕄) :
    iprop(Ctx m K ∗ owns (d : Thread nD τ) (winS l) fullShare (winAt m d l) ∗ Ready d c j ∗ TokRs d c j ∗ owesE d n)
      ⊢ iprop(((owns (d : Thread nD τ) (winS l) fullShare (winAt m d l) ∗ Mid d c j ∗ owesE d n') -∗ Q (ownAt m j d c))
        -∗ WP d (startRs c l d (xAt m j d c)) Q) := by
  subst hj hn'
  iintro H Hk
  iapply (startRs_step (m := m) (K := K) d c l n' hn Q) $$ H
  iintro %o %ho H
  have ho' : o = ownAt m l.val d c := ho
  subst ho'
  iapply Hk $$ H

/-- Middle of a chunk's layer: the partial quarters are received and summed, the sum sent. -/
theorem reduce_step (d : Dev nD) (c : Fin 4) (l n n' : ℕ) (hl : l < 3) (hn : n' + 5 + 8 * l + c.val = 24) (hn' : n = n' + 1) (Q : PUnit → sProp 𝕄) :
    iprop(Ctx m K ∗ Mid d c l ∗ TokAg d c l ∗ CredRs d c l ∗ owesE d n)
      ⊢ iprop(((Ag d c l ∗ owesE d n') -∗ Q ⟨⟩) -∗ WP d (reduceAg c d (ownAt m l d c)) Q) := by
  subst hn'
  exact reduceAg_step (m := m) (K := K) d c l n' hl hn Q

/-- End of a chunk's layer: the hidden quarters are received, the next chunk computed. -/
theorem finish_step (d : Dev nD) (c : Fin 4) (l : Fin 3) (j n : ℕ) (hj : l.val = j) (hn : n ≤ 25) (hi : 6 + 8 * j + c.val + n < 26) (Q : FVec F S64x256 .f32 → sProp 𝕄) :
    iprop(Ctx m K ∗ Ag d c j ∗ CredAg d c j ∗ owns (d : Thread nD τ) (woutS l) fullShare (woutAt m d l) ∗ owesE d n)
      ⊢ iprop(((Ready d c (j + 1) ∗ owns (d : Thread nD τ) (woutS l) fullShare (woutAt m d l) ∗ owesE d n) -∗ Q (xAt m (j + 1) d c))
        -∗ WP d (finishAg c l d) Q) := by
  subst hj
  iintro H Hk
  iapply (finishAg_step (m := m) (K := K) d c l n hn hi Q) $$ H
  iintro %x %hx H
  subst hx
  iapply Hk $$ H

/-- The end of a chunk's layer followed by the start of its next one. -/
theorem turn_step (d : Dev nD) (c : Fin 4) (l l' : Fin 3) (j n n' : ℕ) (hj : l.val = j) (hj' : l'.val = j + 1) (hn : n' + 9 + 8 * j + c.val = 24) (hn' : n = n' + 1)
    (Q : FVec F S64x128 .f32 → sProp 𝕄) :
    iprop(Ctx m K ∗ owns (d : Thread nD τ) (woutS l) fullShare (woutAt m d l) ∗ owns (d : Thread nD τ) (winS l') fullShare (winAt m d l') ∗ Ag d c j ∗ CredAg d c j ∗ TokRs d c (j + 1) ∗ owesE d n)
      ⊢ iprop(((owns (d : Thread nD τ) (woutS l) fullShare (woutAt m d l) ∗ owns (d : Thread nD τ) (winS l') fullShare (winAt m d l') ∗ Mid d c (j + 1) ∗ owesE d n') -∗ Q (ownAt m (j + 1) d c))
        -∗ WP d (turn c l l' d) Q) := by
  unfold turn
  rw [WP_bind]
  iintro ⟨#HC, Ho, Hi, HA, Hc, Ht, HO⟩ Hk
  iapply (finish_step (m := m) (K := K) d c l j n hj (by omega) (by omega) _) $$ [HA Hc Ho HO]
  · isplitr; · iexact HC
    isplitl [HA]; · iexact HA
    isplitl [Hc]; · iexact Hc
    isplitl [Ho] <;> iassumption
  iintro ⟨HR, Ho, HO⟩
  iapply (start_step (m := m) (K := K) d c l' (j + 1) n n' hj' (by omega) hn' _) $$ [Hi HR Ht HO]
  · isplitr; · iexact HC
    isplitl [Hi]; · iexact Hi
    isplitl [HR]; · iexact HR
    isplitl [Ht] <;> iassumption
  iintro ⟨Hi, HM, HO⟩
  iapply Hk
  isplitl [Ho]; · iexact Ho
  isplitl [Hi]; · iexact Hi
  isplitl [HM] <;> iassumption

/-- The four chunks' own quarters as a list. -/
theorem own_list (l : ℕ) (d : Dev nD) : (![ownAt m l d 0, ownAt m l d 1, ownAt m l d 2, ownAt m l d 3] : Fin 4 → FVec F S64x128 .f32) = ownAt m l d := by
  funext c; fin_cases c <;> rfl

/-- All chunks start the first layer. -/
theorem startAll_step (d : Dev nD) (Q : (Fin 4 → FVec F S64x128 .f32) → sProp 𝕄) :
    iprop(Ctx m K ∗ owns (d : Thread nD τ) xB fullShare (xstg m d) ∗ owns (d : Thread nD τ) (winS 0) fullShare (winAt m d 0) ∗ quad (fun c => Ready d c 0) ∗ quad (fun c => TokRs d c 0) ∗ owesE d 24)
      ⊢ iprop(((owns (d : Thread nD τ) xB fullShare (xstg m d) ∗ owns (d : Thread nD τ) (winS 0) fullShare (winAt m d 0) ∗ quad (fun c => Mid d c 0) ∗ owesE d 20) -∗ Q (ownAt m 0 d))
        -∗ WP d (startAll d) Q) := by
  unfold startAll quad
  simp only [WP_bind]
  iintro ⟨#HC, Hx, Hi, ⟨R0, R1, R2, R3⟩, ⟨T0, T1, T2, T3⟩, HO⟩ Hk
  iapply (loadX_step (m := m) d 0 _) $$ Hx; iintro %x0 %h0 Hx; subst h0
  iapply (loadX_step (m := m) d 1 _) $$ Hx; iintro %x1 %h1 Hx; subst h1
  iapply (loadX_step (m := m) d 2 _) $$ Hx; iintro %x2 %h2 Hx; subst h2
  iapply (loadX_step (m := m) d 3 _) $$ Hx; iintro %x3 %h3 Hx; subst h3
  iapply (start_step (m := m) (K := K) d 0 0 0 24 23 rfl (by decide) rfl _) $$ [Hi R0 T0 HO]
  · isplitr; · iexact HC
    isplitl [Hi]; · iexact Hi
    isplitl [R0]; · iexact R0
    isplitl [T0] <;> iassumption
  iintro ⟨Hi, M0, HO⟩
  iapply (start_step (m := m) (K := K) d 1 0 0 23 22 rfl (by decide) rfl _) $$ [Hi R1 T1 HO]
  · isplitr; · iexact HC
    isplitl [Hi]; · iexact Hi
    isplitl [R1]; · iexact R1
    isplitl [T1] <;> iassumption
  iintro ⟨Hi, M1, HO⟩
  iapply (start_step (m := m) (K := K) d 2 0 0 22 21 rfl (by decide) rfl _) $$ [Hi R2 T2 HO]
  · isplitr; · iexact HC
    isplitl [Hi]; · iexact Hi
    isplitl [R2]; · iexact R2
    isplitl [T2] <;> iassumption
  iintro ⟨Hi, M2, HO⟩
  iapply (start_step (m := m) (K := K) d 3 0 0 21 20 rfl (by decide) rfl _) $$ [Hi R3 T3 HO]
  · isplitr; · iexact HC
    isplitl [Hi]; · iexact Hi
    isplitl [R3]; · iexact R3
    isplitl [T3] <;> iassumption
  iintro ⟨Hi, M3, HO⟩
  iapply (WP_pure d _ Q)
  rw [own_list]
  iapply Hk
  isplitl [Hx]; · iexact Hx
  isplitl [Hi]; · iexact Hi
  isplitl [M0 M1 M2 M3]
  · isplitl [M0]; · iexact M0
    isplitl [M1]; · iexact M1
    isplitl [M2] <;> iassumption
  iexact HO

/-- All chunks pass the middle of a layer. -/
theorem reduceAll_step (d : Dev nD) (l n0 n1 n2 n3 n4 : ℕ) (hl : l < 3) (hn : n4 + 8 + 8 * l = 24) (h0 : n0 = n1 + 1) (h1 : n1 = n2 + 1) (h2 : n2 = n3 + 1) (h3 : n3 = n4 + 1) (Q : PUnit → sProp 𝕄) :
    iprop(Ctx m K ∗ quad (fun c => Mid d c l) ∗ quad (fun c => TokAg d c l) ∗ quad (fun c => CredRs d c l) ∗ owesE d n0)
      ⊢ iprop(((quad (fun c => Ag d c l) ∗ owesE d n4) -∗ Q ⟨⟩) -∗ WP d (reduceAll d (ownAt m l d)) Q) := by
  unfold reduceAll quad
  simp only [WP_bind]
  iintro ⟨#HC, ⟨M0, M1, M2, M3⟩, ⟨T0, T1, T2, T3⟩, ⟨C0, C1, C2, C3⟩, HO⟩ Hk
  iapply (reduce_step (m := m) (K := K) d 0 l n0 n1 hl (by show n1 + 5 + 8 * l + 0 = 24; omega) h0 _) $$ [M0 T0 C0 HO]
  · isplitr; · iexact HC
    isplitl [M0]; · iexact M0
    isplitl [T0]; · iexact T0
    isplitl [C0] <;> iassumption
  iintro ⟨A0, HO⟩
  iapply (reduce_step (m := m) (K := K) d 1 l n1 n2 hl (by show n2 + 5 + 8 * l + 1 = 24; omega) h1 _) $$ [M1 T1 C1 HO]
  · isplitr; · iexact HC
    isplitl [M1]; · iexact M1
    isplitl [T1]; · iexact T1
    isplitl [C1] <;> iassumption
  iintro ⟨A1, HO⟩
  iapply (reduce_step (m := m) (K := K) d 2 l n2 n3 hl (by show n3 + 5 + 8 * l + 2 = 24; omega) h2 _) $$ [M2 T2 C2 HO]
  · isplitr; · iexact HC
    isplitl [M2]; · iexact M2
    isplitl [T2]; · iexact T2
    isplitl [C2] <;> iassumption
  iintro ⟨A2, HO⟩
  iapply (reduce_step (m := m) (K := K) d 3 l n3 n4 hl (by show n4 + 5 + 8 * l + 3 = 24; omega) h3 _) $$ [M3 T3 C3 HO]
  · isplitr; · iexact HC
    isplitl [M3]; · iexact M3
    isplitl [T3]; · iexact T3
    isplitl [C3] <;> iassumption
  iintro ⟨A3, HO⟩
  iapply Hk
  isplitl [A0 A1 A2 A3]
  · isplitl [A0]; · iexact A0
    isplitl [A1]; · iexact A1
    isplitl [A2] <;> iassumption
  iexact HO

/-- All chunks go over to the next layer. -/
theorem turnAll_step (d : Dev nD) (l l' : Fin 3) (j n0 n1 n2 n3 n4 : ℕ) (hj : l.val = j) (hj' : l'.val = j + 1) (hn : n4 + 12 + 8 * j = 24) (h0 : n0 = n1 + 1) (h1 : n1 = n2 + 1) (h2 : n2 = n3 + 1) (h3 : n3 = n4 + 1)
    (Q : (Fin 4 → FVec F S64x128 .f32) → sProp 𝕄) :
    iprop(Ctx m K ∗ owns (d : Thread nD τ) (woutS l) fullShare (woutAt m d l) ∗ owns (d : Thread nD τ) (winS l') fullShare (winAt m d l')
        ∗ quad (fun c => Ag d c j) ∗ quad (fun c => CredAg d c j) ∗ quad (fun c => TokRs d c (j + 1)) ∗ owesE d n0)
      ⊢ iprop(((owns (d : Thread nD τ) (woutS l) fullShare (woutAt m d l) ∗ owns (d : Thread nD τ) (winS l') fullShare (winAt m d l') ∗ quad (fun c => Mid d c (j + 1)) ∗ owesE d n4) -∗ Q (ownAt m (j + 1) d))
        -∗ WP d (turnAll l l' d) Q) := by
  unfold turnAll quad
  simp only [WP_bind]
  iintro ⟨#HC, Ho, Hi, ⟨A0, A1, A2, A3⟩, ⟨C0, C1, C2, C3⟩, ⟨T0, T1, T2, T3⟩, HO⟩ Hk
  iapply (turn_step (m := m) (K := K) d 0 l l' j n0 n1 hj hj' (by show n1 + 9 + 8 * j + 0 = 24; omega) h0 _) $$ [Ho Hi A0 C0 T0 HO]
  · isplitr; · iexact HC
    isplitl [Ho]; · iexact Ho
    isplitl [Hi]; · iexact Hi
    isplitl [A0]; · iexact A0
    isplitl [C0]; · iexact C0
    isplitl [T0] <;> iassumption
  iintro ⟨Ho, Hi, M0, HO⟩
  iapply (turn_step (m := m) (K := K) d 1 l l' j n1 n2 hj hj' (by show n2 + 9 + 8 * j + 1 = 24; omega) h1 _) $$ [Ho Hi A1 C1 T1 HO]
  · isplitr; · iexact HC
    isplitl [Ho]; · iexact Ho
    isplitl [Hi]; · iexact Hi
    isplitl [A1]; · iexact A1
    isplitl [C1]; · iexact C1
    isplitl [T1] <;> iassumption
  iintro ⟨Ho, Hi, M1, HO⟩
  iapply (turn_step (m := m) (K := K) d 2 l l' j n2 n3 hj hj' (by show n3 + 9 + 8 * j + 2 = 24; omega) h2 _) $$ [Ho Hi A2 C2 T2 HO]
  · isplitr; · iexact HC
    isplitl [Ho]; · iexact Ho
    isplitl [Hi]; · iexact Hi
    isplitl [A2]; · iexact A2
    isplitl [C2]; · iexact C2
    isplitl [T2] <;> iassumption
  iintro ⟨Ho, Hi, M2, HO⟩
  iapply (turn_step (m := m) (K := K) d 3 l l' j n3 n4 hj hj' (by show n4 + 9 + 8 * j + 3 = 24; omega) h3 _) $$ [Ho Hi A3 C3 T3 HO]
  · isplitr; · iexact HC
    isplitl [Ho]; · iexact Ho
    isplitl [Hi]; · iexact Hi
    isplitl [A3]; · iexact A3
    isplitl [C3]; · iexact C3
    isplitl [T3] <;> iassumption
  iintro ⟨Ho, Hi, M3, HO⟩
  iapply (WP_pure d _ Q)
  rw [own_list]
  iapply Hk
  isplitl [Ho]; · iexact Ho
  isplitl [Hi]; · iexact Hi
  isplitl [M0 M1 M2 M3]
  · isplitl [M0]; · iexact M0
    isplitl [M1]; · iexact M1
    isplitl [M2] <;> iassumption
  iexact HO

/-- A chunk ends the last layer and is stored to the result. -/
theorem last_step (d : Dev nD) (c : Fin 4) (j : ℕ) (hj : c.val = j) (Q : PUnit → sProp 𝕄) :
    iprop(Ctx m K ∗ Ag d c 2 ∗ CredAg d c 2 ∗ owns (d : Thread nD τ) (woutS 2) fullShare (woutAt m d 2) ∗ OutSt m d j ∗ owesE d 0)
      ⊢ iprop(((Ready d c 3 ∗ owns (d : Thread nD τ) (woutS 2) fullShare (woutAt m d 2) ∗ OutSt m d (j + 1) ∗ owesE d 0) -∗ Q ⟨⟩) -∗ WP d (lastP c d) Q) := by
  subst hj
  unfold lastP
  rw [WP_bind]
  iintro ⟨#HC, HA, Hc, Ho, HS, HO⟩ Hk
  iapply (finish_step (m := m) (K := K) d c 2 2 0 rfl (by omega) (by omega) _) $$ [HA Hc Ho HO]
  · isplitr; · iexact HC
    isplitl [HA]; · iexact HA
    isplitl [Hc]; · iexact Hc
    isplitl [Ho] <;> iassumption
  iintro ⟨HR, Ho, HO⟩
  iapply (storeOut_step (m := m) d c _) $$ HS
  iintro HS
  iapply Hk
  isplitl [HR]; · iexact HR
  isplitl [Ho]; · iexact Ho
  isplitl [HS] <;> iassumption

/-- A later input weight is fetched and narrowed. -/
theorem getWi_in (d : Dev nD) (i : Fin 2) (l : Fin 3) (hl : l = i.succ) (r : Memref sig .tc .hbm S256x512 .f32) (hr : r.IsWhole) (n : ℕ) (hn : n ≤ 25) (Q : PUnit → sProp 𝕄) :
    iprop(Ctx m K ∗ cred (tallyAt (cell d (kWi i)) 0 NWi) ∗ WiMid (F := F) d i ∗ owesE d n)
      ⊢ iprop(((WiOut m d i ∗ owns (d : Thread nD τ) (winS l) fullShare (winAt m d l) ∗ owesE d n) -∗ Q ⟨⟩) -∗ WP d (getWi i r hr) Q) := by
  subst hl
  unfold WiMid WiOut
  iintro ⟨#HC, Hc, ⟨Ha, Hw⟩, HO⟩ Hk
  iapply (getWi_step (m := m) (K := K) d i r hr n hn Q) $$ [Hc Ha Hw HO]
  · isplitr; · iexact HC
    isplitl [Hc]; · iexact Hc
    isplitl [Ha]; · iexact Ha
    isplitl [Hw] <;> iassumption
  iintro ⟨Ha, Hs, Hr, Hw, HO⟩
  iapply Hk
  isplitl [Ha Hs Hr]
  · isplitl [Ha]; · iexact Ha
    isplitl [Hs] <;> iassumption
  isplitl [Hw] <;> iassumption

/-- An output weight is fetched and narrowed. -/
theorem getWo_in (d : Dev nD) (i : Fin 3) (r : Memref sig .tc .hbm S512x256 .f32) (hr : r.IsWhole) (n : ℕ) (hn : n ≤ 25) (Q : PUnit → sProp 𝕄) :
    iprop(Ctx m K ∗ cred (tallyAt (cell d (kWo i)) 0 NWo) ∗ WoMid (F := F) d i ∗ owesE d n)
      ⊢ iprop(((WoOut m d i ∗ owns (d : Thread nD τ) (woutS i) fullShare (woutAt m d i) ∗ owesE d n) -∗ Q ⟨⟩) -∗ WP d (getWo i r hr) Q) := by
  unfold WoMid WoOut
  iintro ⟨#HC, Hc, ⟨Ha, Hw⟩, HO⟩ Hk
  iapply (getWo_step (m := m) (K := K) d i r hr n hn Q) $$ [Hc Ha Hw HO]
  · isplitr; · iexact HC
    isplitl [Hc]; · iexact Hc
    isplitl [Ha]; · iexact Ha
    isplitl [Hw] <;> iassumption
  iintro ⟨Ha, Hs, Hr, Hw, HO⟩
  iapply Hk
  isplitl [Ha Hs Hr]
  · isplitl [Ha]; · iexact Ha
    isplitl [Hs] <;> iassumption
  isplitl [Hw] <;> iassumption

/-! ## The body -/

/-- A chunk's places and cells at the start. -/
def ChunkIn (d : Dev nD) (c : Fin 4) : sProp 𝕄 :=
  iprop(quad (fun q => anyS (F := F) d (pqS c q)) ∗ quad (fun s => anyS (F := F) d (hfS c s)) ∗ tri (fun k => P4 (F := F) d c k 0 0))

/-- The tokens and credits of the chunks at one layer. -/
def LayerToks (d : Dev nD) (l : ℕ) : sProp 𝕄 :=
  iprop(quad (fun c => TokRs (F := F) d c l) ∗ quad (fun c => TokAg (F := F) d c l) ∗ quad (fun c => CredRs (F := F) d c l) ∗ quad (fun c => CredAg (F := F) d c l))

/-- What the body takes. -/
def BodyIn (m : (ℓ : Loc nD τ sig) → Buf (Elt F) ℓ) (d : Dev nD) : sProp 𝕄 :=
  iprop(tri (WoIn m d) ∗ WiIn m d 0 ∗ WiIn m d 1 ∗ BarIn d ∗ owns (d : Thread nD τ) w0B fullShare (w0stg m d)
    ∗ (∃ X : FVec F S1x256x512 .bf16, owns (d : Thread nD τ) (winS 0) fullShare X)
    ∗ tri (WoMid (F := F) d) ∗ WiMid (F := F) d 0 ∗ WiMid (F := F) d 1
    ∗ owns (d : Thread nD τ) xB fullShare (xstg m d) ∗ quad (ChunkIn (F := F) d)
    ∗ LayerToks (F := F) d 0 ∗ LayerToks (F := F) d 1 ∗ LayerToks (F := F) d 2
    ∗ OutSt m d 0 ∗ owesE d 25)

/-- What the body leaves. -/
def BodyOut (m : (ℓ : Loc nD τ sig) → Buf (Elt F) ℓ) (d : Dev nD) : sProp 𝕄 :=
  iprop(tri (WoOut m d) ∗ WiOut m d 0 ∗ WiOut m d 1 ∗ At d kBar 1 ∗ owns (d : Thread nD τ) w0B fullShare (w0stg m d)
    ∗ tri (fun l => owns (d : Thread nD τ) (winS l) fullShare (winAt m d l)) ∗ tri (fun l => owns (d : Thread nD τ) (woutS l) fullShare (woutAt m d l))
    ∗ owns (d : Thread nD τ) xB fullShare (xstg m d) ∗ quad (fun c => Ready (F := F) d c 3)
    ∗ OutSt m d 4 ∗ owesE d 0)

/-- All chunks are ready for the first layer. -/
theorem ready_in (d : Dev nD) :
    iprop(quad (ChunkIn (F := F) d) ∗ quad fun c => tri fun k => SlotN (F := F) d c k 0) ⊢ quad fun c => Ready (F := F) d c 0 := by
  unfold quad ChunkIn Ready
  iintro ⟨⟨⟨a0, b0, c0⟩, ⟨a1, b1, c1⟩, ⟨a2, b2, c2⟩, ⟨a3, b3, c3⟩⟩, ⟨s0, s1, s2, s3⟩⟩
  isplitl [a0 b0 c0 s0]
  · isplitl [a0]; · iexact a0
    isplitl [b0]; · iexact b0
    isplitl [c0] <;> iassumption
  isplitl [a1 b1 c1 s1]
  · isplitl [a1]; · iexact a1
    isplitl [b1]; · iexact b1
    isplitl [c1] <;> iassumption
  isplitl [a2 b2 c2 s2]
  · isplitl [a2]; · iexact a2
    isplitl [b2]; · iexact b2
    isplitl [c2] <;> iassumption
  isplitl [a3]; · iexact a3
  isplitl [b3]; · iexact b3
  isplitl [c3] <;> iassumption

/-- A triple opened, -/
theorem tri_elim (Φ : Fin 3 → sProp 𝕄) : tri Φ ⊢ iprop(Φ 0 ∗ Φ 1 ∗ Φ 2) := .rfl
/-- and made. -/
theorem tri_intro (Φ : Fin 3 → sProp 𝕄) : iprop(Φ 0 ∗ Φ 1 ∗ Φ 2) ⊢ tri Φ := .rfl
/-- A quadruple opened, -/
theorem quad_elim (Φ : Dev nD → sProp 𝕄) : quad Φ ⊢ iprop(Φ (0 : Fin 4) ∗ Φ (1 : Fin 4) ∗ Φ (2 : Fin 4) ∗ Φ (3 : Fin 4)) := .rfl
/-- and made. -/
theorem quad_intro (Φ : Dev nD → sProp 𝕄) : iprop(Φ (0 : Fin 4) ∗ Φ (1 : Fin 4) ∗ Φ (2 : Fin 4) ∗ Φ (3 : Fin 4)) ⊢ quad Φ := .rfl
/-- The credits of the five copies, one by one. -/
theorem copyCred_elim (d : Dev nD) :
    CopyCred (F := F) d ⊢ iprop((cred (tallyAt (cell d (kWo 0)) 0 NWo) ∗ cred (tallyAt (cell d (kWo 1)) 0 NWo) ∗ cred (tallyAt (cell d (kWo 2)) 0 NWo))
      ∗ cred (tallyAt (cell d (kWi 0)) 0 NWi) ∗ cred (tallyAt (cell d (kWi 1)) 0 NWi)) := .rfl

/-- The body, run on device `d`. -/
theorem bodyAt_step (d : Dev nD) (Q : PUnit → sProp 𝕄) :
    iprop(Ctx m K ∗ BodyIn m d) ⊢ iprop((BodyOut m d -∗ Q ⟨⟩) -∗ WP d (bodyAt d) Q) := by
  unfold bodyAt BodyIn BodyOut LayerToks
  simp only [WP_bind]
  iintro ⟨#HC, HWo, HWi0, HWi1, HB, Hw0, Hin, HMo, HMi0, HMi1, Hx, HCh, ⟨Ta0, Tb0, Ca0, Cb0⟩, ⟨Ta1, Tb1, Ca1, Cb1⟩, ⟨Ta2, Tb2, Ca2, Cb2⟩, HS, HO⟩ Hk
  iapply (prologue_step (m := m) (K := K) d _) $$ [HWo HWi0 HWi1 HB Hw0 Hin HO]
  · isplitr; · iexact HC
    isplitl [HWo]; · iexact HWo
    isplitl [HWi0]; · iexact HWi0
    isplitl [HWi1]; · iexact HWi1
    isplitl [HB]; · iexact HB
    isplitl [Hw0]; · iexact Hw0
    isplitl [Hin] <;> iassumption
  iintro ⟨Hcc, Hbar, Hsl, Hw0, Hi0, HO⟩
  ihave HR := (ready_in (F := F) d) $$ [HCh Hsl]
  · isplitl [HCh] <;> iassumption
  iapply (startAll_step (m := m) (K := K) d _) $$ [Hx Hi0 HR Ta0 HO]
  · isplitr; · iexact HC
    isplitl [Hx]; · iexact Hx
    isplitl [Hi0]; · iexact Hi0
    isplitl [HR]; · iexact HR
    isplitl [Ta0] <;> iassumption
  iintro ⟨Hx, Hi0, HM, HO⟩
  iapply (reduceAll_step (m := m) (K := K) d 0 20 19 18 17 16 (by decide) (by decide) rfl rfl rfl rfl _) $$ [HM Tb0 Ca0 HO]
  · isplitr; · iexact HC
    isplitl [HM]; · iexact HM
    isplitl [Tb0]; · iexact Tb0
    isplitl [Ca0] <;> iassumption
  iintro ⟨HA, HO⟩
  ihave Hcc := (copyCred_elim (F := F) d) $$ Hcc
  ihave HMo := (tri_elim (WoMid (F := F) d)) $$ HMo
  icases Hcc with ⟨⟨Cw0, Cw1, Cw2⟩, Ci0, Ci1⟩
  icases HMo with ⟨Mo0, Mo1, Mo2⟩
  iapply (getWo_in (m := m) (K := K) d 0 _ _ 16 (by decide) _) $$ [Cw0 Mo0 HO]
  · isplitr; · iexact HC
    isplitl [Cw0]; · iexact Cw0
    isplitl [Mo0] <;> iassumption
  iintro ⟨Wo0, Hu0, HO⟩
  iapply (getWi_in (m := m) (K := K) d 0 1 rfl _ _ 16 (by decide) _) $$ [Ci0 HMi0 HO]
  · isplitr; · iexact HC
    isplitl [Ci0]; · iexact Ci0
    isplitl [HMi0] <;> iassumption
  iintro ⟨Wi0, Hi1, HO⟩
  iapply (turnAll_step (m := m) (K := K) d 0 1 0 16 15 14 13 12 rfl rfl (by decide) rfl rfl rfl rfl _) $$ [Hu0 Hi1 HA Cb0 Ta1 HO]
  · isplitr; · iexact HC
    isplitl [Hu0]; · iexact Hu0
    isplitl [Hi1]; · iexact Hi1
    isplitl [HA]; · iexact HA
    isplitl [Cb0]; · iexact Cb0
    isplitl [Ta1] <;> iassumption
  iintro ⟨Hu0, Hi1, HM, HO⟩
  iapply (reduceAll_step (m := m) (K := K) d 1 12 11 10 9 8 (by decide) (by decide) rfl rfl rfl rfl _) $$ [HM Tb1 Ca1 HO]
  · isplitr; · iexact HC
    isplitl [HM]; · iexact HM
    isplitl [Tb1]; · iexact Tb1
    isplitl [Ca1] <;> iassumption
  iintro ⟨HA, HO⟩
  iapply (getWo_in (m := m) (K := K) d 1 _ _ 8 (by decide) _) $$ [Cw1 Mo1 HO]
  · isplitr; · iexact HC
    isplitl [Cw1]; · iexact Cw1
    isplitl [Mo1] <;> iassumption
  iintro ⟨Wo1, Hu1, HO⟩
  iapply (getWi_in (m := m) (K := K) d 1 2 rfl _ _ 8 (by decide) _) $$ [Ci1 HMi1 HO]
  · isplitr; · iexact HC
    isplitl [Ci1]; · iexact Ci1
    isplitl [HMi1] <;> iassumption
  iintro ⟨Wi1, Hi2, HO⟩
  iapply (turnAll_step (m := m) (K := K) d 1 2 1 8 7 6 5 4 rfl rfl (by decide) rfl rfl rfl rfl _) $$ [Hu1 Hi2 HA Cb1 Ta2 HO]
  · isplitr; · iexact HC
    isplitl [Hu1]; · iexact Hu1
    isplitl [Hi2]; · iexact Hi2
    isplitl [HA]; · iexact HA
    isplitl [Cb1]; · iexact Cb1
    isplitl [Ta2] <;> iassumption
  iintro ⟨Hu1, Hi2, HM, HO⟩
  iapply (reduceAll_step (m := m) (K := K) d 2 4 3 2 1 0 (by decide) (by decide) rfl rfl rfl rfl _) $$ [HM Tb2 Ca2 HO]
  · isplitr; · iexact HC
    isplitl [HM]; · iexact HM
    isplitl [Tb2]; · iexact Tb2
    isplitl [Ca2] <;> iassumption
  iintro ⟨HA, HO⟩
  iapply (getWo_in (m := m) (K := K) d 2 _ _ 0 (by decide) _) $$ [Cw2 Mo2 HO]
  · isplitr; · iexact HC
    isplitl [Cw2]; · iexact Cw2
    isplitl [Mo2] <;> iassumption
  iintro ⟨Wo2, Hu2, HO⟩
  ihave HA := (quad_elim (fun c => Ag (F := F) d c 2)) $$ HA
  ihave Cb2 := (quad_elim (fun c => CredAg (F := F) d c 2)) $$ Cb2
  icases HA with ⟨A0, A1, A2, A3⟩
  icases Cb2 with ⟨C0, C1, C2, C3⟩
  iapply (last_step (m := m) (K := K) d 0 0 rfl _) $$ [A0 C0 Hu2 HS HO]
  · isplitr; · iexact HC
    isplitl [A0]; · iexact A0
    isplitl [C0]; · iexact C0
    isplitl [Hu2]; · iexact Hu2
    isplitl [HS] <;> iassumption
  iintro ⟨R0, Hu2, HS, HO⟩
  iapply (last_step (m := m) (K := K) d 1 1 rfl _) $$ [A1 C1 Hu2 HS HO]
  · isplitr; · iexact HC
    isplitl [A1]; · iexact A1
    isplitl [C1]; · iexact C1
    isplitl [Hu2]; · iexact Hu2
    isplitl [HS] <;> iassumption
  iintro ⟨R1, Hu2, HS, HO⟩
  iapply (last_step (m := m) (K := K) d 2 2 rfl _) $$ [A2 C2 Hu2 HS HO]
  · isplitr; · iexact HC
    isplitl [A2]; · iexact A2
    isplitl [C2]; · iexact C2
    isplitl [Hu2]; · iexact Hu2
    isplitl [HS] <;> iassumption
  iintro ⟨R2, Hu2, HS, HO⟩
  iapply (last_step (m := m) (K := K) d 3 3 rfl _) $$ [A3 C3 Hu2 HS HO]
  · isplitr; · iexact HC
    isplitl [A3]; · iexact A3
    isplitl [C3]; · iexact C3
    isplitl [Hu2]; · iexact Hu2
    isplitl [HS] <;> iassumption
  iintro ⟨R3, Hu2, HS, HO⟩
  iapply Hk
  isplitl [Wo0 Wo1 Wo2]
  · iapply (tri_intro (WoOut m d))
    isplitl [Wo0]; · iexact Wo0
    isplitl [Wo1] <;> iassumption
  isplitl [Wi0]; · iexact Wi0
  isplitl [Wi1]; · iexact Wi1
  isplitl [Hbar]; · iexact Hbar
  isplitl [Hw0]; · iexact Hw0
  isplitl [Hi0 Hi1 Hi2]
  · iapply (tri_intro (fun l => owns (d : Thread nD τ) (winS l) fullShare (winAt m d l)))
    isplitl [Hi0]; · iexact Hi0
    isplitl [Hi1] <;> iassumption
  isplitl [Hu0 Hu1 Hu2]
  · iapply (tri_intro (fun l => owns (d : Thread nD τ) (woutS l) fullShare (woutAt m d l)))
    isplitl [Hu0]; · iexact Hu0
    isplitl [Hu1] <;> iassumption
  isplitl [Hx]; · iexact Hx
  isplitl [R0 R1 R2 R3]
  · iapply (quad_intro (fun c => Ready (F := F) d c 3))
    isplitl [R0]; · iexact R0
    isplitl [R1]; · iexact R1
    isplitl [R2] <;> iassumption
  isplitl [HS] <;> iassumption

end Cert.KernelIdeal
-- ==== Proof.Deal.lean ====
module

public import proofs.«01_k».proof.Proof.Layer

@[expose] public section

set_option synthInstance.maxSize 4096

noncomputable section

/-! # What the launch deals out

The cells of a device listed kind by kind, the duty tokens handed from each cell's owner to the device that
pays, and the credits of everything a device will wait for. -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Cells listed -/

/-- A product over one thing. -/
theorem unit_eq (Φ : Unit → sProp 𝕄) : bigSep Finset.univ Φ = Φ () := bigSep_univ_eq_bigSepL [()] (by decide) (by decide) Φ
/-- A product over two things, spelt out. -/
theorem two_eq (Φ : Fin 2 → sProp 𝕄) : bigSep Finset.univ Φ = iprop(Φ 0 ∗ Φ 1) := bigSep_univ_eq_bigSepL [0, 1] (by decide) (by decide) Φ
/-- A product over four things, spelt out. -/
theorem four_eq (Φ : Fin 4 → sProp 𝕄) : bigSep Finset.univ Φ = iprop(Φ 0 ∗ Φ 1 ∗ Φ 2 ∗ Φ 3) := bigSep_univ_eq_bigSepL [0, 1, 2, 3] (by decide) (by decide) Φ

/-- Something for every cell of a device, kind by kind. -/
theorem cells_eq (f : Kd → sProp 𝕄) :
    bigSep Finset.univ f = iprop(f kBar ∗ (f (kWi 0) ∗ f (kWi 1)) ∗ tri (fun i => f (kWo i))
      ∗ quad fun c => tri fun k => iprop(f (kRsS c k) ∗ f (kRsR c k) ∗ f (kAgS c k) ∗ f (kAgR c k))) := by
  have h4 : (bigSep Finset.univ fun x : Fin 4 × Fin 4 × Fin 3 => f (.inr (.inr (.inr x))))
      = quad fun c => tri fun k => iprop(f (kRsS c k) ∗ f (kRsR c k) ∗ f (kAgS c k) ∗ f (kAgR c k)) := by
    rw [bigSep_univ_prod, bigSep_univ_comm, bigSep_univ_prod, quad_eq]
    refine congrArg quad (funext fun c => ?_)
    rw [tri_eq]
    refine congrArg tri (funext fun k => ?_)
    rw [four_eq]
  rw [bigSep_univ_sum, bigSep_univ_sum, bigSep_univ_sum, unit_eq, two_eq, tri_eq, h4]
  rfl

/-! ## Tokens -/

/-- The duty tokens of device `d`'s own cells. -/
def toks (d : Dev nD) : sProp 𝕄 :=
  iprop((bigSep Finset.univ fun j : Fin 3 => dutyTok ER (cell d kBar) 0 j) ∗ (bigSep Finset.univ fun i : Fin 2 => dutyTok ER (cell d (kWi i)) 0 0)
    ∗ (bigSep Finset.univ fun i : Fin 3 => dutyTok ER (cell d (kWo i)) 0 0)
    ∗ bigSep Finset.univ fun x : Fin 3 × Fin 4 × Fin 3 => bigSep Finset.univ fun t : Fin 4 => dutyTok ER (cell d (kX t x.2.1 x.2.2)) x.1.val 0)

/-- The duty tokens device `d` pays with. -/
def payToks (d : Dev nD) : sProp 𝕄 :=
  iprop((bigSep Finset.univ fun k : Fin 3 => dutyTok ER (cell (peer d k) kBar) 0 (rev k)) ∗ (bigSep Finset.univ fun i : Fin 2 => dutyTok ER (cell d (kWi i)) 0 0)
    ∗ (bigSep Finset.univ fun i : Fin 3 => dutyTok ER (cell d (kWo i)) 0 0)
    ∗ tri fun l => quad fun c => iprop(TokRs (F := F) d c l.val ∗ TokAg (F := F) d c l.val))

/-- A device and a peer, seen from the peer. -/
def around : Dev nD × Fin 3 ≃ Dev nD × Fin 3 where
  toFun p := (peer p.1 p.2, rev p.2)
  invFun p := (peer p.1 p.2, rev p.2)
  left_inv p := Prod.ext (peer_peer p.1 p.2) (rev_rev p.2)
  right_inv p := Prod.ext (peer_peer p.1 p.2) (rev_rev p.2)

/-- Something for every device and peer may be counted from the peers' side. -/
theorem swap_bar (Φ : Dev nD → Fin 3 → sProp 𝕄) :
    (bigSep Finset.univ fun d : Dev nD => bigSep Finset.univ fun k : Fin 3 => Φ d k)
      = bigSep Finset.univ fun d : Dev nD => bigSep Finset.univ fun k : Fin 3 => Φ (peer d k) (rev k) := by
  rw [← bigSep_univ_prod (fun p : Dev nD × Fin 3 => Φ p.1 p.2), bigSep_univ_equiv around, bigSep_univ_prod]; rfl

/-- The same for every layer and chunk beside. -/
theorem swap_x (Φ : Dev nD → Fin 3 × Fin 4 → Fin 3 → sProp 𝕄) :
    (bigSep Finset.univ fun d : Dev nD => bigSep Finset.univ fun x : Fin 3 × Fin 4 × Fin 3 => Φ d (x.1, x.2.1) x.2.2)
      = bigSep Finset.univ fun d : Dev nD => bigSep Finset.univ fun x : Fin 3 × Fin 4 × Fin 3 => Φ (peer d x.2.2) (x.1, x.2.1) (rev x.2.2) := by
  have e : ∀ Ψ : Dev nD → Fin 3 × Fin 4 → Fin 3 → sProp 𝕄,
      (bigSep Finset.univ fun d : Dev nD => bigSep Finset.univ fun x : Fin 3 × Fin 4 × Fin 3 => Ψ d (x.1, x.2.1) x.2.2)
        = bigSep Finset.univ fun y : Fin 3 × Fin 4 => bigSep Finset.univ fun d : Dev nD => bigSep Finset.univ fun k : Fin 3 => Ψ d y k := fun Ψ => by
    rw [bigSep_univ_comm fun (y : Fin 3 × Fin 4) (d : Dev nD) => bigSep Finset.univ fun k : Fin 3 => Ψ d y k]
    refine bigSep_congr fun d _ => ?_
    rw [bigSep_univ_prod, bigSep_univ_prod]
    refine bigSep_congr fun l _ => ?_
    rw [bigSep_univ_prod]
  rw [e Φ, e fun d y k => Φ (peer d k) y (rev k)]
  exact bigSep_congr fun y _ => swap_bar fun d k => Φ d y k

/-- Four things, the first two grouped, -/
theorem sep4_l (A B C D : sProp 𝕄) : iprop(A ∗ B ∗ C ∗ D) ⊢ iprop((A ∗ B) ∗ C ∗ D) := by
  iintro ⟨A, B, C, D⟩
  isplitl [A B]; · isplitl [A] <;> iassumption
  isplitl [C] <;> iassumption
/-- and ungrouped; -/
theorem sep4_r (A B C D : sProp 𝕄) : iprop((A ∗ B) ∗ C ∗ D) ⊢ iprop(A ∗ B ∗ C ∗ D) := by
  iintro ⟨⟨A, B⟩, C, D⟩
  isplitl [A]; · iexact A
  isplitl [B]; · iexact B
  isplitl [C] <;> iassumption
/-- the two are one. -/
theorem sep4 (A B C D : sProp 𝕄) : iprop(A ∗ B ∗ C ∗ D) = iprop((A ∗ B) ∗ C ∗ D) := BI.Entails.antisymm (sep4_l A B C D) (sep4_r A B C D)

/-- The tokens of the cells a device pays on itself, and of those it pays on a peer, for every transfer. -/
theorem tokX_eq (d : Dev nD) :
    (bigSep Finset.univ fun x : Fin 3 × Fin 4 × Fin 3 =>
        iprop(dutyTok ER (cell d (kRsS x.2.1 x.2.2)) x.1.val 0 ∗ dutyTok ER (cell (peer d x.2.2) (kRsR x.2.1 (rev x.2.2))) x.1.val 0
          ∗ dutyTok ER (cell d (kAgS x.2.1 x.2.2)) x.1.val 0 ∗ dutyTok ER (cell (peer d x.2.2) (kAgR x.2.1 (rev x.2.2))) x.1.val 0) : sProp 𝕄)
      = tri fun l => quad fun c => iprop(TokRs (F := F) d c l.val ∗ TokAg (F := F) d c l.val) := by
  rw [bigSep_univ_prod, tri_eq]
  refine congrArg tri (funext fun l => ?_)
  rw [bigSep_univ_prod, quad_eq]
  refine congrArg quad (funext fun c => ?_)
  unfold TokRs TokAg
  rw [← tri_eq, ← tri_eq, ← bigSep_sep']
  refine bigSep_congr fun k _ => ?_
  exact sep4 _ _ _ _

/-- Every token goes to the device that pays with it. -/
theorem toks_around : (bigSep Finset.univ fun d : Dev nD => (toks (F := F) d : sProp 𝕄)) ⊢ bigSep Finset.univ fun d : Dev nD => payToks (F := F) d := by
  have hx : (bigSep Finset.univ fun d : Dev nD => bigSep Finset.univ fun x : Fin 3 × Fin 4 × Fin 3 => bigSep Finset.univ fun t : Fin 4 =>
        (dutyTok ER (cell d (kX t x.2.1 x.2.2)) x.1.val 0 : sProp 𝕄))
      ⊢ bigSep Finset.univ fun d : Dev nD => tri fun l => quad fun c => iprop(TokRs (F := F) d c l.val ∗ TokAg (F := F) d c l.val) := by
    have e4 : ∀ (d : Dev nD) (x : Fin 3 × Fin 4 × Fin 3), (bigSep Finset.univ fun t : Fin 4 => (dutyTok ER (cell d (kX t x.2.1 x.2.2)) x.1.val 0 : sProp 𝕄))
        = iprop(dutyTok ER (cell d (kRsS x.2.1 x.2.2)) x.1.val 0 ∗ dutyTok ER (cell d (kRsR x.2.1 x.2.2)) x.1.val 0
          ∗ dutyTok ER (cell d (kAgS x.2.1 x.2.2)) x.1.val 0 ∗ dutyTok ER (cell d (kAgR x.2.1 x.2.2)) x.1.val 0) := fun d x => four_eq _
    simp only [← tokX_eq, e4, bigSep_sep']
    rw [← swap_x fun d y k => (dutyTok ER (cell d (kRsR y.2 k)) y.1.val 0 : sProp 𝕄), ← swap_x fun d y k => (dutyTok ER (cell d (kAgR y.2 k)) y.1.val 0 : sProp 𝕄)]
  unfold toks payToks
  rw [bigSep_sep', bigSep_sep', bigSep_sep', bigSep_sep', bigSep_sep', bigSep_sep', swap_bar]
  iintro ⟨H1, H2, H3, H4⟩
  isplitl [H1]; · iexact H1
  isplitl [H2]; · iexact H2
  isplitl [H3]; · iexact H3
  iapply hx; iexact H4

/-! ## Credits -/

/-- What peer `k` owes device `d` at stage `t`. -/
def inn (d : Dev nD) (t : ℕ) (k : Fin 3) : CellTallies nD τ sig ℕ :=
  if t = 0 then tallyAt (cell d kBar) 1 1
  else if (t - 1) % 8 < 4 then tallyAt (cell d (kRsR ⟨(t - 1) % 4, Nat.mod_lt _ (by decide)⟩ k)) (t + 1) NS
  else tallyAt (cell d (kAgR ⟨(t - 1) % 4, Nat.mod_lt _ (by decide)⟩ k)) (t + 1) NS

/-- What device `d` is owed with `n` of the 25 stages still to come. -/
def InW (d : Dev nD) : ℕ → CellTallies nD τ sig ℕ
  | 0 => 0
  | n + 1 => InW d n + inn d (24 - n) 2 + inn d (24 - n) 1 + inn d (24 - n) 0

/-- What a device owes its peer is what the peer is owed by it. -/
theorem due_inn (d : Dev nD) (t : ℕ) (k : Fin 3) : due d t k = inn (peer d k) t (rev k) := rfl

/-- At one stage, all that is owed is all that is to come. -/
theorem stage_sum (t : ℕ) : (∑ d : Dev nD, (due d t 2 + due d t 1 + due d t 0)) = ∑ d : Dev nD, (inn d t 2 + inn d t 1 + inn d t 0) := by
  have e : ∀ f : Dev nD → Fin 3 → CellTallies nD τ sig ℕ, (∑ d : Dev nD, (f d 2 + f d 1 + f d 0)) = ∑ p : Dev nD × Fin 3, f p.1 p.2 := fun f => by
    rw [Fintype.sum_prod_type]
    refine Finset.sum_congr rfl fun d _ => ?_
    rw [Fin.sum_univ_three]
    show f d 2 + f d 1 + f d 0 = f d 0 + f d 1 + f d 2
    rw [add_comm (f d 2), add_comm, add_assoc]
  rw [e (fun d k => due d t k), e (fun d k => inn d t k), ← Equiv.sum_comp around]
  rfl

/-- Over all stages too. -/
theorem Ow_sum : ∀ n : ℕ, (∑ d : Dev nD, Ow d n) = ∑ d : Dev nD, InW d n
  | 0 => rfl
  | n + 1 => by
    have h := stage_sum (24 - n)
    have hn := Ow_sum n
    have e : ∀ d : Dev nD, Ow d (n + 1) = Ow d n + (due d (24 - n) 2 + due d (24 - n) 1 + due d (24 - n) 0) := fun d => by rw [Ow, ← add_assoc, ← add_assoc]
    have e' : ∀ d : Dev nD, InW d (n + 1) = InW d n + (inn d (24 - n) 2 + inn d (24 - n) 1 + inn d (24 - n) 0) := fun d => by rw [InW, ← add_assoc, ← add_assoc]
    rw [Finset.sum_congr rfl fun d _ => e d, Finset.sum_congr rfl fun d _ => e' d, Finset.sum_add_distrib, hn, h, ← Finset.sum_add_distrib]

/-- What a device is owed by one peer sits on its own cells. -/
theorem inn_own (d : Dev nD) (t : ℕ) (k : Fin 3) (g : GSem nD τ sig) (h : inn d t k g ≠ 0) : g.1 = (d.tc : Thread nD τ) := by
  obtain ⟨i, hi⟩ := Finsupp.ne_iff.mp h
  have hp : 0 < inn d t k g i := Nat.pos_of_ne_zero hi
  unfold inn at hp
  split at hp
  · rw [(tallyAt_pos hp).1]
  · split at hp <;> rw [(tallyAt_pos hp).1]

/-- All that a device is owed sits on its own cells. -/
theorem InW_own (d : Dev nD) : ∀ (n : ℕ) (g : GSem nD τ sig), InW d n g ≠ 0 → g.1 = (d.tc : Thread nD τ)
  | 0, g, h => absurd rfl h
  | n + 1, g, h => by
    by_contra hg
    refine h ?_
    have a := not_imp_comm.mp (InW_own d n g) hg
    have b := fun k => not_imp_comm.mp (inn_own d (24 - n) k g) hg
    rw [InW, Pi.add_apply, Pi.add_apply, Pi.add_apply, a, b, b, b, add_zero, add_zero, add_zero]

/-- The credits dealt to a device at the launch are those of all it is owed. -/
theorem launch_cred (d : Dev nD) : (Pipeline.launchCred (fun d => Ow d 25) d : sProp 𝕄) = cred (InW d 25) :=
  Pipeline.launchCred_of_sum _ (fun d => InW d 25) (Ow_sum 25) (fun d g => InW_own d 25 g) d

/-- The credits of one stage split off. -/
theorem InW_step (d : Dev nD) (n t : ℕ) (ht : 24 - n = t) : (cred (InW d (n + 1)) : sProp 𝕄) ⊢ iprop(tri (fun k => cred (inn d t k)) ∗ cred (InW d n)) := by
  subst ht
  have h : (cred (InW d (n + 1)) : sProp 𝕄) = iprop(((cred (InW d n) ∗ cred (inn d (24 - n) 2)) ∗ cred (inn d (24 - n) 1)) ∗ cred (inn d (24 - n) 0)) := by
    have e : ∀ A B : CellTallies nD τ sig ℕ, (cred (A + B) : sProp 𝕄) = iprop(cred A ∗ cred B) := fun A B => BI.Entails.antisymm (cred_add _ _).1 (cred_add _ _).2
    rw [InW, e, e, e]
  rw [h]; unfold tri
  iintro ⟨⟨⟨H, H2⟩, H1⟩, H0⟩
  isplitr [H]
  · isplitl [H0]; · iexact H0
    isplitl [H1] <;> iassumption
  iexact H

/-- The credit of a partial quarter's arrival, by chunk and slot. -/
theorem inn_rs (d : Dev nD) (l : ℕ) (c : Fin 4) (k : Fin 3) : inn d (1 + 8 * l + c.val) k = tallyAt (cell d (kRsR c k)) (2 + 8 * l + c.val) NS := by
  unfold inn
  rw [if_neg (by omega), if_pos (by omega), show (⟨(1 + 8 * l + c.val - 1) % 4, Nat.mod_lt _ (by decide)⟩ : Fin 4) = c from Fin.ext (by show _ % 4 = _; omega),
    show 1 + 8 * l + c.val + 1 = 2 + 8 * l + c.val by omega]
/-- The credit of a hidden quarter's arrival, by chunk and slot. -/
theorem inn_ag (d : Dev nD) (l : ℕ) (c : Fin 4) (k : Fin 3) : inn d (5 + 8 * l + c.val) k = tallyAt (cell d (kAgR c k)) (6 + 8 * l + c.val) NS := by
  unfold inn
  rw [if_neg (by omega), if_neg (by omega), show (⟨(5 + 8 * l + c.val - 1) % 4, Nat.mod_lt _ (by decide)⟩ : Fin 4) = c from Fin.ext (by show _ % 4 = _; omega),
    show 5 + 8 * l + c.val + 1 = 6 + 8 * l + c.val by omega]

/-- The credits of a stage of partial quarters split off. -/
theorem rs_in (d : Dev nD) (l n : ℕ) (c : Fin 4) (h : n + (1 + 8 * l + c.val) = 24) :
    (cred (InW d (n + 1)) : sProp 𝕄) ⊢ iprop(CredRs (F := F) d c l ∗ cred (InW d n)) := by
  have := InW_step (F := F) d n (1 + 8 * l + c.val) (by omega)
  simp only [inn_rs] at this; exact this
/-- The credits of a stage of hidden quarters split off. -/
theorem ag_in (d : Dev nD) (l n : ℕ) (c : Fin 4) (h : n + (5 + 8 * l + c.val) = 24) :
    (cred (InW d (n + 1)) : sProp 𝕄) ⊢ iprop(CredAg (F := F) d c l ∗ cred (InW d n)) := by
  have := InW_step (F := F) d n (5 + 8 * l + c.val) (by omega)
  simp only [inn_ag] at this; exact this

/-- The credits of one layer. -/
theorem layer_in (d : Dev nD) (l n : ℕ) (h : n + 8 * l = 16) :
    (cred (InW d (n + 8)) : sProp 𝕄) ⊢ iprop((quad (fun c => CredRs (F := F) d c l) ∗ quad (fun c => CredAg (F := F) d c l)) ∗ cred (InW d n)) := by
  unfold quad
  iintro H
  ihave ⟨A0, H⟩ := (rs_in (F := F) d l (n + 7) 0 (by show _ + (_ + 0) = _; omega)) $$ H
  ihave ⟨A1, H⟩ := (rs_in (F := F) d l (n + 6) 1 (by show _ + (_ + 1) = _; omega)) $$ H
  ihave ⟨A2, H⟩ := (rs_in (F := F) d l (n + 5) 2 (by show _ + (_ + 2) = _; omega)) $$ H
  ihave ⟨A3, H⟩ := (rs_in (F := F) d l (n + 4) 3 (by show _ + (_ + 3) = _; omega)) $$ H
  ihave ⟨B0, H⟩ := (ag_in (F := F) d l (n + 3) 0 (by show _ + (_ + 0) = _; omega)) $$ H
  ihave ⟨B1, H⟩ := (ag_in (F := F) d l (n + 2) 1 (by show _ + (_ + 1) = _; omega)) $$ H
  ihave ⟨B2, H⟩ := (ag_in (F := F) d l (n + 1) 2 (by show _ + (_ + 2) = _; omega)) $$ H
  ihave ⟨B3, H⟩ := (ag_in (F := F) d l n 3 (by show _ + (_ + 3) = _; omega)) $$ H
  isplitr [H]
  · isplitl [A0 A1 A2 A3]
    · isplitl [A0]; · iexact A0
      isplitl [A1]; · iexact A1
      isplitl [A2] <;> iassumption
    · isplitl [B0]; · iexact B0
      isplitl [B1]; · iexact B1
      isplitl [B2] <;> iassumption
  iexact H

/-- The credit of the three barrier signals. -/
theorem bar_in (d : Dev nD) : (tri fun k => (cred (inn d 0 k) : sProp 𝕄)) ⊢ cred (tallyAt (cell d kBar) 1 3) := by
  have e : (tallyAt (cell d kBar) 1 3 : CellTallies nD τ sig ℕ) = inn d 0 0 + (inn d 0 1 + inn d 0 2) := by
    show _ = tallyAt (cell d kBar) 1 1 + (tallyAt (cell d kBar) 1 1 + tallyAt (cell d kBar) 1 1)
    rw [tallyAt_add, tallyAt_add]
  have e' : ∀ A B : CellTallies nD τ sig ℕ, iprop(cred A ∗ cred B) ⊢ (cred (A + B) : sProp 𝕄) := fun A B => (cred_add _ _).2
  rw [e]; unfold tri
  iintro ⟨H0, H1, H2⟩
  iapply (e' (inn d 0 0) (inn d 0 1 + inn d 0 2))
  isplitl [H0]; · iexact H0
  iapply (e' (inn d 0 1) (inn d 0 2))
  isplitl [H1] <;> iassumption

/-- Everything a device will wait for, layer by layer. -/
def Creds (d : Dev nD) : sProp 𝕄 :=
  iprop(cred (tallyAt (cell d kBar) 1 3) ∗ tri fun l => iprop(quad (fun c => CredRs (F := F) d c l.val) ∗ quad (fun c => CredAg (F := F) d c l.val)))

/-- The credits of the launch, sorted by what they are for. -/
theorem creds (d : Dev nD) : (Pipeline.launchCred (fun d => Ow d 25) d : sProp 𝕄) ⊢ Creds (F := F) d := by
  rw [launch_cred]; unfold Creds tri
  iintro H
  ihave ⟨A, H⟩ := (InW_step (F := F) d 24 0 rfl) $$ H
  ihave ⟨B, H⟩ := (layer_in (F := F) d 0 16 rfl) $$ H
  ihave ⟨C, H⟩ := (layer_in (F := F) d 1 8 rfl) $$ H
  ihave ⟨D, -⟩ := (layer_in (F := F) d 2 0 rfl) $$ H
  isplitl [A]; · (iapply (bar_in (F := F) d); iexact A)
  isplitl [B]; · iexact B
  isplitl [C]; · iexact C
  iexact D

end Cert.KernelIdeal
-- ==== Proof.Split.lean ====
module

public import proofs.«01_k».proof.Proof.Layer
public import Idealize.ShloMosaic.Lib.Ring

@[expose] public section

set_option synthInstance.maxSize 4096

noncomputable section

/-! # Buffers and their slots

Each working buffer, held whole, is its slots held one by one, and the slots join back to the buffer. -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A place owned at some value is its elements held at some contents. -/
theorem any_of_held (d : Dev nD) {sp : Space} {s : Shape} {e : EltTy} (M : Memref sig .tc sp s e) (I : Finset (Idx (M.view.loc (d : Thread nD τ)))) (hI : M.view.set = I)
    (f : Buf (Elt F) (M.view.loc (d : Thread nD τ))) :
    (M.view.loc (d : Thread nD τ) ↦[I]{fullShare} f : sProp 𝕄) ⊢ iprop(∃ X, owns (d : Thread nD τ) M fullShare X) := by
  subst hI
  unfold owns
  iintro H
  iexists _; iexists f; isplitr
  · ipureintro; rfl
  iexact H

/-- And back. -/
theorem held_of_any (d : Dev nD) {sp : Space} {s : Shape} {e : EltTy} (M : Memref sig .tc sp s e) (I : Finset (Idx (M.view.loc (d : Thread nD τ)))) (hI : M.view.set = I) :
    iprop(∃ X, owns (d : Thread nD τ) M fullShare X) ⊢ (iprop(∃ f : Buf (Elt F) (M.view.loc (d : Thread nD τ)), M.view.loc (d : Thread nD τ) ↦[I]{fullShare} f) : sProp 𝕄) := by
  subst hI
  unfold owns
  iintro ⟨%X, %f, -, H⟩
  iexists f; iexact H

/-! ## The element sets -/

/-- A slot's elements. -/
abbrev set4 (x : Fin 4 × Fin 4) : Finset S4x4x64x128.Idx := (Rect.unit (s := S4x4x64x128) (off4 x.1 x.2.val) S1x1x64x128.size (inb_q x.1 x.2)).set
/-- A receive slot's elements. -/
abbrev set3 (x : Fin 4 × Fin 3) : Finset S4x3x64x128.Idx := (Rect.unit (s := S4x3x64x128) (off4 x.1 x.2.val) S1x1x64x128.size (inb_j x.1 x.2)).set
/-- A narrow input weight's elements. -/
abbrev setWin (l : Fin 3) : Finset S3x256x512.Idx := (Rect.unit (s := S3x256x512) ![l.val, 0, 0] S1x256x512.size (inb_wi3 l)).set
/-- An output weight's elements. -/
abbrev setWout (l : Fin 3) : Finset S3x512x256.Idx := (Rect.unit (s := S3x512x256) ![l.val, 0, 0] S1x512x256.size (inb_wo l)).set
/-- A staged input weight's elements. -/
abbrev setWis (i : Fin 2) : Finset S2x256x512.Idx := (Rect.unit (s := S2x256x512) ![i.val, 0, 0] S1x256x512.size (inb_wi2 i)).set

/-- A slot's elements are those with its two numbers. -/
theorem mem_set4 (x : Fin 4 × Fin 4) (y : S4x4x64x128.Idx) : y ∈ set4 x ↔ (y 0).val = x.1.val ∧ (y 1).val = x.2.val := by
  rw [Rect.mem_set_unit]
  have h2 : (y 2).val < 64 := (y 2).isLt
  have h3 : (y 3).val < 128 := (y 3).isLt
  constructor
  · intro H
    have a0 : x.1.val ≤ (y 0).val ∧ (y 0).val < x.1.val + 1 := H 0
    have a1 : x.2.val ≤ (y 1).val ∧ (y 1).val < x.2.val + 1 := H 1
    omega
  · intro H a; fin_cases a
    · show x.1.val ≤ (y 0).val ∧ (y 0).val < x.1.val + 1; omega
    · show x.2.val ≤ (y 1).val ∧ (y 1).val < x.2.val + 1; omega
    · show 0 ≤ (y 2).val ∧ (y 2).val < 0 + 64; omega
    · show 0 ≤ (y 3).val ∧ (y 3).val < 0 + 128; omega
/-- A receive slot's elements are those with its two numbers. -/
theorem mem_set3 (x : Fin 4 × Fin 3) (y : S4x3x64x128.Idx) : y ∈ set3 x ↔ (y 0).val = x.1.val ∧ (y 1).val = x.2.val := by
  rw [Rect.mem_set_unit]
  have h2 : (y 2).val < 64 := (y 2).isLt
  have h3 : (y 3).val < 128 := (y 3).isLt
  constructor
  · intro H
    have a0 : x.1.val ≤ (y 0).val ∧ (y 0).val < x.1.val + 1 := H 0
    have a1 : x.2.val ≤ (y 1).val ∧ (y 1).val < x.2.val + 1 := H 1
    omega
  · intro H a; fin_cases a
    · show x.1.val ≤ (y 0).val ∧ (y 0).val < x.1.val + 1; omega
    · show x.2.val ≤ (y 1).val ∧ (y 1).val < x.2.val + 1; omega
    · show 0 ≤ (y 2).val ∧ (y 2).val < 0 + 64; omega
    · show 0 ≤ (y 3).val ∧ (y 3).val < 0 + 128; omega
/-- A narrow input weight's elements are those of its layer. -/
theorem mem_setWin (l : Fin 3) (y : S3x256x512.Idx) : y ∈ setWin l ↔ (y 0).val = l.val := by
  rw [Rect.mem_set_unit]
  have h1 : (y 1).val < 256 := (y 1).isLt
  have h2 : (y 2).val < 512 := (y 2).isLt
  constructor
  · intro H; have a0 : l.val ≤ (y 0).val ∧ (y 0).val < l.val + 1 := H 0; omega
  · intro H a; fin_cases a
    · show l.val ≤ (y 0).val ∧ (y 0).val < l.val + 1; omega
    · show 0 ≤ (y 1).val ∧ (y 1).val < 0 + 256; omega
    · show 0 ≤ (y 2).val ∧ (y 2).val < 0 + 512; omega
/-- An output weight's elements are those of its layer. -/
theorem mem_setWout (l : Fin 3) (y : S3x512x256.Idx) : y ∈ setWout l ↔ (y 0).val = l.val := by
  rw [Rect.mem_set_unit]
  have h1 : (y 1).val < 512 := (y 1).isLt
  have h2 : (y 2).val < 256 := (y 2).isLt
  constructor
  · intro H; have a0 : l.val ≤ (y 0).val ∧ (y 0).val < l.val + 1 := H 0; omega
  · intro H a; fin_cases a
    · show l.val ≤ (y 0).val ∧ (y 0).val < l.val + 1; omega
    · show 0 ≤ (y 1).val ∧ (y 1).val < 0 + 512; omega
    · show 0 ≤ (y 2).val ∧ (y 2).val < 0 + 256; omega
/-- A staged input weight's elements are those of its number. -/
theorem mem_setWis (l : Fin 2) (y : S2x256x512.Idx) : y ∈ setWis l ↔ (y 0).val = l.val := by
  rw [Rect.mem_set_unit]
  have h1 : (y 1).val < 256 := (y 1).isLt
  have h2 : (y 2).val < 512 := (y 2).isLt
  constructor
  · intro H; have a0 : l.val ≤ (y 0).val ∧ (y 0).val < l.val + 1 := H 0; omega
  · intro H a; fin_cases a
    · show l.val ≤ (y 0).val ∧ (y 0).val < l.val + 1; omega
    · show 0 ≤ (y 1).val ∧ (y 1).val < 0 + 256; omega
    · show 0 ≤ (y 2).val ∧ (y 2).val < 0 + 512; omega

/-- Different slots share no element, -/
theorem set4_disjoint : ∀ x x' : Fin 4 × Fin 4, x ≠ x' → Disjoint (set4 x) (set4 x') := fun x x' hne => by
  rw [Finset.disjoint_left]; intro y hy hy'; rw [mem_set4] at hy hy'; exact hne (Prod.ext (Fin.ext (by omega)) (Fin.ext (by omega)))
/-- and the slots are the whole buffer. -/
theorem set4_cover : Finset.univ.biUnion set4 = Finset.univ := by
  ext y; simp only [Finset.mem_biUnion, Finset.mem_univ, true_and, iff_true]; exact ⟨(y 0, y 1), (mem_set4 _ _).mpr ⟨rfl, rfl⟩⟩
/-- Different receive slots share no element, -/
theorem set3_disjoint : ∀ x x' : Fin 4 × Fin 3, x ≠ x' → Disjoint (set3 x) (set3 x') := fun x x' hne => by
  rw [Finset.disjoint_left]; intro y hy hy'; rw [mem_set3] at hy hy'; exact hne (Prod.ext (Fin.ext (by omega)) (Fin.ext (by omega)))
/-- and they are the whole buffer. -/
theorem set3_cover : Finset.univ.biUnion set3 = Finset.univ := by
  ext y; simp only [Finset.mem_biUnion, Finset.mem_univ, true_and, iff_true]; exact ⟨(y 0, y 1), (mem_set3 _ _).mpr ⟨rfl, rfl⟩⟩
/-- Different narrow input weights share no element, -/
theorem setWin_disjoint : ∀ x x' : Fin 3, x ≠ x' → Disjoint (setWin x) (setWin x') := fun x x' hne => by
  rw [Finset.disjoint_left]; intro y hy hy'; rw [mem_setWin] at hy hy'; exact hne (Fin.ext (by omega))
/-- and they are the whole buffer. -/
theorem setWin_cover : Finset.univ.biUnion setWin = Finset.univ := by
  ext y; simp only [Finset.mem_biUnion, Finset.mem_univ, true_and, iff_true]; exact ⟨y 0, (mem_setWin _ _).mpr rfl⟩
/-- Different output weights share no element, -/
theorem setWout_disjoint : ∀ x x' : Fin 3, x ≠ x' → Disjoint (setWout x) (setWout x') := fun x x' hne => by
  rw [Finset.disjoint_left]; intro y hy hy'; rw [mem_setWout] at hy hy'; exact hne (Fin.ext (by omega))
/-- and they are the whole buffer. -/
theorem setWout_cover : Finset.univ.biUnion setWout = Finset.univ := by
  ext y; simp only [Finset.mem_biUnion, Finset.mem_univ, true_and, iff_true]; exact ⟨y 0, (mem_setWout _ _).mpr rfl⟩
/-- Different staged input weights share no element, -/
theorem setWis_disjoint : ∀ x x' : Fin 2, x ≠ x' → Disjoint (setWis x) (setWis x') := fun x x' hne => by
  rw [Finset.disjoint_left]; intro y hy hy'; rw [mem_setWis] at hy hy'; exact hne (Fin.ext (by omega))
/-- and they are the whole buffer. -/
theorem setWis_cover : Finset.univ.biUnion setWis = Finset.univ := by
  ext y; simp only [Finset.mem_biUnion, Finset.mem_univ, true_and, iff_true]; exact ⟨y 0, (mem_setWis _ _).mpr rfl⟩

/-! ## Buffers to slots -/

/-- The elements of a partial quarter's place. -/
theorem pq_set (c q : Fin 4) : (pqS c q).view.set = set4 (c, q) := (View.set_reshape _ _).trans (View.set_slice_whole _ _)
/-- The elements of a hidden quarter's place. -/
theorem hf_set (c q : Fin 4) : (hfS c q).view.set = set4 (c, q) := (View.set_reshape _ _).trans (View.set_slice_whole _ _)
/-- The elements of a receive slot. -/
theorem rs_set (c : Fin 4) (j : Fin 3) : (slot3 c j).view.set = set3 (c, j) := (View.set_reshape _ _).trans (View.set_slice_whole _ _)
/-- The elements of a narrow input weight's place. -/
theorem win_set (l : Fin 3) : (winS l).view.set = setWin l := View.set_slice_whole _ _
/-- The elements of a narrow output weight's place. -/
theorem wout_set (l : Fin 3) : (woutS l).view.set = setWout l := View.set_slice_whole _ _
/-- The elements of a staged output weight's place. -/
theorem wos_set (l : Fin 3) : (wosS l).view.set = setWout l := (View.set_reshape _ _).trans (View.set_slice_whole _ _)
/-- The elements of a staged input weight's place. -/
theorem wis_set (l : Fin 2) : (wisS l).view.set = setWis l := (View.set_reshape _ _).trans (View.set_slice_whole _ _)

/-- A buffer held whole at some contents. -/
abbrev anyB (d : Dev nD) (b : Ref sig .tc) : sProp 𝕄 := iprop(∃ f : Buf (Elt F) ((d : Thread nD τ).loc b), ((d : Thread nD τ).loc b) ↦{fullShare} f)

/-- The buffer of partial quarters cut into its places. -/
theorem pq_split (d : Dev nD) : anyB (F := F) d cc0_scratch6 ⊢ quad fun c => quad fun q => anyS (F := F) d (pqS c q) := by
  have h : ∀ f, (((d : Thread nD τ).loc cc0_scratch6) ↦{fullShare} f : sProp 𝕄) ⊢ bigSep Finset.univ fun x : Fin 4 × Fin 4 => anyS (F := F) d (pqS x.1 x.2) := fun f =>
    (Entails.of_eq (Ring.pointsTo_blocks (ℓ := (d : Thread nD τ).loc cc0_scratch6) (q := fullShare) set4 set4_disjoint set4_cover f)).trans
      (bigSep_mono fun x _ => any_of_held (F := F) d (pqS x.1 x.2) _ (pq_set x.1 x.2) f)
  simp only [bigSep_univ_prod, show ∀ Φ : Fin 4 → sProp 𝕄, bigSep (Finset.univ : Finset (Fin 4)) Φ = quad Φ from quad_eq] at h
  exact Laws.exists_elim h
/-- The buffer of hidden quarters cut into its places. -/
theorem hf_split (d : Dev nD) : anyB (F := F) d cc0_scratch8 ⊢ quad fun c => quad fun q => anyS (F := F) d (hfS c q) := by
  have h : ∀ f, (((d : Thread nD τ).loc cc0_scratch8) ↦{fullShare} f : sProp 𝕄) ⊢ bigSep Finset.univ fun x : Fin 4 × Fin 4 => anyS (F := F) d (hfS x.1 x.2) := fun f =>
    (Entails.of_eq (Ring.pointsTo_blocks (ℓ := (d : Thread nD τ).loc cc0_scratch8) (q := fullShare) set4 set4_disjoint set4_cover f)).trans
      (bigSep_mono fun x _ => any_of_held (F := F) d (hfS x.1 x.2) _ (hf_set x.1 x.2) f)
  simp only [bigSep_univ_prod, show ∀ Φ : Fin 4 → sProp 𝕄, bigSep (Finset.univ : Finset (Fin 4)) Φ = quad Φ from quad_eq] at h
  exact Laws.exists_elim h
/-- The receive buffer cut into its slots, by peer. -/
theorem rs_split (d : Dev nD) : anyB (F := F) d cc0_scratch7 ⊢ tri fun k => bigSep (Finset.univ : Finset (Fin 4)) fun c => anyS (F := F) d (slot3 c k) := by
  have h : ∀ f, (((d : Thread nD τ).loc cc0_scratch7) ↦{fullShare} f : sProp 𝕄) ⊢ bigSep Finset.univ fun x : Fin 4 × Fin 3 => anyS (F := F) d (slot3 x.1 x.2) := fun f =>
    (Entails.of_eq (Ring.pointsTo_blocks (ℓ := (d : Thread nD τ).loc cc0_scratch7) (q := fullShare) set3 set3_disjoint set3_cover f)).trans
      (bigSep_mono fun x _ => any_of_held (F := F) d (slot3 x.1 x.2) _ (rs_set x.1 x.2) f)
  simp only [bigSep_univ_prod] at h
  rw [← tri_eq, bigSep_univ_comm fun (k : Fin 3) (c : Fin 4) => anyS (F := F) d (slot3 c k)]
  exact Laws.exists_elim h
/-- The buffer of narrow input weights cut by layer. -/
theorem win_split (d : Dev nD) : anyB (F := F) d cc0_scratch0 ⊢ tri fun l => iprop(∃ X, owns (d : Thread nD τ) (winS l) fullShare X) := by
  have h : ∀ f, (((d : Thread nD τ).loc cc0_scratch0) ↦{fullShare} f : sProp 𝕄) ⊢ bigSep Finset.univ fun l : Fin 3 => iprop(∃ X, owns (d : Thread nD τ) (winS l) fullShare X) := fun f =>
    (Entails.of_eq (Ring.pointsTo_blocks (ℓ := (d : Thread nD τ).loc cc0_scratch0) (q := fullShare) setWin setWin_disjoint setWin_cover f)).trans
      (bigSep_mono fun l _ => any_of_held (F := F) d (winS l) _ (win_set l) f)
  rw [← tri_eq]
  exact Laws.exists_elim h
/-- The buffer of narrow output weights cut by layer. -/
theorem wout_split (d : Dev nD) : anyB (F := F) d cc0_scratch1 ⊢ tri fun l => iprop(∃ X, owns (d : Thread nD τ) (woutS l) fullShare X) := by
  have h : ∀ f, (((d : Thread nD τ).loc cc0_scratch1) ↦{fullShare} f : sProp 𝕄) ⊢ bigSep Finset.univ fun l : Fin 3 => iprop(∃ X, owns (d : Thread nD τ) (woutS l) fullShare X) := fun f =>
    (Entails.of_eq (Ring.pointsTo_blocks (ℓ := (d : Thread nD τ).loc cc0_scratch1) (q := fullShare) setWout setWout_disjoint setWout_cover f)).trans
      (bigSep_mono fun l _ => any_of_held (F := F) d (woutS l) _ (wout_set l) f)
  rw [← tri_eq]
  exact Laws.exists_elim h
/-- The buffer of staged output weights cut by layer. -/
theorem wos_split (d : Dev nD) : anyB (F := F) d cc0_scratch3 ⊢ tri fun l => iprop(∃ X, owns (d : Thread nD τ) (wosS l) fullShare X) := by
  have h : ∀ f, (((d : Thread nD τ).loc cc0_scratch3) ↦{fullShare} f : sProp 𝕄) ⊢ bigSep Finset.univ fun l : Fin 3 => iprop(∃ X, owns (d : Thread nD τ) (wosS l) fullShare X) := fun f =>
    (Entails.of_eq (Ring.pointsTo_blocks (ℓ := (d : Thread nD τ).loc cc0_scratch3) (q := fullShare) setWout setWout_disjoint setWout_cover f)).trans
      (bigSep_mono fun l _ => any_of_held (F := F) d (wosS l) _ (wos_set l) f)
  rw [← tri_eq]
  exact Laws.exists_elim h
/-- The buffer of staged input weights cut in two. -/
theorem wis_split (d : Dev nD) : anyB (F := F) d cc0_scratch2 ⊢ iprop((∃ X, owns (d : Thread nD τ) (wisS 0) fullShare X) ∗ (∃ X, owns (d : Thread nD τ) (wisS 1) fullShare X)) := by
  have h : ∀ f, (((d : Thread nD τ).loc cc0_scratch2) ↦{fullShare} f : sProp 𝕄) ⊢ bigSep Finset.univ fun l : Fin 2 => iprop(∃ X, owns (d : Thread nD τ) (wisS l) fullShare X) := fun f =>
    (Entails.of_eq (Ring.pointsTo_blocks (ℓ := (d : Thread nD τ).loc cc0_scratch2) (q := fullShare) setWis setWis_disjoint setWis_cover f)).trans
      (bigSep_mono fun l _ => any_of_held (F := F) d (wisS l) _ (wis_set l) f)
  rw [bigSep_fin_two] at h
  iintro ⟨%f, H⟩
  ihave H := (h f) $$ H
  iexact H

/-! ## Slots to buffers -/

/-- The places of partial quarters put back together. -/
theorem pq_join (d : Dev nD) : (quad fun c => quad fun q => anyS (F := F) d (pqS c q)) ⊢ anyB (F := F) d cc0_scratch6 := by
  have h : (bigSep Finset.univ fun x : Fin 4 × Fin 4 => anyS (F := F) d (pqS x.1 x.2)) ⊢ anyB (F := F) d cc0_scratch6 :=
    (bigSep_mono fun x _ => held_of_any (F := F) d (pqS x.1 x.2) _ (pq_set x.1 x.2)).trans
      (Ring.pointsTo_blocks_join_exists (ℓ := (d : Thread nD τ).loc cc0_scratch6) (q := fullShare) set4 set4_disjoint set4_cover pqB.view.junk)
  rw [bigSep_univ_prod] at h
  simp only [show ∀ Φ : Fin 4 → sProp 𝕄, bigSep (Finset.univ : Finset (Fin 4)) Φ = quad Φ from quad_eq] at h
  exact h
/-- The places of hidden quarters put back together. -/
theorem hf_join (d : Dev nD) : (quad fun c => quad fun q => anyS (F := F) d (hfS c q)) ⊢ anyB (F := F) d cc0_scratch8 := by
  have h : (bigSep Finset.univ fun x : Fin 4 × Fin 4 => anyS (F := F) d (hfS x.1 x.2)) ⊢ anyB (F := F) d cc0_scratch8 :=
    (bigSep_mono fun x _ => held_of_any (F := F) d (hfS x.1 x.2) _ (hf_set x.1 x.2)).trans
      (Ring.pointsTo_blocks_join_exists (ℓ := (d : Thread nD τ).loc cc0_scratch8) (q := fullShare) set4 set4_disjoint set4_cover hfB.view.junk)
  rw [bigSep_univ_prod] at h
  simp only [show ∀ Φ : Fin 4 → sProp 𝕄, bigSep (Finset.univ : Finset (Fin 4)) Φ = quad Φ from quad_eq] at h
  exact h
/-- The receive slots put back together. -/
theorem rs_join (d : Dev nD) : (quad fun c => tri fun k => anyS (F := F) d (slot3 c k)) ⊢ anyB (F := F) d cc0_scratch7 := by
  have h : (bigSep Finset.univ fun x : Fin 4 × Fin 3 => anyS (F := F) d (slot3 x.1 x.2)) ⊢ anyB (F := F) d cc0_scratch7 :=
    (bigSep_mono fun x _ => held_of_any (F := F) d (slot3 x.1 x.2) _ (rs_set x.1 x.2)).trans
      (Ring.pointsTo_blocks_join_exists (ℓ := (d : Thread nD τ).loc cc0_scratch7) (q := fullShare) set3 set3_disjoint set3_cover rsB.view.junk)
  rw [bigSep_univ_prod] at h
  simp only [show ∀ Φ : Fin 4 → sProp 𝕄, bigSep (Finset.univ : Finset (Fin 4)) Φ = quad Φ from quad_eq, tri_eq] at h
  exact h
/-- The narrow input weights put back together. -/
theorem win_join (d : Dev nD) : (tri fun l => iprop(∃ X, owns (d : Thread nD τ) (winS l) fullShare X)) ⊢ anyB (F := F) d cc0_scratch0 := by
  rw [← tri_eq]
  exact (bigSep_mono fun l _ => held_of_any (F := F) d (winS l) _ (win_set l)).trans
      (Ring.pointsTo_blocks_join_exists (ℓ := (d : Thread nD τ).loc cc0_scratch0) (q := fullShare) setWin setWin_disjoint setWin_cover winB.view.junk)
/-- The narrow output weights put back together. -/
theorem wout_join (d : Dev nD) : (tri fun l => iprop(∃ X, owns (d : Thread nD τ) (woutS l) fullShare X)) ⊢ anyB (F := F) d cc0_scratch1 := by
  rw [← tri_eq]
  exact (bigSep_mono fun l _ => held_of_any (F := F) d (woutS l) _ (wout_set l)).trans
      (Ring.pointsTo_blocks_join_exists (ℓ := (d : Thread nD τ).loc cc0_scratch1) (q := fullShare) setWout setWout_disjoint setWout_cover woutB.view.junk)
/-- The staged output weights put back together. -/
theorem wos_join (d : Dev nD) : (tri fun l => iprop(∃ X, owns (d : Thread nD τ) (wosS l) fullShare X)) ⊢ anyB (F := F) d cc0_scratch3 := by
  rw [← tri_eq]
  exact (bigSep_mono fun l _ => held_of_any (F := F) d (wosS l) _ (wos_set l)).trans
      (Ring.pointsTo_blocks_join_exists (ℓ := (d : Thread nD τ).loc cc0_scratch3) (q := fullShare) setWout setWout_disjoint setWout_cover wosB.view.junk)
/-- The staged input weights put back together. -/
theorem wis_join (d : Dev nD) : iprop((∃ X, owns (d : Thread nD τ) (wisS 0) fullShare X) ∗ (∃ X, owns (d : Thread nD τ) (wisS 1) fullShare X)) ⊢ anyB (F := F) d cc0_scratch2 := by
  have h : (bigSep Finset.univ fun l : Fin 2 => iprop(∃ X, owns (d : Thread nD τ) (wisS l) fullShare X)) ⊢ anyB (F := F) d cc0_scratch2 :=
    (bigSep_mono fun l _ => held_of_any (F := F) d (wisS l) _ (wis_set l)).trans
      (Ring.pointsTo_blocks_join_exists (ℓ := (d : Thread nD τ).loc cc0_scratch2) (q := fullShare) setWis setWis_disjoint setWis_cover wisB.view.junk)
  rw [bigSep_fin_two] at h
  exact h

end Cert.KernelIdeal
-- ==== Proof.SegEq.lean ====
module

public import proofs.«01_k».proof.Proof.Seg

@[expose] public section

set_option synthInstance.maxSize 4096

noncomputable section

namespace Cert.KernelIdeal

open Idealize.ShloMosaic Idealize.SL.Sem

variable {F : FTy → Type} [FloatOps F]

set_option maxRecDepth 1000000 in
set_option maxHeartbeats 4000000 in
/-- The printed body is the repetition of the segments. -/
theorem body_eq (t : Fin cfg0.N) : Gen.bodyAt0 (F := F) t = body (F := F) := rfl

end Cert.KernelIdeal
-- ==== Proof.Entry.lean ====
module

public import proofs.«01_k».proof.Proof.Deal
public import proofs.«01_k».proof.Proof.Split
public import proofs.«01_k».proof.Proof.SegEq
public import proofs.«01_k».proof.Proof.Gen.KernelIdeal.Launch
public import proofs.«01_k».proof.Proof.Gen.KernelIdeal.Points

@[expose] public section

set_option synthInstance.maxSize 4096

noncomputable section

/-! # The body, from the launch's hands back to the launch's hands

What a device holds before the kernel's one point and after it, and the library's body obligation. -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose cellOf)

variable {F : FTy → Type} [FloatOps F]

local notation "𝕄" => MT nD τ sig ℕ (Elt F) ℕ UU ℕ

variable (m : (ℓ : Loc nD τ sig) → Buf (Elt F) ℓ)

/-! ## Whole buffers -/

/-- A whole buffer owned at a value is its points-to. -/
theorem owns_whole_eq (d : Dev nD) (b : Ref sig .tc) (X : b.ty.Contents (Elt F)) :
    (owns (Ix := ℕ) (Name := ℕ) (U := UU) (Lvl := ℕ) (d : Thread nD τ) (Memref.whole b) fullShare X : sProp 𝕄)
      = iprop(∃ f : Buf (Elt F) ((d : Thread nD τ).loc b), ⌜f = X⌝ ∗ (((d : Thread nD τ).loc b) ↦{fullShare} f)) := by
  unfold owns; simp only [Memref.view_whole, View.read_whole, View.set_whole]

/-- A points-to gives a whole buffer owned, -/
theorem whole_in (d : Dev nD) (b : Ref sig .tc) (X : b.ty.Contents (Elt F)) :
    (((d : Thread nD τ).loc b) ↦{fullShare} X : sProp 𝕄) ⊢ owns (d : Thread nD τ) (Memref.whole b) fullShare X := by
  rw [owns_whole_eq]
  iintro H; iexists X; isplitr; · (ipureintro; rfl)
  iexact H
/-- and back. -/
theorem whole_out (d : Dev nD) (b : Ref sig .tc) (X : b.ty.Contents (Elt F)) :
    owns (d : Thread nD τ) (Memref.whole b) fullShare X ⊢ (((d : Thread nD τ).loc b) ↦{fullShare} X : sProp 𝕄) := by
  rw [owns_whole_eq]
  iintro ⟨%f, %hf, H⟩; subst hf; iexact H

/-- The weights a device keeps outside. -/
def Weights (d : Dev nD) : sProp 𝕄 :=
  iprop((((d : Thread nD τ).loc main_arg2) ↦{fullShare} m ((d : Thread nD τ).loc main_arg2)) ∗ (((d : Thread nD τ).loc main_arg3) ↦{fullShare} m ((d : Thread nD τ).loc main_arg3))
    ∗ (((d : Thread nD τ).loc main_arg4) ↦{fullShare} m ((d : Thread nD τ).loc main_arg4)) ∗ (((d : Thread nD τ).loc main_arg5) ↦{fullShare} m ((d : Thread nD τ).loc main_arg5))
    ∗ (((d : Thread nD τ).loc main_arg6) ↦{fullShare} m ((d : Thread nD τ).loc main_arg6)))

/-- The same as the copies take them. -/
def Copied (d : Dev nD) : sProp 𝕄 :=
  iprop((owns (d : Thread nD τ) (wiRef 0) fullShare (wiArg m d 0) ∗ owns (d : Thread nD τ) (wiRef 1) fullShare (wiArg m d 1))
    ∗ tri fun i => owns (d : Thread nD τ) (woRef i) fullShare (woArg m d i))

/-- The weights' buffers, as the copies take them, -/
theorem weights_in (d : Dev nD) : Weights m d ⊢ Copied m d := by
  unfold Weights Copied tri
  iintro ⟨H2, H3, H4, H5, H6⟩
  isplitl [H2 H3]
  · isplitl [H2]; · (iapply (whole_in (F := F) d main_arg2 _); iexact H2)
    iapply (whole_in (F := F) d main_arg3 _); iexact H3
  isplitl [H4]; · (iapply (whole_in (F := F) d main_arg4 _); iexact H4)
  isplitl [H5]; · (iapply (whole_in (F := F) d main_arg5 _); iexact H5)
  iapply (whole_in (F := F) d main_arg6 _); iexact H6
/-- and back. -/
theorem weights_out (d : Dev nD) : Copied m d ⊢ Weights m d := by
  unfold Weights Copied tri
  iintro ⟨⟨H2, H3⟩, H4, H5, H6⟩
  isplitl [H2]; · (iapply (whole_out (F := F) d main_arg2 _); iexact H2)
  isplitl [H3]; · (iapply (whole_out (F := F) d main_arg3 _); iexact H3)
  isplitl [H4]; · (iapply (whole_out (F := F) d main_arg4 _); iexact H4)
  isplitl [H5]; · (iapply (whole_out (F := F) d main_arg5 _); iexact H5)
  iapply (whole_out (F := F) d main_arg6 _); iexact H6

/-- The working buffers, each whole at some contents. -/
def Work (d : Dev nD) : sProp 𝕄 :=
  iprop(anyB (F := F) d cc0_scratch0 ∗ anyB (F := F) d cc0_scratch1 ∗ anyB (F := F) d cc0_scratch2 ∗ anyB (F := F) d cc0_scratch3
    ∗ anyB (F := F) d cc0_scratch6 ∗ anyB (F := F) d cc0_scratch7 ∗ anyB (F := F) d cc0_scratch8)

/-! ## Before the point -/

/-- Every cell of a device at round zero. -/
def Cells0 (d : Dev nD) : sProp 𝕄 := bigSep Finset.univ fun κ : Kd => At (F := F) d κ 0

/-- What a device starts from beside its working buffers. -/
def start (d : Dev nD) : sProp 𝕄 :=
  iprop((∃ K, Ctx m K) ∗ Cells0 (F := F) d ∗ payToks (F := F) d ∗ Creds (F := F) d ∗ Weights m d)

/-- What is held beside the windows before the point. -/
def Φ₀ (d : Dev nD) : sProp 𝕄 := iprop(start m d ∗ Work (F := F) d)
/-- What is held beside the windows after the point. -/
def Φ₁ (d : Dev nD) : sProp 𝕄 := iprop((bigSep Finset.univ fun κ : Kd => semVal (cell d κ) 0) ∗ Work (F := F) d ∗ Weights m d)

/-- The two windows read and the one written, as the body takes them. -/
def Wins (d : Dev nD) (n k : ℕ) : sProp 𝕄 :=
  iprop(owns (d : Thread nD τ) xB fullShare (xstg m d) ∗ owns (d : Thread nD τ) w0B fullShare (w0stg m d) ∗ OutSt m d n ∗ owesE d k)

/-- Three triples zipped. -/
theorem wo_in (d : Dev nD) (A B T : Fin 3 → sProp 𝕄) : iprop(tri A ∗ tri B ∗ tri T) ⊢ tri fun i => iprop(A i ∗ B i ∗ T i) := by
  unfold tri
  iintro ⟨⟨a, b, c⟩, ⟨a', b', c'⟩, ⟨a'', b'', c''⟩⟩
  isplitl [a a' a'']; · (isplitl [a]; · iexact a); isplitl [a'] <;> iassumption
  isplitl [b b' b'']; · (isplitl [b]; · iexact b); isplitl [b'] <;> iassumption
  (isplitl [c]; · iexact c); isplitl [c'] <;> iassumption
/-- Two triples zipped, -/
theorem tri_zip (A B : Fin 3 → sProp 𝕄) : iprop(tri A ∗ tri B) ⊢ tri fun i => iprop(A i ∗ B i) := by
  rw [← tri_eq, ← tri_eq, ← tri_eq, bigSep_sep']
/-- and unzipped. -/
theorem tri_unzip (A B : Fin 3 → sProp 𝕄) : (tri fun i => iprop(A i ∗ B i)) ⊢ iprop(tri A ∗ tri B) := by
  rw [← tri_eq, ← tri_eq, ← tri_eq, bigSep_sep']
/-- Two quadruples zipped, -/
theorem quad_zip (A B : Dev nD → sProp 𝕄) : iprop(quad A ∗ quad B) ⊢ quad fun i => iprop(A i ∗ B i) := by
  rw [← quad_eq, ← quad_eq, ← quad_eq, bigSep_sep']
/-- and unzipped. -/
theorem quad_unzip (A B : Dev nD → sProp 𝕄) : (quad fun i => iprop(A i ∗ B i)) ⊢ iprop(quad A ∗ quad B) := by
  rw [← quad_eq, ← quad_eq, ← quad_eq, bigSep_sep']

/-- The working buffers cut into the places the body uses. -/
theorem work_split (d : Dev nD) : Work (F := F) d ⊢
    iprop((tri fun l => iprop(∃ X, owns (d : Thread nD τ) (winS l) fullShare X)) ∗ (tri fun l => iprop(∃ X, owns (d : Thread nD τ) (woutS l) fullShare X))
      ∗ ((∃ X, owns (d : Thread nD τ) (wisS 0) fullShare X) ∗ (∃ X, owns (d : Thread nD τ) (wisS 1) fullShare X))
      ∗ (tri fun l => iprop(∃ X, owns (d : Thread nD τ) (wosS l) fullShare X))
      ∗ (quad fun c => quad fun q => anyS (F := F) d (pqS c q)) ∗ (tri fun k => bigSep (Finset.univ : Finset (Fin 4)) fun c => anyS (F := F) d (slot3 c k))
      ∗ (quad fun c => quad fun q => anyS (F := F) d (hfS c q)) : sProp 𝕄) := by
  unfold Work
  exact BI.sep_mono (win_split d) (BI.sep_mono (wout_split d) (BI.sep_mono (wis_split d) (BI.sep_mono (wos_split d) (BI.sep_mono (pq_split d) (BI.sep_mono (rs_split d) (hf_split d))))))

/-- The places put back together into the working buffers. -/
theorem work_join (d : Dev nD) :
    iprop((tri fun l => iprop(∃ X, owns (d : Thread nD τ) (winS l) fullShare X)) ∗ (tri fun l => iprop(∃ X, owns (d : Thread nD τ) (woutS l) fullShare X))
      ∗ ((∃ X, owns (d : Thread nD τ) (wisS 0) fullShare X) ∗ (∃ X, owns (d : Thread nD τ) (wisS 1) fullShare X))
      ∗ (tri fun l => iprop(∃ X, owns (d : Thread nD τ) (wosS l) fullShare X))
      ∗ (quad fun c => quad fun q => anyS (F := F) d (pqS c q)) ∗ (quad fun c => tri fun k => anyS (F := F) d (slot3 c k))
      ∗ (quad fun c => quad fun q => anyS (F := F) d (hfS c q)) : sProp 𝕄) ⊢ Work (F := F) d := by
  unfold Work
  exact BI.sep_mono (win_join d) (BI.sep_mono (wout_join d) (BI.sep_mono (wis_join d) (BI.sep_mono (wos_join d) (BI.sep_mono (pq_join d) (BI.sep_mono (rs_join d) (hf_join d))))))

/-- The cells at round zero, as the body takes them. -/
theorem cells_split (d : Dev nD) : Cells0 (F := F) d ⊢
    iprop(At (F := F) d kBar 0 ∗ (At (F := F) d (kWi 0) 0 ∗ At (F := F) d (kWi 1) 0) ∗ tri (fun i => At (F := F) d (kWo i) 0) ∗ quad fun c => tri fun k => P4 (F := F) d c k 0 0) := by
  unfold Cells0 P4
  rw [cells_eq]

/-- The tokens a device pays with, by what they are for. -/
theorem payToks_elim (d : Dev nD) : payToks (F := F) d ⊢
    iprop(tri (fun k => dutyTok ER (cell (peer d k) kBar) 0 (rev k)) ∗ (dutyTok ER (cell d (kWi 0)) 0 0 ∗ dutyTok ER (cell d (kWi 1)) 0 0)
      ∗ tri (fun i => dutyTok ER (cell d (kWo i)) 0 0) ∗ tri fun l => quad fun c => iprop(TokRs (F := F) d c l.val ∗ TokAg (F := F) d c l.val)) := by
  unfold payToks
  rw [tri_eq, two_eq, tri_eq]

/-- The tokens and credits, layer by layer. -/
theorem toks_in (d : Dev nD) :
    iprop((tri fun l => quad fun c => iprop(TokRs (F := F) d c l.val ∗ TokAg (F := F) d c l.val))
        ∗ tri fun l => iprop(quad (fun c => CredRs (F := F) d c l.val) ∗ quad (fun c => CredAg (F := F) d c l.val)))
      ⊢ iprop(LayerToks (F := F) d 0 ∗ LayerToks (F := F) d 1 ∗ LayerToks (F := F) d 2) := by
  have h : ∀ l, iprop((quad fun c => iprop(TokRs (F := F) d c l ∗ TokAg (F := F) d c l)) ∗ (quad (fun c => CredRs (F := F) d c l) ∗ quad (fun c => CredAg (F := F) d c l)))
      ⊢ LayerToks (F := F) d l := fun l => by
    have hq := quad_unzip (fun c => TokRs (F := F) d c l) (fun c => TokAg (F := F) d c l)
    unfold LayerToks
    iintro ⟨A, B⟩
    ihave ⟨A, A'⟩ := hq $$ A
    isplitl [A]; · iexact A
    isplitl [A'] <;> iassumption
  refine (tri_zip _ _).trans ?_
  exact BI.sep_mono (h 0) (BI.sep_mono (h 1) (h 2))

/-- The places and cells, chunk by chunk. -/
theorem chunks_in (d : Dev nD) :
    iprop((quad fun c => quad fun q => anyS (F := F) d (pqS c q)) ∗ (quad fun c => quad fun q => anyS (F := F) d (hfS c q)) ∗ quad fun c => tri fun k => P4 (F := F) d c k 0 0)
      ⊢ quad (ChunkIn (F := F) d) := by
  show _ ⊢ quad fun c => iprop(quad (fun q => anyS (F := F) d (pqS c q)) ∗ quad (fun s => anyS (F := F) d (hfS c s)) ∗ tri (fun k => P4 (F := F) d c k 0 0))
  exact (sep_mono_right (quad_zip _ _)).trans (quad_zip _ _)

/-- The weights as the copies take them, one by one. -/
theorem copied_elim (d : Dev nD) : Copied m d ⊢ iprop((owns (d : Thread nD τ) (wiRef 0) fullShare (wiArg m d 0) ∗ owns (d : Thread nD τ) (wiRef 1) fullShare (wiArg m d 1))
    ∗ tri fun i => owns (d : Thread nD τ) (woRef i) fullShare (woArg m d i)) := .rfl

/-- All that the body takes, from what the launch deals. -/
theorem bodyIn_intro (d : Dev nD) :
    iprop(Cells0 (F := F) d ∗ payToks (F := F) d ∗ Creds (F := F) d ∗ Weights m d ∗ Work (F := F) d ∗ Wins m d 0 25) ⊢ BodyIn m d := by
  have hcr : Creds (F := F) d ⊢ iprop(cred (tallyAt (cell d kBar) 1 3) ∗ tri fun l => iprop(quad (fun c => CredRs (F := F) d c l.val) ∗ quad (fun c => CredAg (F := F) d c l.val))) := .rfl
  have hw : Wins m d 0 25 ⊢ iprop(owns (d : Thread nD τ) xB fullShare (xstg m d) ∗ owns (d : Thread nD τ) w0B fullShare (w0stg m d) ∗ OutSt m d 0 ∗ owesE d 25) := .rfl
  have hwi : (tri fun l => iprop(∃ X : FVec F S1x256x512 .bf16, owns (d : Thread nD τ) (winS l) fullShare X)) ⊢
    (iprop((∃ X : FVec F S1x256x512 .bf16, owns (d : Thread nD τ) (winS 0) fullShare X) ∗ (∃ X : FVec F S1x256x512 .bf16, owns (d : Thread nD τ) (winS (Fin.succ 0)) fullShare X)
      ∗ (∃ X : FVec F S1x256x512 .bf16, owns (d : Thread nD τ) (winS (Fin.succ 1)) fullShare X)) : sProp 𝕄) := .rfl
  have hwo := wo_in (F := F) d (fun i => owns (d : Thread nD τ) (woRef i) fullShare (woArg m d i)) (fun i => iprop(∃ Y, owns (d : Thread nD τ) (wosS i) fullShare Y)) (fun i => dutyTok ER (cell d (kWo i)) 0 0)
  have hwm := tri_zip (F := F) (fun i => At (F := F) d (kWo i) 0) (fun i => iprop(∃ X : FVec F S1x512x256 .bf16, owns (d : Thread nD τ) (woutS i) fullShare X))
  have e1 : (tri fun i => iprop(owns (d : Thread nD τ) (woRef i) fullShare (woArg m d i) ∗ (∃ Y, owns (d : Thread nD τ) (wosS i) fullShare Y) ∗ dutyTok ER (cell d (kWo i)) 0 0))
    ⊢ tri (WoIn m d) := .rfl
  have e2 : (tri fun i => iprop(At (F := F) d (kWo i) 0 ∗ (∃ X : FVec F S1x512x256 .bf16, owns (d : Thread nD τ) (woutS i) fullShare X))) ⊢ tri (WoMid (F := F) d) := .rfl
  unfold BodyIn WiIn WiMid BarIn
  iintro ⟨Hc, Ht, Hcr, Hw, Hk, Hn⟩
  ihave ⟨Ab, ⟨Ai0, Ai1⟩, Ao, Ax⟩ := (cells_split (F := F) d) $$ Hc
  ihave ⟨Tb, ⟨Ti0, Ti1⟩, To, Tx⟩ := (payToks_elim (F := F) d) $$ Ht
  ihave ⟨Cb, Cx⟩ := hcr $$ Hcr
  ihave Hw := (weights_in (F := F) m d) $$ Hw
  ihave ⟨⟨Wi0, Wi1⟩, Wo⟩ := (copied_elim (F := F) m d) $$ Hw
  ihave ⟨Bin, Bout, ⟨Bis0, Bis1⟩, Bos, Bp, Br, Bh⟩ := (work_split (F := F) d) $$ Hk
  ihave ⟨Nx, Nw, No, NO⟩ := hw $$ Hn
  ihave ⟨Bi0, Bi1, Bi2⟩ := hwi $$ Bin
  ihave Hwo := hwo $$ [Wo Bos To]
  · isplitl [Wo]; · iexact Wo
    isplitl [Bos] <;> iassumption
  ihave Hwm := hwm $$ [Ao Bout]
  · isplitl [Ao] <;> iassumption
  ihave HL := (toks_in (F := F) d) $$ [Tx Cx]
  · isplitl [Tx] <;> iassumption
  ihave HC := (chunks_in (F := F) d) $$ [Bp Bh Ax]
  · isplitl [Bp]; · iexact Bp
    isplitl [Bh] <;> iassumption
  icases HL with ⟨L0, L1, L2⟩
  isplitl [Hwo]; · (iapply e1; iexact Hwo)
  isplitl [Wi0 Bis0 Ti0]
  · isplitl [Wi0]; · iexact Wi0
    isplitl [Bis0] <;> iassumption
  isplitl [Wi1 Bis1 Ti1]
  · isplitl [Wi1]; · iexact Wi1
    isplitl [Bis1] <;> iassumption
  isplitl [Tb Br Cb Ab]
  · isplitl [Tb]; · iexact Tb
    isplitl [Br]; · iexact Br
    isplitl [Cb] <;> iassumption
  isplitl [Nw]; · iexact Nw
  isplitl [Bi0]; · iexact Bi0
  isplitl [Hwm]; · (iapply e2; iexact Hwm)
  isplitl [Ai0 Bi1]; · isplitl [Ai0] <;> iassumption
  isplitl [Ai1 Bi2]; · isplitl [Ai1] <;> iassumption
  isplitl [Nx]; · iexact Nx
  isplitl [HC]; · iexact HC
  isplitl [L0]; · iexact L0
  isplitl [L1]; · iexact L1
  isplitl [L2]; · iexact L2
  isplitl [No] <;> iassumption

/-! ## After the point -/

/-- The round each cell ends at. -/
def finR : Kd → ℕ
  | .inl _ => 1
  | .inr (.inl _) => 1
  | .inr (.inr (.inl _)) => 1
  | .inr (.inr (.inr _)) => 3

/-- From its last round on a cell has no duties. -/
theorem finR_done : ∀ (κ : Kd) (r' : ℕ), finR κ ≤ r' → dutK r' κ = ∅
  | .inl _, r', h => if_neg (by have h : _ ≤ r' := h; simp only [finR] at h; omega)
  | .inr (.inl _), r', h => if_neg (by have h : _ ≤ r' := h; simp only [finR] at h; omega)
  | .inr (.inr (.inl _)), r', h => if_neg (by have h : _ ≤ r' := h; simp only [finR] at h; omega)
  | .inr (.inr (.inr _)), r', h => if_neg (by have h : _ ≤ r' := h; simp only [finR] at h; omega)

/-- Every cell of a device at its last round. -/
def CellsN (d : Dev nD) : sProp 𝕄 := bigSep Finset.univ fun κ : Kd => At (F := F) d κ (finR κ)

/-- The cells after the body are at their last rounds. -/
theorem cells_join (d : Dev nD) :
    iprop(At (F := F) d kBar 1 ∗ (At (F := F) d (kWi 0) 1 ∗ At (F := F) d (kWi 1) 1) ∗ tri (fun i => At (F := F) d (kWo i) 1) ∗ quad fun c => tri fun k => P4 (F := F) d c k 3 3)
      ⊢ CellsN (F := F) d := by
  unfold CellsN P4
  rw [cells_eq]
  exact .rfl

/-- The cells close: their counters are the device's again, all zero. -/
theorem cells_close (K : Dev nD × Kd → ℕ) (d : Dev nD) :
    iprop(Ctx m K ∗ CellsN (F := F) d) ⊢ |={Set.univ}=> bigSep Finset.univ fun κ : Kd => (semVal (cell d κ) 0 : sProp 𝕄) := by
  unfold CellsN
  refine (sep_mono_left (BI.bigSep_of_persistent (Finset.univ : Finset Kd) (Ctx m K))).trans ?_
  rw [← bigSep_sep']
  exact (bigSep_mono fun κ _ => close_step (m := m) (K := K) d κ (finR κ) (finR_done κ)).trans (bigSep_fupd _ _)

/-- A place owned at a value is owned at some value. -/
theorem any_intro {s : Shape} {e : EltTy} (d : Dev nD) (M : Memref sig .tc .vmem s e) (X : s.Idx → Elt F e) :
    owns (d : Thread nD τ) M fullShare X ⊢ (iprop(∃ X, owns (d : Thread nD τ) M fullShare X) : sProp 𝕄) := by
  iintro H; iexists X; iexact H

/-- The output weights after their copies, sorted. -/
theorem wo_out (d : Dev nD) : tri (WoOut m d) ⊢
    iprop(tri (fun i => At (F := F) d (kWo i) 1) ∗ (tri fun i => iprop(∃ X, owns (d : Thread nD τ) (wosS i) fullShare X)) ∗ tri fun i => owns (d : Thread nD τ) (woRef i) fullShare (woArg m d i)) := by
  have e : tri (WoOut m d) ⊢ tri fun i => iprop(At (F := F) d (kWo i) 1 ∗ owns (d : Thread nD τ) (wosS i) fullShare (woArg m d i) ∗ owns (d : Thread nD τ) (woRef i) fullShare (woArg m d i)) := .rfl
  refine e.trans ((tri_unzip _ _).trans (sep_mono_right ((tri_unzip _ _).trans (sep_mono_left ?_))))
  rw [← tri_eq, ← tri_eq]
  exact bigSep_mono fun i _ => any_intro d (wosS i) (woArg m d i)

/-- Three places owned at values are owned at some values. -/
theorem any_tri {s : Shape} {e : EltTy} (d : Dev nD) (M : Fin 3 → Memref sig .tc .vmem s e) (X : Fin 3 → s.Idx → Elt F e) :
    (tri fun l => owns (d : Thread nD τ) (M l) fullShare (X l)) ⊢ (tri fun l => iprop(∃ X, owns (d : Thread nD τ) (M l) fullShare X) : sProp 𝕄) := by
  rw [← tri_eq, ← tri_eq]
  exact bigSep_mono fun i _ => any_intro d (M i) (X i)

/-- The chunks after the last layer, sorted. -/
theorem ready_out (d : Dev nD) : (quad fun c => Ready (F := F) d c 3) ⊢
    iprop((quad fun c => quad fun q => anyS (F := F) d (pqS c q)) ∗ (quad fun c => quad fun q => anyS (F := F) d (hfS c q)) ∗ (quad fun c => tri fun k => P4 (F := F) d c k 3 3)
      ∗ quad fun c => tri fun k => anyS (F := F) d (slot3 c k)) := by
  have e : (quad fun c => Ready (F := F) d c 3) ⊢ quad fun c => iprop(quad (fun q => anyS (F := F) d (pqS c q)) ∗ quad (fun s => anyS (F := F) d (hfS c s))
      ∗ tri (fun k => P4 (F := F) d c k 3 3) ∗ tri (fun k => anyS (F := F) d (slot3 c k))) := by
    unfold Ready SlotN
    simp only [if_neg (show ¬ (3 < 3) by decide)]
    exact .rfl
  exact e.trans ((quad_unzip _ _).trans (sep_mono_right ((quad_unzip _ _).trans (sep_mono_right (quad_unzip _ _)))))

/-- All that the body leaves, sorted. -/
theorem bodyOut_elim (d : Dev nD) :
    BodyOut m d ⊢ iprop(CellsN (F := F) d ∗ Work (F := F) d ∗ Weights m d ∗ Wins m d 4 0) := by
  have ew : iprop(owns (d : Thread nD τ) xB fullShare (xstg m d) ∗ owns (d : Thread nD τ) w0B fullShare (w0stg m d) ∗ OutSt m d 4 ∗ owesE d 0) ⊢ Wins m d 4 0 := .rfl
  have ec : iprop((owns (d : Thread nD τ) (wiRef 0) fullShare (wiArg m d 0) ∗ owns (d : Thread nD τ) (wiRef 1) fullShare (wiArg m d 1))
    ∗ tri fun i => owns (d : Thread nD τ) (woRef i) fullShare (woArg m d i)) ⊢ Copied m d := .rfl
  unfold BodyOut WiOut
  iintro ⟨Hwo, ⟨Ai0, Bis0, Wi0⟩, ⟨Ai1, Bis1, Wi1⟩, Ab, Nw, Bi, Bo, Nx, Hr, No, NO⟩
  ihave ⟨Ao, Bos, Wo⟩ := (wo_out (F := F) m d) $$ Hwo
  ihave ⟨Bp, Bh, Ax, Br⟩ := (ready_out (F := F) d) $$ Hr
  ihave Bi := (any_tri (F := F) d winS (winAt m d)) $$ Bi
  ihave Bo := (any_tri (F := F) d woutS (woutAt m d)) $$ Bo
  isplitl [Ab Ai0 Ai1 Ao Ax]
  · iapply (cells_join (F := F) d)
    isplitl [Ab]; · iexact Ab
    isplitl [Ai0 Ai1]; · isplitl [Ai0] <;> iassumption
    isplitl [Ao] <;> iassumption
  isplitl [Bi Bo Bis0 Bis1 Bos Bp Br Bh]
  · iapply (work_join (F := F) d)
    isplitl [Bi]; · iexact Bi
    isplitl [Bo]; · iexact Bo
    isplitl [Bis0 Bis1]
    · isplitl [Bis0]; · iexists _; iexact Bis0
      iexists _; iexact Bis1
    isplitl [Bos]; · iexact Bos
    isplitl [Bp]; · iexact Bp
    isplitl [Br] <;> iassumption
  isplitl [Wi0 Wi1 Wo]
  · iapply (weights_out (F := F) m d)
    iapply ec
    isplitl [Wi0 Wi1]; · isplitl [Wi0] <;> iassumption
    iexact Wo
  iapply ew
  isplitl [Nx]; · iexact Nx
  isplitl [Nw]; · iexact Nw
  isplitl [No] <;> iassumption

/-! ## The obligation -/

/-- The grid has one point, -/
theorem cfg0_N : cfg0.N = 1 := by decide
/-- this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- The pipeline's proof data: the windows' contents, what is held around the point, what is owed. -/
def dats (_ : Fin 1) (d : Dev nD) : Dat τ (Elt F) ℕ ℕ UU ℕ cfg0 d where
  A w := m ((cfg0.win w).arr.view.loc (d : Thread nD τ))
  after w _ := match w with
    | ⟨0, _⟩ => xstg m d
    | ⟨1, _⟩ => w0stg m d
    | ⟨2, _⟩ => outAt m d
  Φ t := match t with
    | ⟨0, _⟩ => Φ₀ m d
    | ⟨_ + 1, _⟩ => Φ₁ m d
  q _ := fullShare
  owed t := match t with
    | ⟨0, _⟩ => Ow d 25
    | ⟨_ + 1, _⟩ => 0

/-- A product over the three windows, spelt out. -/
theorem bigSep_W (Φ : Fin cfg0.W → sProp 𝕄) : bigSep Finset.univ Φ = iprop(Φ (0 : Fin 3) ∗ Φ (1 : Fin 3) ∗ Φ (2 : Fin 3)) := Gen.bigSep_W0 Φ

/-- A window's buffer, held at these contents. -/
abbrev stg (d : Dev nD) (b : Ref sig .tc) (X : b.ty.Contents (Elt F)) : sProp 𝕄 :=
  iprop(∃ f : Buf (Elt F) ((d : Thread nD τ).loc b), ⌜f = X⌝ ∗ (((d : Thread nD τ).loc b) ↦{fullShare} f))

/-- What the pipeline hands the body. -/
def bodyPre (d : Dev nD) : sProp 𝕄 :=
  iprop(Φ₀ m d ∗ (dats m 0 d).owesAt 0 t₀.castSucc
    ∗ (∃ g, stg d cc0_stg0_0 ((dats m 0 d).before (0 : Fin 3) t₀ g))
    ∗ (∃ g, stg d cc0_stg1_0 ((dats m 0 d).before (1 : Fin 3) t₀ g))
    ∗ (∃ g, stg d cc0_stg2_0 ((dats m 0 d).before (2 : Fin 3) t₀ g)))

/-- What the pipeline takes back. -/
def bodyPost (d : Dev nD) : sProp 𝕄 :=
  iprop(Φ₁ m d ∗ (dats m 0 d).owesAt 0 t₀.succ ∗ stg d cc0_stg0_0 (xstg m d) ∗ stg d cc0_stg1_0 (w0stg m d) ∗ stg d cc0_stg2_0 (outAt m d))

/-- What is owed at the start is everything. -/
theorem owes_in (d : Dev nD) : (dats m 0 d).owesAt 0 t₀.castSucc ⊢ owesE (F := F) d 25 := by
  unfold Dat.owesAt Pipeline.owesWithin owesE owesO
  iintro ⟨%W, %hW, HO⟩
  iexists W; iexact HO
/-- What is owed at the end is nothing. -/
theorem owes_out (d : Dev nD) : owesE (F := F) d 0 ⊢ (dats m 0 d).owesAt 0 t₀.succ := by
  unfold Dat.owesAt Pipeline.owesWithin owesE owesO
  iintro ⟨%W, HO⟩
  iexists W; isplitr; · ipureintro; exact fun _ _ => Or.inl trivial
  iexact HO

/-- The windows as the pipeline hands them are those the body takes. -/
theorem wins_in (d : Dev nD) :
    iprop((dats m 0 d).owesAt 0 t₀.castSucc
    ∗ (∃ g, stg d cc0_stg0_0 ((dats m 0 d).before (0 : Fin 3) t₀ g))
    ∗ (∃ g, stg d cc0_stg1_0 ((dats m 0 d).before (1 : Fin 3) t₀ g))
    ∗ (∃ g, stg d cc0_stg2_0 ((dats m 0 d).before (2 : Fin 3) t₀ g))) ⊢ Wins m d 0 25 := by
  unfold Wins OutSt
  iintro ⟨HO, ⟨%g0, %f0, %h0, H0⟩, ⟨%g1, %f1, %h1, H1⟩, ⟨%g2, %f2, %h2, H2⟩⟩
  have e0 : f0 = xstg m d := by rw [h0]; unfold Dat.before; rw [if_pos (Gen.fetch0_0 t₀)]; rfl
  have e1 : f1 = w0stg m d := by rw [h1]; unfold Dat.before; rw [if_pos (Gen.fetch0_1 t₀)]; rfl
  subst e0 e1
  isplitl [H0]; · (iapply (whole_in (F := F) d cc0_stg0_0 _); iexact H0)
  isplitl [H1]; · (iapply (whole_in (F := F) d cc0_stg1_0 _); iexact H1)
  isplitl [H2]
  · iexists f2; isplitr; · (ipureintro; intro i hi; exact absurd hi (by omega))
    iexact H2
  iapply (owes_in (F := F) m d); iexact HO

/-- The windows as the body leaves them are those the pipeline takes. -/
theorem wins_out (d : Dev nD) :
    Wins m d 4 0 ⊢ iprop((dats m 0 d).owesAt 0 t₀.succ ∗ stg d cc0_stg0_0 (xstg m d) ∗ stg d cc0_stg1_0 (w0stg m d) ∗ stg d cc0_stg2_0 (outAt m d)) := by
  have h0 := whole_out (F := F) d cc0_stg0_0 (xstg m d)
  have h1 := whole_out (F := F) d cc0_stg1_0 (w0stg m d)
  unfold Wins OutSt
  iintro ⟨H0, H1, ⟨%f2, %h2, H2⟩, HO⟩
  isplitl [HO]; · (iapply (owes_out (F := F) m d); iexact HO)
  isplitl [H0]
  · iexists _; isplitr; · (ipureintro; rfl)
    iapply h0; iexact H0
  isplitl [H1]
  · iexists _; isplitr; · (ipureintro; rfl)
    iapply h1; iexact H1
  iexists f2; isplitr
  · ipureintro; exact funext fun i => h2 i (show (i 0).val < 64 * 4 from (i 0).isLt)
  iexact H2

/-- An update after a piece may be taken into it. -/
theorem WP_fupd (d : Dev nD) {α : Type} (p : Prog (Eff F) α) (Q : α → sProp 𝕄) : WP d p (fun a => iprop(|={Set.univ}=> Q a)) ⊢ WP d p Q := by
  unfold WP
  exact wp_fupd frame (wpE (defs₀ (F := F)) 𝒱₀ (d : Thread nD τ) none) Set.univ p Q

/-- The body, from what it takes to what it leaves. -/
theorem sound_body (d : Dev nD) : bodyPre m d ⊢ WP (F := F) d (bodyAt d) fun _ => bodyPost m d := by
  have hin : bodyPre m d ⊢ iprop((∃ K, Ctx m K) ∗ BodyIn m d) := by
    have hw := wins_in (F := F) m d
    unfold bodyPre Φ₀ start
    iintro ⟨⟨⟨HC, Ha, Ht, Hcr, Hwt⟩, Hk⟩, Hw⟩
    ihave Hw := hw $$ Hw
    isplitl [HC]; · iexact HC
    iapply (bodyIn_intro (F := F) m d)
    isplitl [Ha]; · iexact Ha
    isplitl [Ht]; · iexact Ht
    isplitl [Hcr]; · iexact Hcr
    isplitl [Hwt]; · iexact Hwt
    isplitl [Hk] <;> iassumption
  have hout : ∀ K, iprop(Ctx m K ∗ BodyOut m d) ⊢ |={Set.univ}=> bodyPost m d := fun K => by
    have hw := wins_out (F := F) m d
    unfold bodyPost Φ₁
    iintro ⟨#HC, H⟩
    ihave ⟨Hc, Hk, Hwt, Hw⟩ := (bodyOut_elim (F := F) m d) $$ H
    imod (cells_close (F := F) m K d) $$ [Hc] with Hz
    · isplitr; · iexact HC
      iexact Hc
    imodintro
    ihave ⟨Ho, H0, H1, H2⟩ := hw $$ Hw
    isplitl [Hz Hk Hwt]
    · isplitl [Hz]; · iexact Hz
      isplitl [Hk] <;> iassumption
    isplitl [Ho]; · iexact Ho
    isplitl [H0]; · iexact H0
    isplitl [H1] <;> iassumption
  refine hin.trans ?_
  iintro ⟨⟨%K, #HC⟩, HB⟩
  iapply (WP_fupd d (bodyAt d) fun _ => bodyPost m d)
  iapply (bodyAt_step (m := m) (K := K) d _) $$ [HB]
  · isplitr; · iexact HC
    iexact HB
  iintro HO
  iapply (hout K)
  isplitr; · iexact HC
  iexact HO

/-- What the pipeline runs at its one point. -/
theorem body_at : defs₀ (F := F) .tc cfg0.body (cfg0.bodyArgs t₀ (cfg0.slots t₀)) = body (F := F) := body_eq t₀

set_option maxRecDepth 100000 in
/-- The library's body obligation on device `d`. -/
theorem body_obligation (d : Dev nD) : BodyObligation (dats (F := F) m 0 d) (defs₀ (F := F)) 𝒱₀ 0 Set.univ := fun t => by
  rw [fin_N t, body_at]
  rw [bigSep_W, bigSep_W]
  simp only [owns_whole_eq]
  show bodyPre m d ⊢ wp frame (wpE (defs₀ (F := F)) 𝒱₀ (d : Thread nD τ) none) Set.univ (body (F := F)) (fun _ => bodyPost m d)
  unfold body
  simp only [Prog.lift, Prog.bind_op, Prog.bind_ret, wp_deviceId]
  exact sound_body m d

end Cert.KernelIdeal
-- ==== Proof.Run.lean ====
module

public import proofs.«01_k».proof.Proof.Entry
public import Idealize.ShloMosaic.Lib.Pipeline.CollectiveSegs
public import Idealize.ShloMosaic.Lib.Quiescent

@[expose] public section

set_option synthInstance.maxSize 4096

noncomputable section

/-! # The run of the program

The launch: the cells' invariants are made, their duty tokens dealt out, every device runs the body; what the
memory holds when all of them have ended. -/

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose cellOf)

variable {F : FTy → Type} [FloatOps F]

local notation "𝕄" => MT nD τ sig ℕ (Elt F) ℕ UU ℕ

variable (m : (ℓ : Loc nD τ sig) → Buf (Elt F) ℓ)

/-! ## Cells and tokens of the launch -/

/-- The kernel's own semaphores: every kind but the barrier. -/
def osem (x : Fin 2 ⊕ (Fin 3 ⊕ (Fin 4 × Fin 4 × Fin 3))) : SemLoc sig := semOf (.inr x)

/-- These semaphores live as long as the kernel. -/
theorem osem_scoped : ∀ x, (osem x).isScoped .tc = true := by decide +kernel
/-- None of them is a window's. -/
theorem osem_disj : ∀ x, ∀ (w : Fin cfg0.W) (s : Fin (cfg0.spec w).nbuf), osem x ≠ .dma ((cfg0.spec w).sem s) := by decide +kernel

/-- They are scoped, distinct and no staging semaphore. -/
theorem ownSemFacts : Pipeline.OwnSemFacts cfg0.spec osem :=
  ⟨osem_scoped, fun a b h => Sum.inr_injective (semOf_inj h), osem_disj⟩

/-- Every window is held outright. -/
theorem share_eq (d : Dev nD) (w : Fin cfg0.W) : (dats (F := F) m 0 d).share w = fullShare := by unfold Dat.share; split <;> rfl

/-- Every cell of every device. -/
def allCells : Finset (GSem nD τ sig) := Finset.univ.map ⟨fun p : Dev nD × Kd => cell p.1 p.2, fun p q h => by
  have h1 : p.1 = q.1 := congrArg (fun g : GSem nD τ sig => g.1.1) h
  exact Prod.ext h1 (semOf_inj (congrArg Prod.snd h))⟩

/-- The duties of one device's cells. -/
abbrev Td : Type := Fin 3 ⊕ (Fin 2 ⊕ (Fin 3 ⊕ ((Fin 3 × Fin 4 × Fin 3) × Fin 4)))

/-- A duty's kind of cell, round and number. -/
def duty : Td → Kd × ℕ × Fin 3
  | .inl j => (kBar, 0, j)
  | .inr (.inl i) => (kWi i, 0, 0)
  | .inr (.inr (.inl i)) => (kWo i, 0, 0)
  | .inr (.inr (.inr (x, t))) => (kX t x.2.1 x.2.2, x.1.val, 0)

/-- The duty read back. -/
def dutyBack : Kd × ℕ × Fin 3 → Td
  | (.inl _, _, j) => .inl j
  | (.inr (.inl i), _, _) => .inr (.inl i)
  | (.inr (.inr (.inl i)), _, _) => .inr (.inr (.inl i))
  | (.inr (.inr (.inr (t, c, k))), l, _) => .inr (.inr (.inr ((lay l, c, k), t)))

/-- A duty is read back from its kind, round and number. -/
theorem dutyBack_duty (x : Td) : dutyBack (duty x) = x := by
  rcases x with j | i | i | ⟨⟨l, c, k⟩, t⟩
  · rfl
  · rfl
  · rfl
  · show Sum.inr (Sum.inr (Sum.inr ((lay l.val, c, k), t))) = _
    rw [show lay l.val = l from Fin.ext (Nat.mod_eq_of_lt l.isLt)]

/-- A duty's token. -/
def tokOf (p : Dev nD × Td) : GSem nD τ sig × ℕ × Fin 3 := (cell p.1 (duty p.2).1, (duty p.2).2)

/-- Different duties have different tokens. -/
theorem tokOf_inj : Function.Injective tokOf := fun p q h => by
  have h0 := congrArg (fun x : GSem nD τ sig × ℕ × Fin 3 => x.1) h
  have h1 : p.1 = q.1 := congrArg (fun g : GSem nD τ sig => g.1.1) h0
  have h2 : (duty p.2).1 = (duty q.2).1 := semOf_inj (congrArg (fun g : GSem nD τ sig => g.2) h0)
  have h3 : (duty p.2).2 = (duty q.2).2 := congrArg (fun x : GSem nD τ sig × ℕ × Fin 3 => x.2) h
  have h4 := congrArg dutyBack (Prod.ext h2 h3)
  rw [dutyBack_duty, dutyBack_duty] at h4
  exact Prod.ext h1 h4

/-- Every duty token of every device's cells. -/
def allToks : Finset (GSem nD τ sig × ℕ × Fin 3) := Finset.univ.map ⟨tokOf, tokOf_inj⟩

/-- The element the launch starts from: the pipeline's cells and the kernel's. -/
def u₀ : UU :=
  (initOf (Pipeline.cells cfgs Gen.cellOf_inj) (Pipeline.launchToks cfgs Gen.cellOf_inj), initOf allCells allToks)

/-- What the launch's element deals device `d`. -/
def G (d : Dev nD) : sProp 𝕄 :=
  iprop((bigSep Finset.univ fun κ : Kd => roundState ER (Rd m) (cell d κ) 0) ∗ Cells0 (F := F) d ∗ toks (F := F) d)

/-- The same once the cells' invariants are made and the tokens dealt around. -/
def G' (d : Dev nD) : sProp 𝕄 :=
  iprop((∃ K : Dev nD × Kd → ℕ, bigSep Finset.univ fun p : Dev nD × Kd => iprop(cellInv ER (Rd m) (K p) (cell p.1 p.2) ∗ reached ER (cell p.1 p.2) 0))
    ∗ Cells0 (F := F) d ∗ payToks (F := F) d)

/-- A product over all cells, device by device. -/
theorem over_cells (Φ : GSem nD τ sig → sProp 𝕄) : bigSep allCells Φ = bigSep Finset.univ fun d : Dev nD => bigSep Finset.univ fun κ : Kd => Φ (cell d κ) := by
  unfold allCells; rw [bigSep_map, bigSep_univ_prod]; rfl

/-- All tokens, device by device. -/
theorem over_toks : bigSep allToks (fun x => (dutyTok ER x.1 x.2.1 x.2.2 : sProp 𝕄)) = bigSep Finset.univ fun d : Dev nD => toks (F := F) d := by
  unfold allToks; rw [bigSep_map, bigSep_univ_prod]
  refine bigSep_congr fun d _ => ?_
  unfold toks
  rw [bigSep_univ_sum, bigSep_univ_sum, bigSep_univ_sum, bigSep_univ_prod]
  rfl

/-- The launch's element, device by device. -/
theorem fund_all : BI.own (ER (initOf allCells allToks)) ⊢ (|==> bigSep Finset.univ (G (F := F) m) : sProp 𝕄) := by
  iintro HX
  imod (Rounds.fund ER (Rd m) allCells allToks) $$ HX with ⟨Hst, Hr, Hat, Htok⟩
  imodintro
  ihave Hst' := (Entails.of_eq (over_cells (F := F) fun g => roundState ER (Rd m) g 0)) $$ Hst
  ihave Hat' := (Entails.of_eq (over_cells (F := F) fun g => atPos ER g 0 ∅ 0)) $$ Hat
  ihave Hr' := (Entails.of_eq (over_cells (F := F) fun g => reached ER g 0)) $$ Hr
  ihave Htok' := (Entails.of_eq (over_toks (F := F))) $$ Htok
  unfold G Cells0 At; simp only [bigSep_sep']
  isplitl [Hst']; · iexact Hst'
  isplitl [Hat' Hr']
  · isplitl [Hat'] <;> iassumption
  iexact Htok'

/-- The one semaphore that outlives the kernel is the barrier. -/
theorem unscopedSems0_eq (d : Dev nD) : (unscopedSems0 d : sProp 𝕄) = semVal (cell d kBar) 0 := by
  unfold unscopedSems0; rw [bigSep_eq_bigSepL_of_eq [SemLoc.reg semBar] (by decide) (by decide)]; rfl

/-- The counters of a device's cells: the barrier and the kernel's own. -/
theorem sems_eq (d : Dev nD) : (bigSep Finset.univ fun κ : Kd => (semVal (cell d κ) 0 : sProp 𝕄))
    = iprop(unscopedSems0 d ∗ Pipeline.ownSems0 (Ix := ℕ) (Name := ℕ) (U := UU) (Lvl := ℕ) (Val := Elt F) (τ := τ) osem d) := by
  rw [bigSep_univ_sum, unit_eq, unscopedSems0_eq]; rfl

/-- A device's counters become its cells' invariants. -/
theorem invs_alloc (d : Dev nD) :
    iprop((bigSep Finset.univ fun κ : Kd => semVal (cell d κ) 0) ∗ bigSep Finset.univ fun κ : Kd => roundState ER (Rd m) (cell d κ) 0)
      ⊢ (|={Set.univ}=> bigSep Finset.univ fun κ : Kd => iprop(∃ k : ℕ, cellInv ER (Rd m) k (cell d κ)) : sProp 𝕄) := by
  rw [← bigSep_sep']
  exact (bigSep_mono fun κ _ => (Rounds.body_intro ER (Rd m) (cell d κ)).trans inv_alloc).trans (bigSep_fupd _ _)

/-- A device's cells' invariants made. -/
theorem core_alloc (d : Dev nD) :
    iprop(Pipeline.ownSems0 (Ix := ℕ) (Name := ℕ) (U := UU) (Lvl := ℕ) (Val := Elt F) (τ := τ) osem d ∗ unscopedSems0 d ∗ G m d)
      ⊢ |={Set.univ}=> iprop((bigSep Finset.univ fun κ : Kd => iprop(∃ k : ℕ, cellInv ER (Rd m) k (cell d κ))) ∗ Cells0 (F := F) d ∗ toks (F := F) d) := by
  unfold G
  iintro ⟨Hos, Hus, Hst, Hat, Htok⟩
  ihave Hv := (Entails.of_eq (sems_eq (F := F) d).symm) $$ [Hos Hus]
  · isplitl [Hus] <;> iassumption
  imod (invs_alloc m d) $$ [Hv Hst] with Hinv
  · isplitl [Hv] <;> iassumption
  imodintro
  isplitl [Hinv]; · iexact Hinv
  isplitl [Hat]; · iexact Hat
  iexact Htok

/-- All cells at round zero: their places, and that round zero is reached. -/
theorem cells0_reached : (bigSep Finset.univ fun d : Dev nD => Cells0 (F := F) d)
    = iprop((bigSep Finset.univ fun p : Dev nD × Kd => (atPos ER (cell p.1 p.2) 0 ∅ 0 : sProp 𝕄)) ∗ bigSep Finset.univ fun p : Dev nD × Kd => reached ER (cell p.1 p.2) 0) := by
  rw [← bigSep_sep', bigSep_univ_prod]; rfl

/-- The invariants and the reached rounds, cell by cell. -/
theorem records_all (K : Dev nD × Kd → ℕ) : iprop((bigSep Finset.univ fun p : Dev nD × Kd => (cellInv ER (Rd m) (K p) (cell p.1 p.2) : sProp 𝕄))
      ∗ bigSep Finset.univ fun p : Dev nD × Kd => reached ER (cell p.1 p.2) 0)
    ⊢ (bigSep Finset.univ fun p : Dev nD × Kd => iprop(cellInv ER (Rd m) (K p) (cell p.1 p.2) ∗ reached ER (cell p.1 p.2) 0) : sProp 𝕄) := by
  rw [bigSep_sep']

/-- What is known once is known on every device. -/
theorem spread (R : sProp 𝕄) [BI.Persistent R] (A B : Dev nD → sProp 𝕄) :
    iprop(R ∗ (bigSep Finset.univ A) ∗ bigSep Finset.univ B) ⊢ bigSep Finset.univ fun d : Dev nD => iprop(R ∗ A d ∗ B d) := by
  rw [bigSep_sep', bigSep_sep']
  exact sep_mono_left (BI.bigSep_of_persistent Finset.univ R)

/-- After the invariants are made, each device gets the knowledge, its places and the tokens it pays with. -/
theorem regroup :
    (bigSep Finset.univ fun d : Dev nD => iprop((bigSep Finset.univ fun κ : Kd => iprop(∃ k : ℕ, cellInv ER (Rd m) k (cell d κ))) ∗ Cells0 (F := F) d ∗ toks (F := F) d) : sProp 𝕄)
      ⊢ bigSep Finset.univ (G' (F := F) m) := by
  rw [bigSep_sep', bigSep_sep', ← bigSep_univ_prod (fun p : Dev nD × Kd => iprop(∃ k : ℕ, cellInv ER (Rd m) k (cell p.1 p.2)))]
  iintro ⟨HI, Hc, Htok⟩
  ihave HK := (BI.bigSep_exists_pi Finset.univ (fun (p : Dev nD × Kd) (k : ℕ) => (cellInv ER (Rd m) k (cell p.1 p.2) : sProp 𝕄))) $$ HI
  icases HK with ⟨%K, #HI⟩
  ihave Htk := (toks_around (F := F)) $$ Htok
  ihave ⟨Ha, #Hr⟩ := (Entails.of_eq (cells0_reached (F := F))) $$ Hc
  ihave Hc := (Entails.of_eq (cells0_reached (F := F)).symm) $$ [Ha]
  · isplitl; · iexact Ha
    iexact Hr
  ihave #HR := (records_all m K) $$ []
  · isplitl; · iexact HI
    iexact Hr
  unfold G'
  iapply (spread (F := F) iprop(∃ K : Dev nD × Kd → ℕ, bigSep Finset.univ fun p : Dev nD × Kd => iprop(cellInv ER (Rd m) (K p) (cell p.1 p.2) ∗ reached ER (cell p.1 p.2) 0)) _ _)
  isplitr
  · iexists K; iexact HR
  isplitl [Hc] <;> iassumption

/-- All devices' semaphores at once, into invariants. -/
theorem glob : (bigSep Finset.univ fun d => iprop(Pipeline.ownSems0 (Ix := ℕ) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-! ## The launch's side conditions -/

variable (ρ : Dev nD → PrngReg)

/-- What the launch leaves a device is what it starts from. -/
theorem start_intro (d : Dev nD) :
    iprop(Pipeline.unscopedRestP Pipeline.Prefetch.none cfg0.spec d (fun b => m ((d : Thread nD τ).loc b)) ∗ levAts L lv
        ∗ Pipeline.launchCred (fun d => Ow d 25) d ∗ prngReg d (ρ d) ∗ G' m d)
      ⊢ |={Set.univ}=> iprop(start (F := F) m d ∗ emp) := by
  rw [Pipeline.unscopedRestP_none]
  have hw : Pipeline.unscopedRest cfg0.spec d (fun b => m ((d : Thread nD τ).loc b)) ⊢ Weights m d := Entails.of_eq (Gen.unscopedRest0_eq d _)
  unfold G' start Ctx
  iintro ⟨Hw, Hlev, Hcr, -, ⟨%K, HI⟩, Hc, Ht⟩
  ihave Hw := hw $$ Hw
  ihave Hcr := (creds (F := F) d) $$ Hcr
  imodintro
  isplitl
  · isplitl [HI Hlev]
    · iexists K
      isplitl [HI] <;> iassumption
    isplitl [Hc]; · iexact Hc
    isplitl [Ht]; · iexact Ht
    isplitl [Hcr] <;> iassumption
  · iempintro

/-- With the working buffers it is what is held before the point. -/
theorem phi0_intro (d : Dev nD) :
    iprop(start m d ∗ Pipeline.prefHeld Pipeline.Prefetch.none d (fun _ => fullShare.right) (fun k => k.elim0) ∗ Pipeline.scopedRest cfg0.spec d)
      ⊢ (dats (F := F) m 0 d).Φ 0 := by
  have hw : Pipeline.scopedRest cfg0.spec d ⊢ Work (F := F) d := Entails.of_eq (Gen.scopedRest0_eq d)
  rw [show (dats (F := F) m 0 d).Φ 0 = Φ₀ m d from rfl]
  unfold Φ₀
  iintro ⟨Hs, -, Hr⟩
  isplitl [Hs]; · iexact Hs
  iapply hw; iexact Hr

/-- What is held after the point is what the launch takes back. -/
theorem phi1_exit (d : Dev nD) :
    (dats (F := F) m 0 d).Φ (Fin.last cfg0.N) ⊢ iprop((unscopedSems0 d ∗ Weights m d) ∗ Pipeline.ownSems0 osem d ∗ Pipeline.scopedRest cfg0.spec d) := by
  have hw : Work (F := F) d ⊢ Pipeline.scopedRest cfg0.spec d := Entails.of_eq (Gen.scopedRest0_eq d).symm
  rw [show (dats (F := F) m 0 d).Φ (Fin.last cfg0.N) = Φ₁ m d from rfl]
  unfold Φ₁
  rw [sems_eq]
  iintro ⟨⟨Hu, Ho⟩, Hk, Hwt⟩
  isplitl [Hu Hwt]
  · isplitl [Hu] <;> iassumption
  isplitl [Ho]; · iexact Ho
  iapply hw; iexact Hk

/-- The pipeline's own waits are allowed. -/
theorem waits (d : Dev nD) : (levAts L lv : sProp 𝕄) ⊢ Pipeline.cellsWaits cfgs (dats (F := F) m) 0 0 d :=
  Pipeline.cellsWaits_intro cfgs (dats (F := F) m) 0 0 d fun w s t => by
    rcases t with ⟨_ | _, ht⟩
    · exact mayWait d _ 0 25 (by decide) (by decide) (by decide)
    · exact mayWait d _ 0 0 (by decide) (by decide) (by decide)

/-! ## The run -/

/-- The weights outside unchanged on device `d`. -/
def Kept (d : Dev nD) (s : MemSt nD τ sig (Elt F)) : Prop :=
  s.mem ((d.tc : Thread nD τ).loc main_arg2) = m ((d.tc : Thread nD τ).loc main_arg2)
  ∧ s.mem ((d.tc : Thread nD τ).loc main_arg3) = m ((d.tc : Thread nD τ).loc main_arg3)
  ∧ s.mem ((d.tc : Thread nD τ).loc main_arg4) = m ((d.tc : Thread nD τ).loc main_arg4)
  ∧ s.mem ((d.tc : Thread nD τ).loc main_arg5) = m ((d.tc : Thread nD τ).loc main_arg5)
  ∧ s.mem ((d.tc : Thread nD τ).loc main_arg6) = m ((d.tc : Thread nD τ).loc main_arg6)

/-- The weights that stay outside. -/
def wRef : Fin 5 → Ref sig .tc := ![main_arg2, main_arg3, main_arg4, main_arg5, main_arg6]

/-- They, as a list. -/
theorem weights_list (d : Dev nD) : Weights m d ⊢ (bigSep Finset.univ fun i : Fin 5 => (((d : Thread nD τ).loc (wRef i)) ↦{fullShare} m ((d : Thread nD τ).loc (wRef i)) : sProp 𝕄)) := by
  rw [bigSep_univ_eq_bigSepL [0, 1, 2, 3, 4] (by decide) (by decide)]
  exact .rfl

/-- What they hold in the final memory. -/
theorem weights_read (d : Dev nD) (s' : Phys nD τ sig (Elt F)) :
    iprop(Weights m d ∗ SI s') ⊢ iprop(⌜Kept m d s'.mem⌝ ∗ SI s') := by
  iintro ⟨H, HS⟩
  ihave H := (weights_list m d) $$ H
  ihave ⟨%h, HS⟩ := (pointsTo_read_all Finset.univ (fun i : Fin 5 => ((d : Thread nD τ).loc (wRef i))) (fun i => m ((d : Thread nD τ).loc (wRef i))) s') $$ [H HS]
  · isplitl [H] <;> iassumption
  isplitr
  · ipureintro
    exact ⟨h 0 (Finset.mem_univ _), h 1 (Finset.mem_univ _), h 2 (Finset.mem_univ _), h 3 (Finset.mem_univ _), h 4 (Finset.mem_univ _)⟩
  iexact HS

/-- What a window's array holds after the run. -/
def finalA (d : Dev nD) (w : Fin cfg0.W) : Buf (Elt F) ((cfg0.win w).arr.view.loc (d : Thread nD τ)) := (dats (F := F) m 0 d).arrAt w cfg0.N

/-- What the final memory holds on every device. -/
def QC : PUnit × MemSt nD τ sig (Elt F) → Prop := fun r =>
  ∀ d : Dev nD, (∀ w : Fin cfg0.W, r.2.mem ((cfg0.win w).arr.view.loc (d : Thread nD τ)) = finalA m d w) ∧ Kept m d r.2

set_option maxRecDepth 8000 in
/-- From any memory with every counter at zero, every fair execution of the program on the four devices ends, and in
    every final state the windows' arrays hold what the schedule says, the weights are unchanged and every counter is zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats (F := F) m) 0 Gen.cellOf_inj (0 : Fin 1)
    Gen.winFacts0.to₀ ownSemFacts (Pipeline.PreFacts.none _) EP defs₀ 𝒱₀ m ρ main
    (hmain := fun _ => rfl)
    (hbody := fun d => (body_obligation m d).loose) (hne := fun w => by fin_cases w <;> exact Nat.succ_pos _) (harr := Gen.arr_whole0) (hstage := Gen.stage_whole0) (hshare := share_eq m)
    (hdistinct := Gen.winFacts0.arr_inj)
    (O₀ := fun d => Ow d 25) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun d => iprop(unscopedSems0 d ∗ Weights m d)) (Z := fun _ => iprop(emp))
    (hX := start_intro m ρ) (hin := phi0_intro m) (hout := phi1_exit m)
    (QY := fun d s => (∀ sm : SemLoc sig, sm.isScoped .tc = false → s.sem ((d.tc : Thread nD τ), sm) = 0) ∧ Kept m d s)
    (hY := fun d s' => by
      iintro ⟨⟨Hu, Hw⟩, -, HSI⟩
      ihave ⟨%hk, HSI⟩ := (weights_read m d s') $$ [Hw HSI]
      · isplitl [Hw] <;> iassumption
      imod (Pipeline.unscopedSems0_read (X := unscopedSems0 d) (c := d) fupd_intro s') $$ [Hu HSI] with ⟨%hu, HSI⟩
      · isplitl [Hu] <;> iassumption
      imodintro
      isplitr
      · ipureintro; exact ⟨hu, hk⟩
      iexact HSI)
    (hQ := fun _ h hs => ⟨fun d => ⟨fun w => (h d).1 w, (h d).2.2.2⟩, sem_eq_zero hs fun d => (h d).2.2.1⟩)

end Cert.KernelIdeal

end
-- ==== Proof.Frames.lean ====
module

public import proofs.«01_k».proof.Defs
public import proofs.«01_k».proof.Proof.Run
public import proofs.«01_k».proof.Proof.Gen.Kernel
public import proofs.«01_k».proof.Proof.Gen.ReferenceIdeal.Run

@[expose] public section

noncomputable section

/-! # The programs run, leave their arguments alone and end with every counter at zero -/

namespace Cert.Proof

open Idealize.ShloMosaic Idealize.SL.Sem Idealize.ShloMosaic.TcCoe

/-- The kernel's arguments and counters at the end, for any float values. -/
theorem kernel_run {F : FTy → Type} [FloatOps F] (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ KernelIdeal.Kept m c r.2)
      ∧ r.2.sem = fun _ => 0) :=
  (θ_run KernelIdeal.defs _ _).mono (fun r h => ⟨fun c => ⟨((h.1 c).1 0).trans ((KernelIdeal.dats (F := F) m 0 c).arrAt_in 0 rfl _),
    ((h.1 c).1 1).trans ((KernelIdeal.dats (F := F) m 0 c).arrAt_in 1 rfl _), (h.1 c).2⟩, h.2⟩) (KernelIdeal.run_main m g)

/-- The idealized kernel's frame. -/
theorem frame_kernelIdeal : Cert.quiescent_KernelIdeal := fun m g _ => kernel_run (F := Ideal) m g

/-- The idealization rewrote nothing: the two programs' bodies are one text; -/
theorem body_same : Kernel.cc0_body (F := Bits) = KernelIdeal.cc0_body (F := Bits) := rfl

/-- so are their body tables, -/
theorem table_same : (Kernel.defs₀ (F := Bits)) = KernelIdeal.defs₀ := by
  unfold Kernel.defs₀ KernelIdeal.defs₀
  refine congrArg _ ?_
  funext l
  rcases l with ⟨_ | _, h⟩
  · funext a
    rfl
  · rfl

/-- with the pipeline added. -/
theorem defs_same : Kernel.defs (F := Bits) = KernelIdeal.defs := by
  unfold Kernel.defs
  rw [table_same]
  rfl

/-- The kernel's frame, at machine floats. -/
theorem frame_kernel : Cert.quiescent_Kernel := fun m g _ => by
  rw [defs_same]
  exact kernel_run (F := Bits) m g

/-- The reference's frame. -/
theorem frame_reference : Cert.quiescent_ReferenceIdeal := fun m g _ =>
  (θ_run ReferenceIdeal.defs _ _).mono (fun r h => ⟨fun c => (h c).2, sem_eq_zero_of_no_sems rfl r.2⟩) (ReferenceIdeal.Value.run (F := Ideal) m g)

end Cert.Proof

end
-- ==== Proof.Value.lean ====
module

public import proofs.«01_k».proof.Defs
public import proofs.«01_k».proof.Proof.Run
public import proofs.«01_k».proof.Proof.Gen.ReferenceIdeal.Run
public import Idealize.ShloMosaic.Lib.Pointwise
public import Idealize.ShloMosaic.PureOps.Ideal.Laws
public import Idealize.ShloMosaic.Lib.Pipeline.ValueKit.Geometry

@[expose] public section

set_option maxRecDepth 16384

noncomputable section

/-! # What the chunks hold, over the extended reals

Every value the kernel computes, read at one entry. -/

namespace Cert.KernelIdeal

open Idealize.ShloMosaic Idealize.ShloMosaic.TcCoe

/-- An entry of a partial hidden quarter: a row of the chunk times a column of the weight. -/
theorem quarterV_apply (x : FVec Ideal S64x256 .f32) (w : FVec Ideal S256x512 .f32) (q : Fin 4) (r : Fin 64) (j : Fin 128) :
    quarterV x (winV w) q (ix2 r j) = (∑ k : Fin 256, x (ix2 r k) * w (ix2 k (⟨128 * q.val + j.val, by omega⟩ : Fin 512)) : EReal) := by
  fin_cases q <;> pointwise [quarterV, partialV, winV] <;> rfl

/-- An entry of a hidden quarter: the four partial entries summed, clipped below at zero. -/
theorem reduceV_apply (a : FVec Ideal S64x128 .f32) (b c e : FVec Ideal S64x128 .bf16) (i : S64x128.Idx) :
    reduceV a b c e i = (max (a i + b i + c i + e i) 0 : EReal) := by
  pointwise [reduceV]

/-- An entry of the next layer's chunk: a row of the four hidden quarters times a column of the weight. -/
theorem finishV_apply (h : Fin 4 → FVec Ideal S64x128 .bf16) (w : FVec Ideal S512x256 .f32) (r : Fin 64) (j : Fin 256) :
    finishV (h 0) (h 1) (h 2) (h 3) (woutV w) (ix2 r j)
      = (∑ s : Fin 4, ∑ k : Fin 128, h s (ix2 r k) * w (ix2 (⟨128 * s.val + k.val, by omega⟩ : Fin 512) j) : EReal) := by
  rw [Fin.sum_univ_four]
  pointwise [finishV, woutV, sumSplitAll]
  simp only [← Nat.add_assoc, Nat.reduceAdd]
  rw [add_assoc, add_assoc]

/-- A device and its three peers are all devices. -/
theorem sum_peers (f : Dev nD → EReal) (s : Dev nD) : f s + f (peer s 0) + f (peer s 1) + f (peer s 2) = ∑ d : Fin 4, f d := by
  rw [Fin.sum_univ_four]
  fin_cases s
  · rfl
  · show f 1 + f 2 + f 3 + f 0 = _
    ac_rfl
  · show f 2 + f 3 + f 0 + f 1 = _
    ac_rfl
  · show f 3 + f 0 + f 1 + f 2 = _
    ac_rfl

/-- A sum over `n` blocks of `b`, block by block. -/
theorem sum_blocks (n b : ℕ) (f : Fin (n * b) → EReal) :
    ∑ i, f i = ∑ d : Fin n, ∑ k : Fin b, f ⟨b * d.val + k.val, by
      have := Nat.mul_le_mul_left b (Nat.succ_le_of_lt d.isLt)
      rw [Nat.mul_comm n b]; have := k.isLt; rw [Nat.mul_succ] at *; omega⟩ := by
  rw [← Equiv.sum_comp finProdFinEquiv, Fintype.sum_prod_type]
  refine Finset.sum_congr rfl fun d _ => Finset.sum_congr rfl fun k _ => congrArg f (Fin.ext ?_)
  show k.val + b * d.val = _
  exact Nat.add_comm _ _

/-! ## The reference's layers -/

/-- The reference's hidden activations of one layer. -/
def refHid (X : FVec Ideal ReferenceIdeal.S256x1024 .f32) (W : FVec Ideal ReferenceIdeal.S1024x512 .f32) : FVec Ideal ReferenceIdeal.S256x512 .f32 :=
  maximumf (Host.dotGeneral ReferenceIdeal.dot_S256x1024_S1024x512_S256x512_1_0_0_1_n_n none X W)
    (broadcastInDim ReferenceIdeal.S256x512 ![] ReferenceIdeal.Gen.bcast_S_S256x512 (constant ReferenceIdeal.S_ .f32 0x00000000#32))

/-- The reference's activations after one layer. -/
def refOut (H : FVec Ideal ReferenceIdeal.S256x512 .f32) (V : FVec Ideal ReferenceIdeal.S512x1024 .f32) : FVec Ideal ReferenceIdeal.S256x1024 .f32 :=
  Host.dotGeneral ReferenceIdeal.dot_S256x512_S512x1024_S256x1024_1_0_0_1_n_n none H V

/-- An entry of the hidden activations, the contraction cut into the four devices' blocks. -/
theorem refHid_apply (X : FVec Ideal ReferenceIdeal.S256x1024 .f32) (W : FVec Ideal ReferenceIdeal.S1024x512 .f32) (r : Fin 256) (j : Fin 512) :
    refHid X W (ix2 r j) = (max (∑ d : Fin 4, ∑ k : Fin 256, X (ix2 r (⟨256 * d.val + k.val, by omega⟩ : Fin 1024))
      * W (ix2 (⟨256 * d.val + k.val, by omega⟩ : Fin 1024) j)) 0 : EReal) := by
  rw [← sum_blocks 4 256 fun k : Fin 1024 => (X (ix2 r k) * W (ix2 k j) : EReal)]
  pointwise [refHid]

/-- An entry of a layer's result, the contraction cut into the four quarters. -/
theorem refOut_apply (H : FVec Ideal ReferenceIdeal.S256x512 .f32) (V : FVec Ideal ReferenceIdeal.S512x1024 .f32) (r : Fin 256) (j : Fin 1024) :
    refOut H V (ix2 r j) = (∑ s : Fin 4, ∑ k : Fin 128, H (ix2 r (⟨128 * s.val + k.val, by omega⟩ : Fin 512))
      * V (ix2 (⟨128 * s.val + k.val, by omega⟩ : Fin 512) j) : EReal) := by
  rw [← sum_blocks 4 128 fun k : Fin 512 => (H (ix2 r k) * V (ix2 k j) : EReal)]
  pointwise [refOut]

/-! ## Blocks -/

/-- Device `d`'s rows of an input weight. -/
abbrev winBlk (W : FVec Ideal ReferenceIdeal.S1024x512 .f32) (d : Dev nD) : FVec Ideal S256x512 .f32 :=
  Layout.block ⟨2, ![256, 512]⟩ ⟨2, ![1024, 512]⟩ 0 4 d W
/-- Device `d`'s columns of an output weight. -/
abbrev woutBlk (V : FVec Ideal ReferenceIdeal.S512x1024 .f32) (d : Dev nD) : FVec Ideal S512x256 .f32 :=
  Layout.block ⟨2, ![512, 256]⟩ ⟨2, ![512, 1024]⟩ 1 4 d V
/-- Device `d`'s columns of the activations. -/
abbrev actBlk (X : FVec Ideal ReferenceIdeal.S256x1024 .f32) (d : Dev nD) : FVec Ideal S256x256 .f32 :=
  Layout.block ⟨2, ![256, 256]⟩ ⟨2, ![256, 1024]⟩ 1 4 d X

/-- An entry of a device's rows of an input weight. -/
theorem winBlk_apply (W : FVec Ideal ReferenceIdeal.S1024x512 .f32) (d : Fin 4) (k : Fin 256) (j : Fin 512) :
    winBlk W d (ix2 k j) = W (ix2 (⟨256 * d.val + k.val, by omega⟩ : Fin 1024) j) := by
  refine congrArg W (funext fun a => Fin.ext ?_)
  fin_cases a
  · exact congrArg (· + k.val) (Nat.mul_comm d.val 256)
  · rfl

/-- An entry of a device's columns of an output weight. -/
theorem woutBlk_apply (V : FVec Ideal ReferenceIdeal.S512x1024 .f32) (d : Fin 4) (k : Fin 512) (j : Fin 256) :
    woutBlk V d (ix2 k j) = V (ix2 k (⟨256 * d.val + j.val, by omega⟩ : Fin 1024)) := by
  refine congrArg V (funext fun a => Fin.ext ?_)
  fin_cases a
  · rfl
  · exact congrArg (· + j.val) (Nat.mul_comm d.val 256)

/-- An entry of a device's columns of the activations. -/
theorem actBlk_apply (X : FVec Ideal ReferenceIdeal.S256x1024 .f32) (d : Fin 4) (r : Fin 256) (j : Fin 256) :
    actBlk X d (ix2 r j) = X (ix2 r (⟨256 * d.val + j.val, by omega⟩ : Fin 1024)) := by
  refine congrArg X (funext fun a => Fin.ext ?_)
  fin_cases a
  · rfl
  · exact congrArg (· + j.val) (Nat.mul_comm d.val 256)

/-! ## One layer -/

variable (m : (ℓ : Loc nD τ sig) → Buf (Elt Ideal) ℓ)

/-- The devices' chunks are the parts of one array. -/
def PartsOf (A : Dev nD → Fin 4 → FVec Ideal S64x256 .f32) (X : FVec Ideal ReferenceIdeal.S256x1024 .f32) : Prop :=
  ∀ (d c : Fin 4) (r : Fin 64) (k : Fin 256),
    A d c (ix2 r k) = X (ix2 (⟨64 * c.val + r.val, by omega⟩ : Fin 256) (⟨256 * d.val + k.val, by omega⟩ : Fin 1024))

/-- The hidden quarter a device sums is its part of the reference's hidden activations. -/
theorem hOf_parts (l : ℕ) (A : Dev nD → Fin 4 → FVec Ideal S64x256 .f32) (X : FVec Ideal ReferenceIdeal.S256x1024 .f32)
    (W : FVec Ideal ReferenceIdeal.S1024x512 .f32) (hA : PartsOf A X) (hW : ∀ d, winAt m d (lay l) = winV (winBlk W d))
    (s c : Fin 4) (r : Fin 64) (j : Fin 128) :
    hOf m l A s c (ix2 r j)
      = refHid X W (ix2 (⟨64 * c.val + r.val, by omega⟩ : Fin 256) (⟨128 * s.val + j.val, by omega⟩ : Fin 512)) := by
  have hq : ∀ d : Dev nD, pqOf m l A d c s (ix2 r j) = (∑ k : Fin 256,
      X (ix2 (⟨64 * c.val + r.val, by omega⟩ : Fin 256) (⟨256 * d.val + k.val, by have : d.val < 4 := d.isLt; omega⟩ : Fin 1024))
        * W (ix2 (⟨256 * d.val + k.val, by have : d.val < 4 := d.isLt; omega⟩ : Fin 1024) (⟨128 * s.val + j.val, by omega⟩ : Fin 512)) : EReal) := fun d => by
    unfold pqOf
    rw [hW d, quarterV_apply]
    exact Finset.sum_congr rfl fun k _ => congrArg₂ (fun a b : EReal => a * b) (hA d c r k) (winBlk_apply W d k _)
  unfold hOf
  rw [reduceV_apply, refHid_apply]
  refine congrArg (fun a : EReal => max a 0) ?_
  refine (sum_peers (fun d => (pqOf m l A d c s (ix2 r j) : EReal)) s).trans ?_
  exact Finset.sum_congr rfl fun d _ => hq d

/-- One layer keeps the chunks parts of the reference's activations. -/
theorem layer_parts (l : ℕ) (X : FVec Ideal ReferenceIdeal.S256x1024 .f32) (W : FVec Ideal ReferenceIdeal.S1024x512 .f32)
    (V : FVec Ideal ReferenceIdeal.S512x1024 .f32) (hA : PartsOf (xAt m l) X) (hW : ∀ d, winAt m d (lay l) = winV (winBlk W d))
    (hV : ∀ d, woutAt m d (lay l) = woutV (woutBlk V d)) : PartsOf (xAt m (l + 1)) (refOut (refHid X W) V) := fun d c r j => by
  rw [show xAt m (l + 1) d c = finishV (hOf m l (xAt m l) 0 c) (hOf m l (xAt m l) 1 c) (hOf m l (xAt m l) 2 c) (hOf m l (xAt m l) 3 c)
    (woutAt m d (lay l)) from rfl, hV d, finishV_apply (fun s => hOf m l (xAt m l) s c), refOut_apply]
  exact Finset.sum_congr rfl fun s _ => Finset.sum_congr rfl fun k _ =>
    congrArg₂ (fun a b : EReal => a * b) (hOf_parts m l _ X W hA hW s c r k) (woutBlk_apply V d _ j)

/-! ## The first activations and the result -/

/-- The activations' window reads the whole argument. -/
theorem xstg_eq (d : Dev nD) : xstg m d = m ((d : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The first input weight's window reads the whole argument. -/
theorem w0stg_eq (d : Dev nD) : w0stg m d = m ((d : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

/-- The result's array ends at what the device computes. -/
theorem finalA_out (d : Dev nD) : finalA m d 2 = outAt m d := by
  funext i
  exact (dats m 0 d).arrAt_emb_eq_after_last (2 : Fin 3) t₀ (by decide +kernel) i

/-- The first chunks are parts of the whole activations. -/
theorem first_parts (X : FVec Ideal ReferenceIdeal.S256x1024 .f32)
    (hX : ∀ d : Dev nD, m ((d : Thread nD τ).loc main_arg0) = actBlk X d) : PartsOf (xAt m 0) X := fun d c r k => by
  have e : xAt m 0 d c (ix2 r k) = xstg m d (ix2 (⟨64 * c.val + r.val, by omega⟩ : Fin 256) k) := by
    unfold xAt
    refine (congrFun (shapeCast_self _ _) _).trans ?_
    refine congrArg (xstg m d) (funext fun a => Fin.ext ?_)
    fin_cases a
    · exact congrArg (64 * c.val + ·) (Nat.one_mul r.val)
    · exact (Nat.zero_add _).trans (Nat.one_mul k.val)
  rw [e, xstg_eq, hX d]
  exact actBlk_apply X d _ k

/-- What a device computes is its block of the whole, its chunks being parts of the whole. -/
theorem outAt_block (X : FVec Ideal ReferenceIdeal.S256x1024 .f32) (h : PartsOf (xAt m 3) X) (d : Dev nD) : outAt m d = actBlk X d := by
  funext i
  obtain ⟨a, b, rfl⟩ : ∃ (a : Fin 256) (b : Fin 256), i = ix2 a b := ⟨i 0, i 1, eq_ix2 i⟩
  have e : rowIdx (ix2 a b) = ix2 (⟨a.val % 64, Nat.mod_lt _ (by decide)⟩ : Fin 64) b := by
    funext x
    fin_cases x <;> rfl
  refine (congrArg (xAt m 3 d (rowChunk (ix2 a b))) e).trans ?_
  refine (h d (⟨a.val / 64, by omega⟩ : Fin 4) ⟨a.val % 64, Nat.mod_lt _ (by decide)⟩ b).trans ?_
  refine Eq.trans ?_ (actBlk_apply X d a b).symm
  have ha : (⟨64 * (a.val / 64) + a.val % 64, by omega⟩ : Fin 256) = a := Fin.ext (Nat.div_add_mod a.val 64)
  exact congrArg (fun t : Fin 256 => X (ix2 t (⟨256 * d.val + b.val, by have : d.val < 4 := d.isLt; omega⟩ : Fin 1024))) ha

/-- What a device computes is its block of the three layers' result. -/
theorem out_eq (X : FVec Ideal ReferenceIdeal.S256x1024 .f32) (W0 W1 W2 : FVec Ideal ReferenceIdeal.S1024x512 .f32)
    (V0 V1 V2 : FVec Ideal ReferenceIdeal.S512x1024 .f32)
    (hX : ∀ d : Dev nD, m ((d : Thread nD τ).loc main_arg0) = actBlk X d)
    (h1 : ∀ d : Dev nD, m ((d : Thread nD τ).loc main_arg1) = winBlk W0 d)
    (h2 : ∀ d : Dev nD, m ((d : Thread nD τ).loc main_arg2) = winBlk W1 d)
    (h3 : ∀ d : Dev nD, m ((d : Thread nD τ).loc main_arg3) = winBlk W2 d)
    (h4 : ∀ d : Dev nD, m ((d : Thread nD τ).loc main_arg4) = woutBlk V0 d)
    (h5 : ∀ d : Dev nD, m ((d : Thread nD τ).loc main_arg5) = woutBlk V1 d)
    (h6 : ∀ d : Dev nD, m ((d : Thread nD τ).loc main_arg6) = woutBlk V2 d) (d : Dev nD) :
    outAt m d = actBlk (refOut (refHid (refOut (refHid (refOut (refHid X W0) V0) W1) V1) W2) V2) d := by
  have p0 := first_parts m X hX
  have p1 := layer_parts m 0 X W0 V0 p0 (fun e => congrArg winV ((w0stg_eq m e).trans (h1 e))) (fun e => congrArg woutV (h4 e))
  have p2 := layer_parts m 1 _ W1 V1 p1 (fun e => congrArg winV (h2 e)) (fun e => congrArg woutV (h5 e))
  have p3 := layer_parts m 2 _ W2 V2 p2 (fun e => congrArg winV (h3 e)) (fun e => congrArg woutV (h6 e))
  exact outAt_block m _ p3 d

end Cert.KernelIdeal
-- ==== Proof.lean ====
module

public import proofs.«01_k».proof.Defs
public import proofs.«01_k».proof.Proof.Frames
public import proofs.«01_k».proof.Proof.Value

@[expose] public section

noncomputable section

/-! # The claims together -/

namespace Cert.Proof

open Idealize.ShloMosaic Idealize.SL.Sem

/-- The idealized kernel computes the reference's three layers: every device ends with its block of their result. -/
theorem algebraic : Cert.algebraic_KernelIdeal_ReferenceIdeal := fun m g m' g' _ hm =>
  ⟨_, (θ_run KernelIdeal.defs _ _).mono (fun r h c =>
      ⟨((h.1 c).1 2).trans ((KernelIdeal.finalA_out m c).trans (KernelIdeal.out_eq m _ _ _ _ _ _ _
          (fun d => (hm d).1) (fun d => (hm d).2.1) (fun d => (hm d).2.2.1) (fun d => (hm d).2.2.2.1) (fun d => (hm d).2.2.2.2.1)
          (fun d => (hm d).2.2.2.2.2.1) (fun d => (hm d).2.2.2.2.2.2) c)),
        ((h.1 c).1 0).trans ((KernelIdeal.dats (F := Ideal) m 0 c).arrAt_in 0 rfl _),
        ((h.1 c).1 1).trans ((KernelIdeal.dats (F := Ideal) m 0 c).arrAt_in 1 rfl _), (h.1 c).2⟩) (KernelIdeal.run_main (F := Ideal) m g),
    (θ_run ReferenceIdeal.defs _ _).mono (fun r h => h 0) (ReferenceIdeal.Value.run (F := Ideal) m' g')⟩

/-- All claims, after the facts that each printed program takes. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
